-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InprojPrompt (m : (ℓ : Loc Cert.InprojPrompt.nD Cert.InprojPrompt.τ Cert.InprojPrompt.sig) → Buf (Elt Bits) ℓ) : Prop :=
  True

def Pre_InprojPromptIdeal (m : (ℓ : Loc Cert.InprojPromptIdeal.nD Cert.InprojPromptIdeal.τ Cert.InprojPromptIdeal.sig) → Buf (Elt Ideal) ℓ) : Prop :=
  True

def Pre_MixerPromptIdeal (m : (ℓ : Loc Cert.MixerPromptIdeal.nD Cert.MixerPromptIdeal.τ Cert.MixerPromptIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_MixerSampleIdeal (m : (ℓ : Loc Cert.MixerSampleIdeal.nD Cert.MixerSampleIdeal.τ Cert.MixerSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InprojPrompt [hInprojPrompt : Cert.InprojPrompt.Facts] : Prop :=
  ∀ (m : (ℓ : Loc Cert.InprojPrompt.nD Cert.InprojPrompt.τ Cert.InprojPrompt.sig) → Buf (Elt Bits) ℓ) (g : Dev Cert.InprojPrompt.nD → PrngReg), Pre_InprojPrompt m →
    θ_run (Cert.InprojPrompt.defs (F := Bits)) (onTc (τ := Cert.InprojPrompt.τ) (Cert.InprojPrompt.main (F := Bits))) ⟨m, fun _ => 0, g⟩ (fun r => (∀ c : Dev Cert.InprojPrompt.nD,
      r.2.mem ((c.tc : Thread Cert.InprojPrompt.nD Cert.InprojPrompt.τ).loc Cert.InprojPrompt.main_arg0) = m ((c.tc : Thread Cert.InprojPrompt.nD Cert.InprojPrompt.τ).loc Cert.InprojPrompt.main_arg0)
      ∧ r.2.mem ((c.tc : Thread Cert.InprojPrompt.nD Cert.InprojPrompt.τ).loc Cert.InprojPrompt.main_arg1) = m ((c.tc : Thread Cert.InprojPrompt.nD Cert.InprojPrompt.τ).loc Cert.InprojPrompt.main_arg1)
      ∧ r.2.mem ((c.tc : Thread Cert.InprojPrompt.nD Cert.InprojPrompt.τ).loc Cert.InprojPrompt.main_arg2) = m ((c.tc : Thread Cert.InprojPrompt.nD Cert.InprojPrompt.τ).loc Cert.InprojPrompt.main_arg2)
      ∧ r.2.mem ((c.tc : Thread Cert.InprojPrompt.nD Cert.InprojPrompt.τ).loc Cert.InprojPrompt.main_arg3) = m ((c.tc : Thread Cert.InprojPrompt.nD Cert.InprojPrompt.τ).loc Cert.InprojPrompt.main_arg3)
      ∧ r.2.mem ((c.tc : Thread Cert.InprojPrompt.nD Cert.InprojPrompt.τ).loc Cert.InprojPrompt.main_arg4) = m ((c.tc : Thread Cert.InprojPrompt.nD Cert.InprojPrompt.τ).loc Cert.InprojPrompt.main_arg4)
      ∧ r.2.mem ((c.tc : Thread Cert.InprojPrompt.nD Cert.InprojPrompt.τ).loc Cert.InprojPrompt.main_arg5) = m ((c.tc : Thread Cert.InprojPrompt.nD Cert.InprojPrompt.τ).loc Cert.InprojPrompt.main_arg5))
      ∧ r.2.sem = fun _ => 0)

def quiescent_InprojPromptIdeal [hInprojPromptIdeal : Cert.InprojPromptIdeal.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg), Pre_InprojPromptIdeal m →
    θ_run (Cert.InprojPromptIdeal.defs (F := Ideal)) (onTc (τ := Cert.InprojPromptIdeal.τ) (Cert.InprojPromptIdeal.main (F := Ideal))) ⟨m, fun _ => 0, g⟩ (fun r => (∀ c : Dev Cert.InprojPromptIdeal.nD,
      r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
      ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
      ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
      ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
      ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
      ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5))
      ∧ r.2.sem = fun _ => 0)

def quiescent_MixerPromptIdeal [hMixerPromptIdeal : Cert.MixerPromptIdeal.Facts] : Prop :=
  ∀ (m : (ℓ : Loc Cert.MixerPromptIdeal.nD Cert.MixerPromptIdeal.τ Cert.MixerPromptIdeal.sig) → Buf (Elt Ideal) ℓ) (g : Dev Cert.MixerPromptIdeal.nD → PrngReg), Pre_MixerPromptIdeal m →
    θ_run (Cert.MixerPromptIdeal.defs (F := Ideal)) (onTc (τ := Cert.MixerPromptIdeal.τ) (Cert.MixerPromptIdeal.main (F := Ideal))) ⟨m, fun _ => 0, g⟩ (fun r => (∀ c : Dev Cert.MixerPromptIdeal.nD,
      r.2.mem ((c.tc : Thread Cert.MixerPromptIdeal.nD Cert.MixerPromptIdeal.τ).loc Cert.MixerPromptIdeal.main_arg0) = m ((c.tc : Thread Cert.MixerPromptIdeal.nD Cert.MixerPromptIdeal.τ).loc Cert.MixerPromptIdeal.main_arg0)
      ∧ r.2.mem ((c.tc : Thread Cert.MixerPromptIdeal.nD Cert.MixerPromptIdeal.τ).loc Cert.MixerPromptIdeal.main_arg1) = m ((c.tc : Thread Cert.MixerPromptIdeal.nD Cert.MixerPromptIdeal.τ).loc Cert.MixerPromptIdeal.main_arg1)
      ∧ r.2.mem ((c.tc : Thread Cert.MixerPromptIdeal.nD Cert.MixerPromptIdeal.τ).loc Cert.MixerPromptIdeal.main_arg2) = m ((c.tc : Thread Cert.MixerPromptIdeal.nD Cert.MixerPromptIdeal.τ).loc Cert.MixerPromptIdeal.main_arg2)
      ∧ r.2.mem ((c.tc : Thread Cert.MixerPromptIdeal.nD Cert.MixerPromptIdeal.τ).loc Cert.MixerPromptIdeal.main_arg3) = m ((c.tc : Thread Cert.MixerPromptIdeal.nD Cert.MixerPromptIdeal.τ).loc Cert.MixerPromptIdeal.main_arg3)
      ∧ r.2.mem ((c.tc : Thread Cert.MixerPromptIdeal.nD Cert.MixerPromptIdeal.τ).loc Cert.MixerPromptIdeal.main_arg4) = m ((c.tc : Thread Cert.MixerPromptIdeal.nD Cert.MixerPromptIdeal.τ).loc Cert.MixerPromptIdeal.main_arg4)
      ∧ r.2.mem ((c.tc : Thread Cert.MixerPromptIdeal.nD Cert.MixerPromptIdeal.τ).loc Cert.MixerPromptIdeal.main_arg5) = m ((c.tc : Thread Cert.MixerPromptIdeal.nD Cert.MixerPromptIdeal.τ).loc Cert.MixerPromptIdeal.main_arg5))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4)
      ∧ r.2.mem ((c.tc : Thread Cert.InprojSample.nD Cert.InprojSample.τ).loc Cert.InprojSample.main_arg5) = m ((c.tc : Thread Cert.InprojSample.nD Cert.InprojSample.τ).loc Cert.InprojSample.main_arg5))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
      ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5))
      ∧ r.2.sem = fun _ => 0)

def quiescent_MixerSampleIdeal [hMixerSampleIdeal : Cert.MixerSampleIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InprojPrompt_InprojPromptIdeal : Prop :=
  True

def algebraic_InprojPromptIdeal_MixerPromptIdeal [hInprojPromptIdeal : Cert.InprojPromptIdeal.Facts] [hMixerPromptIdeal : Cert.MixerPromptIdeal.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg)
    (m' : (ℓ : Loc Cert.MixerPromptIdeal.nD Cert.MixerPromptIdeal.τ Cert.MixerPromptIdeal.sig) → Buf (Elt Ideal) ℓ) (g' : Dev Cert.MixerPromptIdeal.nD → PrngReg), Pre_InprojPromptIdeal m →
    (∀ c : Dev Cert.InprojPromptIdeal.nD,
      m' ((c.tc : Thread Cert.MixerPromptIdeal.nD Cert.MixerPromptIdeal.τ).loc Cert.MixerPromptIdeal.main_arg0) = m ((c.tc : Thread Cert.InprojPromptIdeal.nD Cert.InprojPromptIdeal.τ).loc Cert.InprojPromptIdeal.main_arg0)
      ∧ m' ((c.tc : Thread Cert.MixerPromptIdeal.nD Cert.MixerPromptIdeal.τ).loc Cert.MixerPromptIdeal.main_arg1) = m ((c.tc : Thread Cert.InprojPromptIdeal.nD Cert.InprojPromptIdeal.τ).loc Cert.InprojPromptIdeal.main_arg1)
      ∧ m' ((c.tc : Thread Cert.MixerPromptIdeal.nD Cert.MixerPromptIdeal.τ).loc Cert.MixerPromptIdeal.main_arg2) = m ((c.tc : Thread Cert.InprojPromptIdeal.nD Cert.InprojPromptIdeal.τ).loc Cert.InprojPromptIdeal.main_arg2)
      ∧ m' ((c.tc : Thread Cert.MixerPromptIdeal.nD Cert.MixerPromptIdeal.τ).loc Cert.MixerPromptIdeal.main_arg3) = m ((c.tc : Thread Cert.InprojPromptIdeal.nD Cert.InprojPromptIdeal.τ).loc Cert.InprojPromptIdeal.main_arg3)
      ∧ m' ((c.tc : Thread Cert.MixerPromptIdeal.nD Cert.MixerPromptIdeal.τ).loc Cert.MixerPromptIdeal.main_arg4) = m ((c.tc : Thread Cert.InprojPromptIdeal.nD Cert.InprojPromptIdeal.τ).loc Cert.InprojPromptIdeal.main_arg4)
      ∧ m' ((c.tc : Thread Cert.MixerPromptIdeal.nD Cert.MixerPromptIdeal.τ).loc Cert.MixerPromptIdeal.main_arg5) = m ((c.tc : Thread Cert.InprojPromptIdeal.nD Cert.InprojPromptIdeal.τ).loc Cert.InprojPromptIdeal.main_arg5)) →
    ∃ (v0 : (c : Dev Cert.InprojPromptIdeal.nD) → Buf (Elt Ideal) ((c.tc : Thread Cert.InprojPromptIdeal.nD Cert.InprojPromptIdeal.τ).loc Cert.InprojPromptIdeal.main_v32_2)) (v1 : (c : Dev Cert.InprojPromptIdeal.nD) → Buf (Elt Ideal) ((c.tc : Thread Cert.InprojPromptIdeal.nD Cert.InprojPromptIdeal.τ).loc Cert.InprojPromptIdeal.main_v32_3)) (v2 : (c : Dev Cert.InprojPromptIdeal.nD) → Buf (Elt Ideal) ((c.tc : Thread Cert.InprojPromptIdeal.nD Cert.InprojPromptIdeal.τ).loc Cert.InprojPromptIdeal.main_v32_6)) (v3 : (c : Dev Cert.InprojPromptIdeal.nD) → Buf (Elt Ideal) ((c.tc : Thread Cert.InprojPromptIdeal.nD Cert.InprojPromptIdeal.τ).loc Cert.InprojPromptIdeal.main_v32_7)) (v4 : (c : Dev Cert.InprojPromptIdeal.nD) → Buf (Elt Ideal) ((c.tc : Thread Cert.InprojPromptIdeal.nD Cert.InprojPromptIdeal.τ).loc Cert.InprojPromptIdeal.main_v32_5)) (v5 : (c : Dev Cert.InprojPromptIdeal.nD) → Buf (Elt Ideal) ((c.tc : Thread Cert.InprojPromptIdeal.nD Cert.InprojPromptIdeal.τ).loc Cert.InprojPromptIdeal.main_v32_8)) (v6 : (c : Dev Cert.InprojPromptIdeal.nD) → Buf (Elt Ideal) ((c.tc : Thread Cert.InprojPromptIdeal.nD Cert.InprojPromptIdeal.τ).loc Cert.InprojPromptIdeal.main_v32_9)) (v7 : (c : Dev Cert.InprojPromptIdeal.nD) → Buf (Elt Ideal) ((c.tc : Thread Cert.InprojPromptIdeal.nD Cert.InprojPromptIdeal.τ).loc Cert.InprojPromptIdeal.main_v32_10)),
      θ_run (Cert.InprojPromptIdeal.defs (F := Ideal)) (onTc (τ := Cert.InprojPromptIdeal.τ) (Cert.InprojPromptIdeal.main (F := Ideal))) ⟨m, fun _ => 0, g⟩ (fun r => ∀ c : Dev Cert.InprojPromptIdeal.nD,
          r.2.mem ((c.tc : Thread Cert.InprojPromptIdeal.nD Cert.InprojPromptIdeal.τ).loc Cert.InprojPromptIdeal.main_v32_2) = v0 c
          ∧ r.2.mem ((c.tc : Thread Cert.InprojPromptIdeal.nD Cert.InprojPromptIdeal.τ).loc Cert.InprojPromptIdeal.main_v32_3) = v1 c
          ∧ r.2.mem ((c.tc : Thread Cert.InprojPromptIdeal.nD Cert.InprojPromptIdeal.τ).loc Cert.InprojPromptIdeal.main_v32_6) = v2 c
          ∧ r.2.mem ((c.tc : Thread Cert.InprojPromptIdeal.nD Cert.InprojPromptIdeal.τ).loc Cert.InprojPromptIdeal.main_v32_7) = v3 c
          ∧ r.2.mem ((c.tc : Thread Cert.InprojPromptIdeal.nD Cert.InprojPromptIdeal.τ).loc Cert.InprojPromptIdeal.main_v32_5) = v4 c
          ∧ r.2.mem ((c.tc : Thread Cert.InprojPromptIdeal.nD Cert.InprojPromptIdeal.τ).loc Cert.InprojPromptIdeal.main_v32_8) = v5 c
          ∧ r.2.mem ((c.tc : Thread Cert.InprojPromptIdeal.nD Cert.InprojPromptIdeal.τ).loc Cert.InprojPromptIdeal.main_v32_9) = v6 c
          ∧ r.2.mem ((c.tc : Thread Cert.InprojPromptIdeal.nD Cert.InprojPromptIdeal.τ).loc Cert.InprojPromptIdeal.main_v32_10) = v7 c
          ∧ r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
          ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
          ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
          ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
          ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
          ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5))
      ∧ θ_run (Cert.MixerPromptIdeal.defs (F := Ideal)) (onTc (τ := Cert.MixerPromptIdeal.τ) (Cert.MixerPromptIdeal.main (F := Ideal))) ⟨m', fun _ => 0, g'⟩ (fun r => ∀ c : Dev Cert.MixerPromptIdeal.nD,
          r.2.mem ((c.tc : Thread Cert.MixerPromptIdeal.nD Cert.MixerPromptIdeal.τ).loc Cert.MixerPromptIdeal.main_v75) = v0 c
          ∧ r.2.mem ((c.tc : Thread Cert.MixerPromptIdeal.nD Cert.MixerPromptIdeal.τ).loc Cert.MixerPromptIdeal.main_v76) = v1 c
          ∧ r.2.mem ((c.tc : Thread Cert.MixerPromptIdeal.nD Cert.MixerPromptIdeal.τ).loc Cert.MixerPromptIdeal.main_v77) = v2 c
          ∧ r.2.mem ((c.tc : Thread Cert.MixerPromptIdeal.nD Cert.MixerPromptIdeal.τ).loc Cert.MixerPromptIdeal.main_v21) = v3 c
          ∧ r.2.mem ((c.tc : Thread Cert.MixerPromptIdeal.nD Cert.MixerPromptIdeal.τ).loc Cert.MixerPromptIdeal.main_v79) = v4 c
          ∧ r.2.mem ((c.tc : Thread Cert.MixerPromptIdeal.nD Cert.MixerPromptIdeal.τ).loc Cert.MixerPromptIdeal.main_v80) = v5 c
          ∧ r.2.mem ((c.tc : Thread Cert.MixerPromptIdeal.nD Cert.MixerPromptIdeal.τ).loc Cert.MixerPromptIdeal.main_v81) = v6 c
          ∧ r.2.mem ((c.tc : Thread Cert.MixerPromptIdeal.nD Cert.MixerPromptIdeal.τ).loc Cert.MixerPromptIdeal.main_v82) = v7 c
          ∧ r.2.mem ((c.tc : Thread Cert.MixerPromptIdeal.nD Cert.MixerPromptIdeal.τ).loc Cert.MixerPromptIdeal.main_arg0) = m' ((c.tc : Thread Cert.MixerPromptIdeal.nD Cert.MixerPromptIdeal.τ).loc Cert.MixerPromptIdeal.main_arg0)
          ∧ r.2.mem ((c.tc : Thread Cert.MixerPromptIdeal.nD Cert.MixerPromptIdeal.τ).loc Cert.MixerPromptIdeal.main_arg1) = m' ((c.tc : Thread Cert.MixerPromptIdeal.nD Cert.MixerPromptIdeal.τ).loc Cert.MixerPromptIdeal.main_arg1)
          ∧ r.2.mem ((c.tc : Thread Cert.MixerPromptIdeal.nD Cert.MixerPromptIdeal.τ).loc Cert.MixerPromptIdeal.main_arg2) = m' ((c.tc : Thread Cert.MixerPromptIdeal.nD Cert.MixerPromptIdeal.τ).loc Cert.MixerPromptIdeal.main_arg2)
          ∧ r.2.mem ((c.tc : Thread Cert.MixerPromptIdeal.nD Cert.MixerPromptIdeal.τ).loc Cert.MixerPromptIdeal.main_arg3) = m' ((c.tc : Thread Cert.MixerPromptIdeal.nD Cert.MixerPromptIdeal.τ).loc Cert.MixerPromptIdeal.main_arg3)
          ∧ r.2.mem ((c.tc : Thread Cert.MixerPromptIdeal.nD Cert.MixerPromptIdeal.τ).loc Cert.MixerPromptIdeal.main_arg4) = m' ((c.tc : Thread Cert.MixerPromptIdeal.nD Cert.MixerPromptIdeal.τ).loc Cert.MixerPromptIdeal.main_arg4)
          ∧ r.2.mem ((c.tc : Thread Cert.MixerPromptIdeal.nD Cert.MixerPromptIdeal.τ).loc Cert.MixerPromptIdeal.main_arg5) = m' ((c.tc : Thread Cert.MixerPromptIdeal.nD Cert.MixerPromptIdeal.τ).loc Cert.MixerPromptIdeal.main_arg5))

def preserves_InprojSample_InprojSampleIdeal : Prop :=
  True

def algebraic_InprojSampleIdeal_MixerSampleIdeal [hInprojSampleIdeal : Cert.InprojSampleIdeal.Facts] [hMixerSampleIdeal : Cert.MixerSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.MixerSampleIdeal.nD Cert.MixerSampleIdeal.τ Cert.MixerSampleIdeal.sig) → Buf (Elt Ideal) ℓ) (g' : Dev Cert.MixerSampleIdeal.nD → PrngReg), Pre_InprojSampleIdeal m →
    (∀ c : Dev Cert.InprojSampleIdeal.nD,
      m' ((c.tc : Thread Cert.MixerSampleIdeal.nD Cert.MixerSampleIdeal.τ).loc Cert.MixerSampleIdeal.main_arg0) = m ((c.tc : Thread Cert.InprojSampleIdeal.nD Cert.InprojSampleIdeal.τ).loc Cert.InprojSampleIdeal.main_arg0)
      ∧ m' ((c.tc : Thread Cert.MixerSampleIdeal.nD Cert.MixerSampleIdeal.τ).loc Cert.MixerSampleIdeal.main_arg1) = m ((c.tc : Thread Cert.InprojSampleIdeal.nD Cert.InprojSampleIdeal.τ).loc Cert.InprojSampleIdeal.main_arg1)
      ∧ m' ((c.tc : Thread Cert.MixerSampleIdeal.nD Cert.MixerSampleIdeal.τ).loc Cert.MixerSampleIdeal.main_arg2) = m ((c.tc : Thread Cert.InprojSampleIdeal.nD Cert.InprojSampleIdeal.τ).loc Cert.InprojSampleIdeal.main_arg2)
      ∧ m' ((c.tc : Thread Cert.MixerSampleIdeal.nD Cert.MixerSampleIdeal.τ).loc Cert.MixerSampleIdeal.main_arg3) = m ((c.tc : Thread Cert.InprojSampleIdeal.nD Cert.InprojSampleIdeal.τ).loc Cert.InprojSampleIdeal.main_arg3)
      ∧ m' ((c.tc : Thread Cert.MixerSampleIdeal.nD Cert.MixerSampleIdeal.τ).loc Cert.MixerSampleIdeal.main_arg4) = m ((c.tc : Thread Cert.InprojSampleIdeal.nD Cert.InprojSampleIdeal.τ).loc Cert.InprojSampleIdeal.main_arg4)
      ∧ m' ((c.tc : Thread Cert.MixerSampleIdeal.nD Cert.MixerSampleIdeal.τ).loc Cert.MixerSampleIdeal.main_arg5) = m ((c.tc : Thread Cert.InprojSampleIdeal.nD Cert.InprojSampleIdeal.τ).loc Cert.InprojSampleIdeal.main_arg5)) →
    ∃ (v0 : (c : Dev Cert.InprojSampleIdeal.nD) → Buf (Elt Ideal) ((c.tc : Thread Cert.InprojSampleIdeal.nD Cert.InprojSampleIdeal.τ).loc Cert.InprojSampleIdeal.main_v37_0)) (v1 : (c : Dev Cert.InprojSampleIdeal.nD) → Buf (Elt Ideal) ((c.tc : Thread Cert.InprojSampleIdeal.nD Cert.InprojSampleIdeal.τ).loc Cert.InprojSampleIdeal.main_v37_1)) (v2 : (c : Dev Cert.InprojSampleIdeal.nD) → Buf (Elt Ideal) ((c.tc : Thread Cert.InprojSampleIdeal.nD Cert.InprojSampleIdeal.τ).loc Cert.InprojSampleIdeal.main_v37_2)) (v3 : (c : Dev Cert.InprojSampleIdeal.nD) → Buf (Elt Ideal) ((c.tc : Thread Cert.InprojSampleIdeal.nD Cert.InprojSampleIdeal.τ).loc Cert.InprojSampleIdeal.main_v37_3)) (v4 : (c : Dev Cert.InprojSampleIdeal.nD) → Buf (Elt Ideal) ((c.tc : Thread Cert.InprojSampleIdeal.nD Cert.InprojSampleIdeal.τ).loc Cert.InprojSampleIdeal.main_v38)) (v5 : (c : Dev Cert.InprojSampleIdeal.nD) → Buf (Elt Ideal) ((c.tc : Thread Cert.InprojSampleIdeal.nD Cert.InprojSampleIdeal.τ).loc Cert.InprojSampleIdeal.main_v37_5)) (v6 : (c : Dev Cert.InprojSampleIdeal.nD) → Buf (Elt Ideal) ((c.tc : Thread Cert.InprojSampleIdeal.nD Cert.InprojSampleIdeal.τ).loc Cert.InprojSampleIdeal.main_v37_6)) (v7 : (c : Dev Cert.InprojSampleIdeal.nD) → Buf (Elt Ideal) ((c.tc : Thread Cert.InprojSampleIdeal.nD Cert.InprojSampleIdeal.τ).loc Cert.InprojSampleIdeal.main_v37_7)) (v8 : (c : Dev Cert.InprojSampleIdeal.nD) → Buf (Elt Ideal) ((c.tc : Thread Cert.InprojSampleIdeal.nD Cert.InprojSampleIdeal.τ).loc Cert.InprojSampleIdeal.main_v37_8)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v37_0) = v0 c
          ∧ r.2.mem ((c.tc : Thread Cert.InprojSampleIdeal.nD Cert.InprojSampleIdeal.τ).loc Cert.InprojSampleIdeal.main_v37_1) = v1 c
          ∧ r.2.mem ((c.tc : Thread Cert.InprojSampleIdeal.nD Cert.InprojSampleIdeal.τ).loc Cert.InprojSampleIdeal.main_v37_2) = v2 c
          ∧ r.2.mem ((c.tc : Thread Cert.InprojSampleIdeal.nD Cert.InprojSampleIdeal.τ).loc Cert.InprojSampleIdeal.main_v37_3) = v3 c
          ∧ r.2.mem ((c.tc : Thread Cert.InprojSampleIdeal.nD Cert.InprojSampleIdeal.τ).loc Cert.InprojSampleIdeal.main_v38) = v4 c
          ∧ r.2.mem ((c.tc : Thread Cert.InprojSampleIdeal.nD Cert.InprojSampleIdeal.τ).loc Cert.InprojSampleIdeal.main_v37_5) = v5 c
          ∧ r.2.mem ((c.tc : Thread Cert.InprojSampleIdeal.nD Cert.InprojSampleIdeal.τ).loc Cert.InprojSampleIdeal.main_v37_6) = v6 c
          ∧ r.2.mem ((c.tc : Thread Cert.InprojSampleIdeal.nD Cert.InprojSampleIdeal.τ).loc Cert.InprojSampleIdeal.main_v37_7) = v7 c
          ∧ r.2.mem ((c.tc : Thread Cert.InprojSampleIdeal.nD Cert.InprojSampleIdeal.τ).loc Cert.InprojSampleIdeal.main_v37_8) = v8 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
          ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5))
      ∧ θ_run (Cert.MixerSampleIdeal.defs (F := Ideal)) (onTc (τ := Cert.MixerSampleIdeal.τ) (Cert.MixerSampleIdeal.main (F := Ideal))) ⟨m', fun _ => 0, g'⟩ (fun r => ∀ c : Dev Cert.MixerSampleIdeal.nD,
          r.2.mem ((c.tc : Thread Cert.MixerSampleIdeal.nD Cert.MixerSampleIdeal.τ).loc Cert.MixerSampleIdeal.main_v76) = v0 c
          ∧ r.2.mem ((c.tc : Thread Cert.MixerSampleIdeal.nD Cert.MixerSampleIdeal.τ).loc Cert.MixerSampleIdeal.main_v77) = v1 c
          ∧ r.2.mem ((c.tc : Thread Cert.MixerSampleIdeal.nD Cert.MixerSampleIdeal.τ).loc Cert.MixerSampleIdeal.main_v78) = v2 c
          ∧ r.2.mem ((c.tc : Thread Cert.MixerSampleIdeal.nD Cert.MixerSampleIdeal.τ).loc Cert.MixerSampleIdeal.main_v80) = v3 c
          ∧ r.2.mem ((c.tc : Thread Cert.MixerSampleIdeal.nD Cert.MixerSampleIdeal.τ).loc Cert.MixerSampleIdeal.main_v81) = v4 c
          ∧ r.2.mem ((c.tc : Thread Cert.MixerSampleIdeal.nD Cert.MixerSampleIdeal.τ).loc Cert.MixerSampleIdeal.main_v82) = v5 c
          ∧ r.2.mem ((c.tc : Thread Cert.MixerSampleIdeal.nD Cert.MixerSampleIdeal.τ).loc Cert.MixerSampleIdeal.main_v84) = v6 c
          ∧ r.2.mem ((c.tc : Thread Cert.MixerSampleIdeal.nD Cert.MixerSampleIdeal.τ).loc Cert.MixerSampleIdeal.main_v86) = v7 c
          ∧ r.2.mem ((c.tc : Thread Cert.MixerSampleIdeal.nD Cert.MixerSampleIdeal.τ).loc Cert.MixerSampleIdeal.main_v88) = v8 c
          ∧ r.2.mem ((c.tc : Thread Cert.MixerSampleIdeal.nD Cert.MixerSampleIdeal.τ).loc Cert.MixerSampleIdeal.main_arg0) = m' ((c.tc : Thread Cert.MixerSampleIdeal.nD Cert.MixerSampleIdeal.τ).loc Cert.MixerSampleIdeal.main_arg0)
          ∧ r.2.mem ((c.tc : Thread Cert.MixerSampleIdeal.nD Cert.MixerSampleIdeal.τ).loc Cert.MixerSampleIdeal.main_arg1) = m' ((c.tc : Thread Cert.MixerSampleIdeal.nD Cert.MixerSampleIdeal.τ).loc Cert.MixerSampleIdeal.main_arg1)
          ∧ r.2.mem ((c.tc : Thread Cert.MixerSampleIdeal.nD Cert.MixerSampleIdeal.τ).loc Cert.MixerSampleIdeal.main_arg2) = m' ((c.tc : Thread Cert.MixerSampleIdeal.nD Cert.MixerSampleIdeal.τ).loc Cert.MixerSampleIdeal.main_arg2)
          ∧ r.2.mem ((c.tc : Thread Cert.MixerSampleIdeal.nD Cert.MixerSampleIdeal.τ).loc Cert.MixerSampleIdeal.main_arg3) = m' ((c.tc : Thread Cert.MixerSampleIdeal.nD Cert.MixerSampleIdeal.τ).loc Cert.MixerSampleIdeal.main_arg3)
          ∧ r.2.mem ((c.tc : Thread Cert.MixerSampleIdeal.nD Cert.MixerSampleIdeal.τ).loc Cert.MixerSampleIdeal.main_arg4) = m' ((c.tc : Thread Cert.MixerSampleIdeal.nD Cert.MixerSampleIdeal.τ).loc Cert.MixerSampleIdeal.main_arg4)
          ∧ r.2.mem ((c.tc : Thread Cert.MixerSampleIdeal.nD Cert.MixerSampleIdeal.τ).loc Cert.MixerSampleIdeal.main_arg5) = m' ((c.tc : Thread Cert.MixerSampleIdeal.nD Cert.MixerSampleIdeal.τ).loc Cert.MixerSampleIdeal.main_arg5))

def Claim : Prop :=
  ∃ (hKernel : Cert.Kernel.Facts) (hKernelIdeal : Cert.KernelIdeal.Facts) (hReferenceIdeal : Cert.ReferenceIdeal.Facts) (hInprojPrompt : Cert.InprojPrompt.Facts) (hInprojPromptIdeal : Cert.InprojPromptIdeal.Facts) (hMixerPromptIdeal : Cert.MixerPromptIdeal.Facts) (hInprojSample : Cert.InprojSample.Facts) (hInprojSampleIdeal : Cert.InprojSampleIdeal.Facts) (hMixerSampleIdeal : Cert.MixerSampleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InprojPrompt (hInprojPrompt := hInprojPrompt)
    ∧ quiescent_InprojPromptIdeal (hInprojPromptIdeal := hInprojPromptIdeal)
    ∧ quiescent_MixerPromptIdeal (hMixerPromptIdeal := hMixerPromptIdeal)
    ∧ quiescent_InprojSample (hInprojSample := hInprojSample)
    ∧ quiescent_InprojSampleIdeal (hInprojSampleIdeal := hInprojSampleIdeal)
    ∧ quiescent_MixerSampleIdeal (hMixerSampleIdeal := hMixerSampleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InprojPrompt_InprojPromptIdeal
    ∧ algebraic_InprojPromptIdeal_MixerPromptIdeal (hInprojPromptIdeal := hInprojPromptIdeal) (hMixerPromptIdeal := hMixerPromptIdeal)
    ∧ preserves_InprojSample_InprojSampleIdeal
    ∧ algebraic_InprojSampleIdeal_MixerSampleIdeal (hInprojSampleIdeal := hInprojSampleIdeal) (hMixerSampleIdeal := hMixerSampleIdeal)
-- ==== Pre_finite.lean ====
abbrev S2x8192x8x64 : Shape := ⟨4, ![2, 8192, 8, 64]⟩
abbrev S2x8192x8 : Shape := ⟨3, ![2, 8192, 8]⟩
abbrev S64 : Shape := ⟨1, ![64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x8 : S_.BroadcastsInDim S2x8192x8 (![] : Fin 0 → Fin S2x8192x8.rank)
  reducesTo_S2x8192x8_S_d0_1_2 : S2x8192x8.ReducesTo [0, 1, 2] S_

variable [Facts]

def fn {F : FTy → Type} [FloatOps F] (main_arg0 : FVec F S2x8192x8x64 .f32) (main_arg1 : FVec F S2x8192x8x64 .f32) (main_arg2 : FVec F S2x8192x8x64 .f32) (main_arg3 : FVec F S2x8192x8 .f32) (main_arg4 : FVec F S64 .f32) (main_arg5 : FVec F S64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S2x8192x8 .f32 := Host.absf main_arg3
  let main_cst_2 : FVec F S_ .f32 := constant S_ .f32 0x7F800000#32
  let main_v10 : FVec F S2x8192x8 .f32 := broadcastInDim S2x8192x8 ![] bcast_S_S2x8192x8 main_cst_2
  let main_v11 : IVec S2x8192x8 1 := cmpf .olt main_v9 main_v10
  let main_c_3 : IVec S_ 1 := constantI S_ 1 1#1
  let main_v12 : IVec S_ 1 := (fun x v => Host.reduce IntOp.andi x v reducesTo_S2x8192x8_S_d0_1_2 h_S_) main_v11 main_c_3
  let main_v13 : IVec S_ 1 := andi main_v8 main_v12
  main_v13
-- ==== Kernel.lean ====
abbrev S2x8192x8x64 : Shape := ⟨4, ![2, 8192, 8, 64]⟩
abbrev S2x8192x8 : Shape := ⟨3, ![2, 8192, 8]⟩
abbrev S64 : Shape := ⟨1, ![64]⟩
abbrev S_ : Shape := ⟨0, ![]⟩
abbrev S2x8x64x8192 : Shape := ⟨4, ![2, 8, 64, 8192]⟩
abbrev S2x8x8x8192 : Shape := ⟨4, ![2, 8, 8, 8192]⟩
abbrev S2x8x8192 : Shape := ⟨3, ![2, 8, 8192]⟩
abbrev S2x8x1x8192 : Shape := ⟨4, ![2, 8, 1, 8192]⟩
abbrev S2x8x5x8192 : Shape := ⟨4, ![2, 8, 5, 8192]⟩
abbrev S2x8x32x8192 : Shape := ⟨4, ![2, 8, 32, 8192]⟩
abbrev S2x8x128x8192 : Shape := ⟨4, ![2, 8, 128, 8192]⟩
abbrev S2x8192x3 : Shape := ⟨3, ![2, 8192, 3]⟩
abbrev S2x8192x5 : Shape := ⟨3, ![2, 8192, 5]⟩
abbrev S2x8192x32 : Shape := ⟨3, ![2, 8192, 32]⟩
abbrev S2x8192x64 : Shape := ⟨3, ![2, 8192, 64]⟩
abbrev S2x8192x1x64 : Shape := ⟨4, ![2, 8192, 1, 64]⟩
abbrev S2x8192x8x128 : Shape := ⟨4, ![2, 8192, 8, 128]⟩
abbrev S2x8192x1024 : Shape := ⟨3, ![2, 8192, 1024]⟩
abbrev S2x8x16x8192 : Shape := ⟨4, ![2, 8, 16, 8192]⟩
abbrev S2x8x80x8192 : Shape := ⟨4, ![2, 8, 80, 8192]⟩
abbrev S2x512x8192 : Shape := ⟨3, ![2, 512, 8192]⟩
abbrev S1x1x128x1024 : Shape := ⟨4, ![1, 1, 128, 1024]⟩
abbrev S1x8192x128 : Shape := ⟨3, ![1, 8192, 128]⟩
abbrev S1x1x80x8192 : Shape := ⟨4, ![1, 1, 80, 8192]⟩
abbrev S1x64x1024 : Shape := ⟨3, ![1, 64, 1024]⟩
abbrev S2x1024x1024 : Shape := ⟨3, ![2, 1024, 1024]⟩
abbrev S128x1024 : Shape := ⟨2, ![128, 1024]⟩
abbrev S256x1024 : Shape := ⟨2, ![256, 1024]⟩
abbrev S1x256x128 : Shape := ⟨3, ![1, 256, 128]⟩
abbrev S256x128 : Shape := ⟨2, ![256, 128]⟩
abbrev S1x256x1024 : Shape := ⟨3, ![1, 256, 1024]⟩
abbrev S80x1024 : Shape := ⟨2, ![80, 1024]⟩
abbrev S1x1x80x256 : Shape := ⟨4, ![1, 1, 80, 256]⟩
abbrev S80x256 : Shape := ⟨2, ![80, 256]⟩
abbrev S64x1024 : Shape := ⟨2, ![64, 1024]⟩
abbrev S1x1024 : Shape := ⟨2, ![1, 1024]⟩

abbrev nBuf : Space → Nat
  | .hbm => 150
  | .vmem => 9
  | .smem => 0
  | _ => 0

abbrev hbmTy0_0 (i : Nat) : BufTy := match i % 128 with
  | 0 => ⟨S2x8192x8x64, .f32⟩
  | 1 => ⟨S2x8192x8x64, .f32⟩
  | 2 => ⟨S2x8192x8x64, .f32⟩
  | 3 => ⟨S2x8192x8, .f32⟩
  | 4 => ⟨S64, .f32⟩
  | 5 => ⟨S64, .f32⟩
  | 6 => ⟨S_, .f32⟩
  | 7 => ⟨S_, .f32⟩
  | 8 => ⟨S_, .f32⟩
  | 9 => ⟨S_, .f32⟩
  | 10 => ⟨S64, .f32⟩
  | 11 => ⟨S_, .f32⟩
  | 12 => ⟨S_, .f32⟩
  | 13 => ⟨S_, .f32⟩
  | 14 => ⟨S_, .f32⟩
  | 15 => ⟨S64, .f32⟩
  | 16 => ⟨S_, .f32⟩
  | 17 => ⟨S_, .f32⟩
  | 18 => ⟨S_, .f32⟩
  | 19 => ⟨S_, .f32⟩
  | 20 => ⟨S_, .i1⟩
  | 21 => ⟨S_, .f32⟩
  | 22 => ⟨S_, .f32⟩
  | 23 => ⟨S_, .f32⟩
  | 24 => ⟨S_, .f32⟩
  | 25 => ⟨S_, .f32⟩
  | 26 => ⟨S2x8192x8, .f32⟩
  | 27 => ⟨S2x8192x8, .f32⟩
  | 28 => ⟨S2x8192x8, .f32⟩
  | 29 => ⟨S2x8192x8, .f32⟩
  | 30 => ⟨S2x8192x8, .f32⟩
  | 31 => ⟨S2x8192x8, .bf16⟩
  | 32 => ⟨S2x8192x8, .f32⟩
  | 33 => ⟨S2x8192x8, .f32⟩
  | 34 => ⟨S2x8192x8, .bf16⟩
  | 35 => ⟨S2x8192x8, .f32⟩
  | 36 => ⟨S2x8192x8, .f32⟩
  | 37 => ⟨S2x8192x8, .bf16⟩
  | 38 => ⟨S2x8192x8, .f32⟩
  | 39 => ⟨S2x8192x8, .bf16⟩
  | 40 => ⟨S2x8192x8, .f32⟩
  | 41 => ⟨S2x8192x8, .f32⟩
  | 42 => ⟨S2x8192x8, .bf16⟩
  | 43 => ⟨S2x8192x8, .f32⟩
  | 44 => ⟨S2x8192x8, .f32⟩
  | 45 => ⟨S2x8192x8, .bf16⟩
  | 46 => ⟨S2x8192x8, .f32⟩
  | 47 => ⟨S2x8x64x8192, .f32⟩
  | 48 => ⟨S_, .f32⟩
  | 49 => ⟨S_, .f32⟩
  | 50 => ⟨S2x8x64x8192, .f32⟩
  | 51 => ⟨S2x8x64x8192, .f32⟩
  | 52 => ⟨S2x8x8x8192, .i32⟩
  | 53 => ⟨S2x8x8x8192, .i32⟩
  | 54 => ⟨S2x8x8x8192, .i1⟩
  | 55 => ⟨S_, .f32⟩
  | 56 => ⟨S_, .f32⟩
  | 57 => ⟨S2x8x8x8192, .f32⟩
  | 58 => ⟨S2x8x8x8192, .f32⟩
  | 59 => ⟨S2x8x8x8192, .f32⟩
  | 60 => ⟨S2x8x8192, .f32⟩
  | 61 => ⟨S2x8x1x8192, .f32⟩
  | 62 => ⟨S2x8x8192, .f32⟩
  | 63 => ⟨S2x8x1x8192, .f32⟩
  | 64 => ⟨S2x8x8192, .f32⟩
  | 65 => ⟨S2x8x1x8192, .f32⟩
  | 66 => ⟨S_, .f32⟩
  | 67 => ⟨S2x8x5x8192, .f32⟩
  | 68 => ⟨S_, .f32⟩
  | 69 => ⟨S2x8x32x8192, .f32⟩
  | 70 => ⟨S2x8x8x8192, .f32⟩
  | 71 => ⟨S2x8x8x8192, .f32⟩
  | 72 => ⟨S2x8x8x8192, .f32⟩
  | 73 => ⟨S2x8x64x8192, .f32⟩
  | 74 => ⟨S2x8x128x8192, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S2x8x128x8192, .i32⟩
  | 82 => ⟨S2x8x128x8192, .i32⟩
  | 83 => ⟨S_, .i32⟩
  | 84 => ⟨S2x8x128x8192, .i32⟩
  | 85 => ⟨S2x8x128x8192, .i1⟩
  | 86 => ⟨S_, .i32⟩
  | 87 => ⟨S2x8x128x8192, .i32⟩
  | 88 => ⟨S2x8x128x8192, .i1⟩
  | 89 => ⟨S_, .i32⟩
  | 90 => ⟨S_, .i1⟩
  | 91 => ⟨S2x8x128x8192, .i1⟩
  | 92 => ⟨S2x8x128x8192, .i1⟩
  | 93 => ⟨S2x8x128x8192, .i1⟩
  | 94 => ⟨S2x8x128x8192, .i32⟩
  | 95 => ⟨S2x8x128x8192, .i32⟩
  | 96 => ⟨S2x8x128x8192, .i32⟩
  | 97 => ⟨S_, .i32⟩
  | 98 => ⟨S2x8x128x8192, .i32⟩
  | 99 => ⟨S2x8x128x8192, .i1⟩
  | 100 => ⟨S2x8x128x8192, .f32⟩
  | 101 => ⟨S2x8x128x8192, .f32⟩
  | 102 => ⟨S2x8x128x8192, .f32⟩
  | 103 => ⟨S2x8x128x8192, .bf16⟩
  | 104 => ⟨S_, .f32⟩
  | 105 => ⟨S2x8192x3, .f32⟩
  | 106 => ⟨S_, .f32⟩
  | 107 => ⟨S2x8192x5, .f32⟩
  | 108 => ⟨S_, .f32⟩
  | 109 => ⟨S2x8192x32, .f32⟩
  | 110 => ⟨S2x8192x64, .f32⟩
  | 111 => ⟨S2x8192x1x64, .f32⟩
  | 112 => ⟨S2x8192x8x64, .f32⟩
  | 113 => ⟨S2x8192x8x128, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2x8192x8x128, .i32⟩
  | 121 => ⟨S2x8192x8x128, .i32⟩
  | 122 => ⟨S_, .i32⟩
  | 123 => ⟨S2x8192x8x128, .i32⟩
  | 124 => ⟨S2x8192x8x128, .i1⟩
  | 125 => ⟨S_, .i32⟩
  | 126 => ⟨S2x8192x8x128, .i32⟩
  | 127 => ⟨S2x8192x8x128, .i1⟩
  | _ => ⟨S2x8192x8x64, .f32⟩

abbrev hbmTy0_1 (i : Nat) : BufTy := match i % 128 with
  | 0 => ⟨S_, .i32⟩
  | 1 => ⟨S_, .i1⟩
  | 2 => ⟨S2x8192x8x128, .i1⟩
  | 3 => ⟨S2x8192x8x128, .i1⟩
  | 4 => ⟨S2x8192x8x128, .i1⟩
  | 5 => ⟨S2x8192x8x128, .i32⟩
  | 6 => ⟨S2x8192x8x128, .i32⟩
  | 7 => ⟨S2x8192x8x128, .i32⟩
  | 8 => ⟨S_, .i32⟩
  | 9 => ⟨S2x8192x8x128, .i32⟩
  | 10 => ⟨S2x8192x8x128, .i1⟩
  | 11 => ⟨S2x8192x8x128, .f32⟩
  | 12 => ⟨S2x8192x8x128, .f32⟩
  | 13 => ⟨S2x8192x8x128, .f32⟩
  | 14 => ⟨S2x8192x1024, .f32⟩
  | 15 => ⟨S2x8192x1024, .bf16⟩
  | 16 => ⟨S2x8x64x8192, .f32⟩
  | 17 => ⟨S_, .f32⟩
  | 18 => ⟨S2x8x16x8192, .f32⟩
  | 19 => ⟨S2x8x80x8192, .f32⟩
  | 20 => ⟨S2x8x80x8192, .bf16⟩
  | 21 => ⟨S2x512x8192, .f32⟩
  | _ => ⟨S2x8192x8x64, .f32⟩

abbrev hbmTy (i : Nat) : BufTy := match i / 128 with
  | 0 => hbmTy0_0 i
  | 1 => hbmTy0_1 i
  | _ => ⟨S2x8192x8x64, .f32⟩

abbrev bufTy : (tb : Table) → Fin (tcTables nBuf tb) → BufTy
  | .hbm, ⟨i, _⟩ => hbmTy i
  | .local _ .vmem, ⟨0, _⟩ => ⟨S1x1x128x1024, .bf16⟩
  | .local _ .vmem, ⟨1, _⟩ => ⟨S1x1x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x80x8192, .bf16⟩
  | .local _ .vmem, ⟨5, _⟩ => ⟨S1x1x80x8192, .bf16⟩
  | .local _ .vmem, ⟨6, _⟩ => ⟨S1x64x1024, .f32⟩
  | .local _ .vmem, ⟨7, _⟩ => ⟨S1x64x1024, .f32⟩
  | .local _ .vmem, ⟨8, _⟩ => ⟨S2x1024x1024, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_cst_5 : Ref sig .tc := ⟨.hbm, 21, rfl⟩
abbrev main_call0_v0 : Ref sig .tc := ⟨.hbm, 22, rfl⟩
abbrev main_v9 : Ref sig .tc := ⟨.hbm, 23, rfl⟩
abbrev main_call1_call0_cst : Ref sig .tc := ⟨.hbm, 24, rfl⟩
abbrev main_call1_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_cst_8 : Ref sig .tc := ⟨.hbm, 56, rfl⟩
abbrev main_call2_v0 : Ref sig .tc := ⟨.hbm, 57, rfl⟩
abbrev main_call2_v1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v52 : Ref sig .tc := ⟨.hbm, 96, rfl⟩
abbrev main_c_11 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_12 : Ref sig .tc := ⟨.hbm, 104, rfl⟩
abbrev main_v59 : Ref sig .tc := ⟨.hbm, 105, rfl⟩
abbrev main_cst_13 : Ref sig .tc := ⟨.hbm, 106, rfl⟩
abbrev main_v60 : Ref sig .tc := ⟨.hbm, 107, rfl⟩
abbrev main_cst_14 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_15 : Ref sig .tc := ⟨.hbm, 114, rfl⟩
abbrev main_call5_v0 : Ref sig .tc := ⟨.hbm, 115, rfl⟩
abbrev main_call5_c : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_c_1 : Ref sig .tc := ⟨.hbm, 122, rfl⟩
abbrev main_call5_v5 : Ref sig .tc := ⟨.hbm, 123, rfl⟩
abbrev main_call5_v6 : Ref sig .tc := ⟨.hbm, 124, rfl⟩
abbrev main_call5_c_2 : Ref sig .tc := ⟨.hbm, 125, rfl⟩
abbrev main_call5_v7 : Ref sig .tc := ⟨.hbm, 126, rfl⟩
abbrev main_call5_v8 : Ref sig .tc := ⟨.hbm, 127, rfl⟩
abbrev main_call5_c_3 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_v66 : Ref sig .tc := ⟨.hbm, 135, rfl⟩
abbrev main_c_16 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_17 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v4 : BitVec 32 := Scalar.muli arg2 c1024_i32
  v4
def k0_mult2 (i : grid0.Coords) : BitVec 32 :=
  let arg2 : BitVec 32 := BitVec.ofNat 32 (i 2).val
  let c1024_i32 : BitVec 32 := 1024#32
  let v4 : BitVec 32 := Scalar.muli arg2 c1024_i32
  let v5 : BitVec 32 := v4
  let c0_i32 : BitVec 32 := 0#32
  let v6 : BitVec 32 := Scalar.addi v5 c0_i32
  v6
def k0_off1 (i : grid0.Coords) (c0_i32 : BitVec 32) : Fin 3 → Nat :=
  let c0_3 : Index := 0#32
  let arg2 : BitVec 32 := BitVec.ofNat 32 (i 2).val
  let c1024_i32 : BitVec 32 := 1024#32
  let v4 : BitVec 32 := Scalar.muli arg2 c1024_i32
  let v5 : BitVec 32 := v4
  let v6 : BitVec 32 := Scalar.addi v5 c0_i32
  let v7 : BitVec 32 := v6
  let v8 : Index := Scalar.indexCast v7
  let c0_4 : Index := 0#32
  ![0, v8.toNat, 0]
def k0_mult3 (i : grid0.Coords) : BitVec 32 :=
  let arg2 : BitVec 32 := BitVec.ofNat 32 (i 2).val
  let c1024_i32 : BitVec 32 := 1024#32
  let v4 : BitVec 32 := Scalar.muli arg2 c1024_i32
  let v5 : BitVec 32 := v4
  let c256_i32 : BitVec 32 := 256#32
  let v22 : BitVec 32 := Scalar.addi v5 c256_i32
  v22
def k0_mult4 (i : grid0.Coords) : BitVec 32 :=
  let arg2 : BitVec 32 := BitVec.ofNat 32 (i 2).val
  let c1024_i32 : BitVec 32 := 1024#32
  let v4 : BitVec 32 := Scalar.muli arg2 c1024_i32
  let v5 : BitVec 32 := v4
  let c512_i32 : BitVec 32 := 512#32
  let v38 : BitVec 32 := Scalar.addi v5 c512_i32
  v38
def k0_mult5 (i : grid0.Coords) : BitVec 32 :=
  let arg2 : BitVec 32 := BitVec.ofNat 32 (i 2).val
  let c1024_i32 : BitVec 32 := 1024#32
  let v4 : BitVec 32 := Scalar.muli arg2 c1024_i32
  let v5 : BitVec 32 := v4
  let c768_i32 : BitVec 32 := 768#32
  let v54 : BitVec 32 := Scalar.addi v5 c768_i32
  v54
@[reducible] def k0_t1_loop (i : grid0.Coords) : Scf.Loop 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_33 : BitVec 32 := 1#32
  ⟨c0_i32_32, v75, c1_i32_33⟩
def k0_mult6 (arg10 : BitVec 32) : BitVec 32 :=
  let c0_i32_77 : BitVec 32 := 0#32
  let v145 : BitVec 32 := Scalar.addi arg10 c0_i32_77
  v145

def k0_off2 (arg10 : BitVec 32) (c0_i32_77 : BitVec 32) : Fin 4 → Nat :=
  let c0_78 : Index := 0#32
  let c0_79 : Index := 0#32
  let c0_80 : Index := 0#32
  let v145 : BitVec 32 := Scalar.addi arg10 c0_i32_77
  let v146 : BitVec 32 := v145
  let v147 : Index := Scalar.indexCast v146
  ![0, 0, 0, v147.toNat]
def k0_off3 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v150 : Index := Scalar.indexCast v144
  let c0_81 : Index := 0#32
  let c0_82 : Index := 0#32
  ![v150.toNat, 0, 0]
def k0_mult7 (arg10 : BitVec 32) : BitVec 32 :=
  let c256_i32_84 : BitVec 32 := 256#32
  let v154 : BitVec 32 := Scalar.addi arg10 c256_i32_84
  v154
def k0_off4 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v159 : Index := Scalar.indexCast v144
  let c256_88 : Index := 256#32
  let c0_89 : Index := 0#32
  ![v159.toNat, 256, 0]
def k0_mult8 (arg10 : BitVec 32) : BitVec 32 :=
  let c512_i32_91 : BitVec 32 := 512#32
  let v164 : BitVec 32 := Scalar.addi arg10 c512_i32_91
  v164
def k0_off5 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v169 : Index := Scalar.indexCast v144
  let c512_95 : Index := 512#32
  let c0_96 : Index := 0#32
  ![v169.toNat, 512, 0]
def k0_mult9 (arg10 : BitVec 32) : BitVec 32 :=
  let c768_i32_98 : BitVec 32 := 768#32
  let v174 : BitVec 32 := Scalar.addi arg10 c768_i32_98
  v174

def k0_chk1 (i : grid0.Coords) (k0_t1 : Fin (k0_t1_loop i).trips) (arg10 : BitVec 32) : Prop :=
  (256 ∣ (k0_mult6 arg10).toNat) ∧
  (∀ (r : Fin 4), ∀ a, (k0_off2 arg10 (BitVec.ofNat 32 (256 * r.val))) a + S1x1x80x256.size a ≤ S1x1x80x8192.size a) ∧
  (256 ∣ (k0_mult7 arg10).toNat) ∧
  (256 ∣ (k0_mult8 arg10).toNat) ∧
  (256 ∣ (k0_mult9 arg10).toNat)
theorem k0_mult6_dvd : ∀ (i : grid0.Coords) (k0_t1 : Fin (k0_t1_loop i).trips) (arg10 : BitVec 32) (k0_hw1 : k0_chk1 i k0_t1 arg10), 256 ∣ (k0_mult6 arg10).toNat := fun i k0_t1 arg10 k0_hw1 => k0_hw1.1
theorem k0_off2_inb : ∀ (i : grid0.Coords) (k0_t1 : Fin (k0_t1_loop i).trips) (arg10 : BitVec 32) (k0_hw1 : k0_chk1 i k0_t1 arg10), ∀ (r : Fin 4), ∀ a, (k0_off2 arg10 (BitVec.ofNat 32 (256 * r.val))) a + S1x1x80x256.size a ≤ S1x1x80x8192.size a := fun i k0_t1 arg10 k0_hw1 r => k0_hw1.2.1 r
theorem k0_mult7_dvd : ∀ (i : grid0.Coords) (k0_t1 : Fin (k0_t1_loop i).trips) (arg10 : BitVec 32) (k0_hw1 : k0_chk1 i k0_t1 arg10), 256 ∣ (k0_mult7 arg10).toNat := fun i k0_t1 arg10 k0_hw1 => k0_hw1.2.2.1
theorem k0_mult8_dvd : ∀ (i : grid0.Coords) (k0_t1 : Fin (k0_t1_loop i).trips) (arg10 : BitVec 32) (k0_hw1 : k0_chk1 i k0_t1 arg10), 256 ∣ (k0_mult8 arg10).toNat := fun i k0_t1 arg10 k0_hw1 => k0_hw1.2.2.2.1
theorem k0_mult9_dvd : ∀ (i : grid0.Coords) (k0_t1 : Fin (k0_t1_loop i).trips) (arg10 : BitVec 32) (k0_hw1 : k0_chk1 i k0_t1 arg10), 256 ∣ (k0_mult9 arg10).toNat := fun i k0_t1 arg10 k0_hw1 => k0_hw1.2.2.2.2

def k0_off6 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v179 : Index := Scalar.indexCast v144
  let c768_102 : Index := 768#32
  let c0_103 : Index := 0#32
  ![v179.toNat, 768, 0]
def k0_mult10 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  v184
def k0_mult11 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  let v185 : BitVec 32 := v184
  let c0_i32_113 : BitVec 32 := 0#32
  let v197 : BitVec 32 := Scalar.addi v185 c0_i32_113
  v197
def k0_off7 (i : grid0.Coords) (k0_t1 : Fin (k0_t1_loop i).trips) (c0_i32_113 : BitVec 32) : Fin 3 → Nat :=
  let c0_114 : Index := 0#32
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  let v185 : BitVec 32 := v184
  let v197 : BitVec 32 := Scalar.addi v185 c0_i32_113
  let v198 : BitVec 32 := v197
  let v199 : Index := Scalar.indexCast v198
  let c0_115 : Index := 0#32
  ![0, v199.toNat, 0]
def k0_off8 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v205 : Index := Scalar.indexCast v196
  let c0_117 : Index := 0#32
  let c0_118 : Index := 0#32
  ![v205.toNat, 0, 0]
def k0_mult12 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  let v185 : BitVec 32 := v184
  let c256_i32_119 : BitVec 32 := 256#32
  let v209 : BitVec 32 := Scalar.addi v185 c256_i32_119
  v209
def k0_off9 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v217 : Index := Scalar.indexCast v196
  let c256_123 : Index := 256#32
  let c0_124 : Index := 0#32
  ![v217.toNat, 256, 0]
def k0_mult13 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  let v185 : BitVec 32 := v184
  let c512_i32_125 : BitVec 32 := 512#32
  let v221 : BitVec 32 := Scalar.addi v185 c512_i32_125
  v221
def k0_off10 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v229 : Index := Scalar.indexCast v196
  let c512_129 : Index := 512#32
  let c0_130 : Index := 0#32
  ![v229.toNat, 512, 0]
def k0_mult14 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1024_i32_105 : BitVec 32 := 1024#32
  let v184 : BitVec 32 := Scalar.muli arg8 c1024_i32_105
  let v185 : BitVec 32 := v184
  let c768_i32_131 : BitVec 32 := 768#32
  let v233 : BitVec 32 := Scalar.addi v185 c768_i32_131
  v233
def k0_off11 (i : grid0.Coords) (k0_t1 : Fin (k0_t1_loop i).trips) : Fin 3 → Nat :=
  let c0_i32_32 : BitVec 32 := 0#32
  let c1_i32_33 : BitVec 32 := 1#32
  let arg8 : BitVec 32 := Scf.iv c0_i32_32 c1_i32_33 k0_t1
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v241 : Index := Scalar.indexCast v196
  let c768_135 : Index := 768#32
  let c0_136 : Index := 0#32
  ![v241.toNat, 768, 0]
@[reducible] def k0_t2_loop (i : grid0.Coords) : Scf.Loop 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let v72 : BitVec 32 := Scalar.addi c0_i32_32 v71
  let c1_i32_34 : BitVec 32 := 1#32
  ⟨v75, v72, c1_i32_34⟩
def k0_mult15 (arg10 : BitVec 32) : BitVec 32 :=
  let c0_i32_77 : BitVec 32 := 0#32
  let v145 : BitVec 32 := Scalar.addi arg10 c0_i32_77
  v145

def k0_off12 (arg10 : BitVec 32) (c0_i32_77 : BitVec 32) : Fin 4 → Nat :=
  let c0_78 : Index := 0#32
  let c0_79 : Index := 0#32
  let c0_80 : Index := 0#32
  let v145 : BitVec 32 := Scalar.addi arg10 c0_i32_77
  let v146 : BitVec 32 := v145
  let v147 : Index := Scalar.indexCast v146
  ![0, 0, 0, v147.toNat]
def k0_off13 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v150 : Index := Scalar.indexCast v144
  let c0_81 : Index := 0#32
  let c0_82 : Index := 0#32
  ![v150.toNat, 0, 0]
def k0_mult16 (arg10 : BitVec 32) : BitVec 32 :=
  let c256_i32_84 : BitVec 32 := 256#32
  let v154 : BitVec 32 := Scalar.addi arg10 c256_i32_84
  v154
def k0_off14 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v159 : Index := Scalar.indexCast v144
  let c256_88 : Index := 256#32
  let c0_89 : Index := 0#32
  ![v159.toNat, 256, 0]
def k0_mult17 (arg10 : BitVec 32) : BitVec 32 :=
  let c512_i32_91 : BitVec 32 := 512#32
  let v164 : BitVec 32 := Scalar.addi arg10 c512_i32_91
  v164
def k0_off15 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v169 : Index := Scalar.indexCast v144
  let c512_95 : Index := 512#32
  let c0_96 : Index := 0#32
  ![v169.toNat, 512, 0]
def k0_mult18 (arg10 : BitVec 32) : BitVec 32 :=
  let c768_i32_98 : BitVec 32 := 768#32
  let v174 : BitVec 32 := Scalar.addi arg10 c768_i32_98
  v174

def k0_chk2 (i : grid0.Coords) (k0_t2 : Fin (k0_t2_loop i).trips) (arg10 : BitVec 32) : Prop :=
  (256 ∣ (k0_mult15 arg10).toNat) ∧
  (∀ (r : Fin 4), ∀ a, (k0_off12 arg10 (BitVec.ofNat 32 (256 * r.val))) a + S1x1x80x256.size a ≤ S1x1x80x8192.size a) ∧
  (256 ∣ (k0_mult16 arg10).toNat) ∧
  (256 ∣ (k0_mult17 arg10).toNat) ∧
  (256 ∣ (k0_mult18 arg10).toNat)
theorem k0_mult15_dvd : ∀ (i : grid0.Coords) (k0_t2 : Fin (k0_t2_loop i).trips) (arg10 : BitVec 32) (k0_hw2 : k0_chk2 i k0_t2 arg10), 256 ∣ (k0_mult15 arg10).toNat := fun i k0_t2 arg10 k0_hw2 => k0_hw2.1
theorem k0_off12_inb : ∀ (i : grid0.Coords) (k0_t2 : Fin (k0_t2_loop i).trips) (arg10 : BitVec 32) (k0_hw2 : k0_chk2 i k0_t2 arg10), ∀ (r : Fin 4), ∀ a, (k0_off12 arg10 (BitVec.ofNat 32 (256 * r.val))) a + S1x1x80x256.size a ≤ S1x1x80x8192.size a := fun i k0_t2 arg10 k0_hw2 r => k0_hw2.2.1 r
theorem k0_mult16_dvd : ∀ (i : grid0.Coords) (k0_t2 : Fin (k0_t2_loop i).trips) (arg10 : BitVec 32) (k0_hw2 : k0_chk2 i k0_t2 arg10), 256 ∣ (k0_mult16 arg10).toNat := fun i k0_t2 arg10 k0_hw2 => k0_hw2.2.2.1
theorem k0_mult17_dvd : ∀ (i : grid0.Coords) (k0_t2 : Fin (k0_t2_loop i).trips) (arg10 : BitVec 32) (k0_hw2 : k0_chk2 i k0_t2 arg10), 256 ∣ (k0_mult17 arg10).toNat := fun i k0_t2 arg10 k0_hw2 => k0_hw2.2.2.2.1
theorem k0_mult18_dvd : ∀ (i : grid0.Coords) (k0_t2 : Fin (k0_t2_loop i).trips) (arg10 : BitVec 32) (k0_hw2 : k0_chk2 i k0_t2 arg10), 256 ∣ (k0_mult18 arg10).toNat := fun i k0_t2 arg10 k0_hw2 => k0_hw2.2.2.2.2

def k0_off16 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c2_i32_71 : BitVec 32 := 2#32
  let c0_i32_72 : BitVec 32 := 0#32
  let v135 : BitVec 1 := Scalar.cmpi .eq c2_i32_71 c0_i32_72
  let c1_i32_73 : BitVec 32 := 1#32
  let v136 : BitVec 32 := Scalar.select v135 c1_i32_73 c2_i32_71
  let v137 : BitVec 32 := Scalar.remsi arg8 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let v179 : Index := Scalar.indexCast v144
  let c768_102 : Index := 768#32
  let c0_103 : Index := 0#32
  ![v179.toNat, 768, 0]
def k0_mult19 (i : grid0.Coords) (k0_t2 : Fin (k0_t2_loop i).trips) : BitVec 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  v184
def k0_mult20 (i : grid0.Coords) (k0_t2 : Fin (k0_t2_loop i).trips) : BitVec 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  let v185 : BitVec 32 := v184
  let c0_i32_113 : BitVec 32 := 0#32
  let v197 : BitVec 32 := Scalar.addi v185 c0_i32_113
  v197
def k0_off17 (i : grid0.Coords) (k0_t2 : Fin (k0_t2_loop i).trips) (c0_i32_113 : BitVec 32) : Fin 3 → Nat :=
  let c0_114 : Index := 0#32
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  let v185 : BitVec 32 := v184
  let v197 : BitVec 32 := Scalar.addi v185 c0_i32_113
  let v198 : BitVec 32 := v197
  let v199 : Index := Scalar.indexCast v198
  let c0_115 : Index := 0#32
  ![0, v199.toNat, 0]
def k0_off18 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v205 : Index := Scalar.indexCast v196
  let c0_117 : Index := 0#32
  let c0_118 : Index := 0#32
  ![v205.toNat, 0, 0]
def k0_mult21 (i : grid0.Coords) (k0_t2 : Fin (k0_t2_loop i).trips) : BitVec 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  let v185 : BitVec 32 := v184
  let c256_i32_119 : BitVec 32 := 256#32
  let v209 : BitVec 32 := Scalar.addi v185 c256_i32_119
  v209
def k0_off19 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v217 : Index := Scalar.indexCast v196
  let c256_123 : Index := 256#32
  let c0_124 : Index := 0#32
  ![v217.toNat, 256, 0]
def k0_mult22 (i : grid0.Coords) (k0_t2 : Fin (k0_t2_loop i).trips) : BitVec 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  let v185 : BitVec 32 := v184
  let c512_i32_125 : BitVec 32 := 512#32
  let v221 : BitVec 32 := Scalar.addi v185 c512_i32_125
  v221
def k0_off20 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v229 : Index := Scalar.indexCast v196
  let c512_129 : Index := 512#32
  let c0_130 : Index := 0#32
  ![v229.toNat, 512, 0]
def k0_mult23 (i : grid0.Coords) (k0_t2 : Fin (k0_t2_loop i).trips) : BitVec 32 :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1024_i32_105 : BitVec 32 := 1024#32
  let v184 : BitVec 32 := Scalar.muli arg8 c1024_i32_105
  let v185 : BitVec 32 := v184
  let c768_i32_131 : BitVec 32 := 768#32
  let v233 : BitVec 32 := Scalar.addi v185 c768_i32_131
  v233
def k0_off21 (i : grid0.Coords) (k0_t2 : Fin (k0_t2_loop i).trips) : Fin 3 → Nat :=
  let c0_i32_32 : BitVec 32 := 0#32
  let arg2 : BitVec 32 := BitVec.ofNat 32 (i 2).val
  let v71 : BitVec 32 := Scalar.subi arg2 c0_i32_32
  let c1_i32 : BitVec 32 := 1#32
  let v73 : BitVec 32 := Scalar.divsi v71 c1_i32
  let v74 : BitVec 32 := Scalar.muli v73 c1_i32
  let v75 : BitVec 32 := Scalar.addi c0_i32_32 v74
  let c1_i32_34 : BitVec 32 := 1#32
  let arg8 : BitVec 32 := Scf.iv v75 c1_i32_34 k0_t2
  let c1_i32_106 : BitVec 32 := 1#32
  let v186 : BitVec 32 := Scalar.addi arg8 c1_i32_106
  let c2_i32_107 : BitVec 32 := 2#32
  let c0_i32_108 : BitVec 32 := 0#32
  let v187 : BitVec 1 := Scalar.cmpi .eq c2_i32_107 c0_i32_108
  let c1_i32_109 : BitVec 32 := 1#32
  let v188 : BitVec 32 := Scalar.select v187 c1_i32_109 c2_i32_107
  let v189 : BitVec 32 := Scalar.remsi v186 v188
  let c0_i32_111 : BitVec 32 := 0#32
  let v191 : BitVec 1 := Scalar.cmpi .slt v189 c0_i32_111
  let c0_i32_112 : BitVec 32 := 0#32
  let v192 : BitVec 1 := Scalar.cmpi .slt v188 c0_i32_112
  let v193 : BitVec 1 := Scalar.xori v191 v192
  let c0_i32_110 : BitVec 32 := 0#32
  let v190 : BitVec 1 := Scalar.cmpi .ne v189 c0_i32_110
  let v194 : BitVec 1 := Scalar.andi v193 v190
  let v195 : BitVec 32 := Scalar.addi v189 v188
  let v196 : BitVec 32 := Scalar.select v194 v195 v189
  let v241 : Index := Scalar.indexCast v196
  let c768_135 : Index := 768#32
  let c0_136 : Index := 0#32
  ![v241.toNat, 768, 0]
def k0_mult24 (v77_1 : BitVec 32) : BitVec 32 :=
  let c0_i32_40 : BitVec 32 := 0#32
  let v88 : BitVec 32 := Scalar.addi v77_1 c0_i32_40
  v88

def k0_off22 (v77_1 : BitVec 32) (c0_i32_40 : BitVec 32) : Fin 4 → Nat :=
  let c0_41 : Index := 0#32
  let c0_42 : Index := 0#32
  let c0_43 : Index := 0#32
  let v88 : BitVec 32 := Scalar.addi v77_1 c0_i32_40
  let v89 : BitVec 32 := v88
  let v90 : Index := Scalar.indexCast v89
  ![0, 0, 0, v90.toNat]
def k0_off23 (i : grid0.Coords) : Fin 3 → Nat :=
  let arg2 : BitVec 32 := BitVec.ofNat 32 (i 2).val
  let c2_i32 : BitVec 32 := 2#32
  let c0_i32_35 : BitVec 32 := 0#32
  let v78 : BitVec 1 := Scalar.cmpi .eq c2_i32 c0_i32_35
  let c1_i32_36 : BitVec 32 := 1#32
  let v79 : BitVec 32 := Scalar.select v78 c1_i32_36 c2_i32
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let v93 : Index := Scalar.indexCast v87
  let c0_44 : Index := 0#32
  let c0_45 : Index := 0#32
  ![v93.toNat, 0, 0]
def k0_mult25 (v77_1 : BitVec 32) : BitVec 32 :=
  let c256_i32_47 : BitVec 32 := 256#32
  let v97 : BitVec 32 := Scalar.addi v77_1 c256_i32_47
  v97
def k0_off24 (i : grid0.Coords) : Fin 3 → Nat :=
  let arg2 : BitVec 32 := BitVec.ofNat 32 (i 2).val
  let c2_i32 : BitVec 32 := 2#32
  let c0_i32_35 : BitVec 32 := 0#32
  let v78 : BitVec 1 := Scalar.cmpi .eq c2_i32 c0_i32_35
  let c1_i32_36 : BitVec 32 := 1#32
  let v79 : BitVec 32 := Scalar.select v78 c1_i32_36 c2_i32
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let v102 : Index := Scalar.indexCast v87
  let c256_51 : Index := 256#32
  let c0_52 : Index := 0#32
  ![v102.toNat, 256, 0]
def k0_mult26 (v77_1 : BitVec 32) : BitVec 32 :=
  let c512_i32_54 : BitVec 32 := 512#32
  let v107 : BitVec 32 := Scalar.addi v77_1 c512_i32_54
  v107
def k0_off25 (i : grid0.Coords) : Fin 3 → Nat :=
  let arg2 : BitVec 32 := BitVec.ofNat 32 (i 2).val
  let c2_i32 : BitVec 32 := 2#32
  let c0_i32_35 : BitVec 32 := 0#32
  let v78 : BitVec 1 := Scalar.cmpi .eq c2_i32 c0_i32_35
  let c1_i32_36 : BitVec 32 := 1#32
  let v79 : BitVec 32 := Scalar.select v78 c1_i32_36 c2_i32
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let v112 : Index := Scalar.indexCast v87
  let c512_58 : Index := 512#32
  let c0_59 : Index := 0#32
  ![v112.toNat, 512, 0]
def k0_mult27 (v77_1 : BitVec 32) : BitVec 32 :=
  let c768_i32_61 : BitVec 32 := 768#32
  let v117 : BitVec 32 := Scalar.addi v77_1 c768_i32_61
  v117

def k0_chk3 (v77_1 : BitVec 32) : Prop :=
  (256 ∣ (k0_mult24 v77_1).toNat) ∧
  (∀ (r : Fin 4), ∀ a, (k0_off22 v77_1 (BitVec.ofNat 32 (256 * r.val))) a + S1x1x80x256.size a ≤ S1x1x80x8192.size a) ∧
  (256 ∣ (k0_mult25 v77_1).toNat) ∧
  (256 ∣ (k0_mult26 v77_1).toNat) ∧
  (256 ∣ (k0_mult27 v77_1).toNat)
theorem k0_mult24_dvd : ∀ (v77_1 : BitVec 32) (k0_hw3 : k0_chk3 v77_1), 256 ∣ (k0_mult24 v77_1).toNat := fun v77_1 k0_hw3 => k0_hw3.1
theorem k0_off22_inb : ∀ (v77_1 : BitVec 32) (k0_hw3 : k0_chk3 v77_1), ∀ (r : Fin 4), ∀ a, (k0_off22 v77_1 (BitVec.ofNat 32 (256 * r.val))) a + S1x1x80x256.size a ≤ S1x1x80x8192.size a := fun v77_1 k0_hw3 r => k0_hw3.2.1 r
theorem k0_mult25_dvd : ∀ (v77_1 : BitVec 32) (k0_hw3 : k0_chk3 v77_1), 256 ∣ (k0_mult25 v77_1).toNat := fun v77_1 k0_hw3 => k0_hw3.2.2.1
theorem k0_mult26_dvd : ∀ (v77_1 : BitVec 32) (k0_hw3 : k0_chk3 v77_1), 256 ∣ (k0_mult26 v77_1).toNat := fun v77_1 k0_hw3 => k0_hw3.2.2.2.1
theorem k0_mult27_dvd : ∀ (v77_1 : BitVec 32) (k0_hw3 : k0_chk3 v77_1), 256 ∣ (k0_mult27 v77_1).toNat := fun v77_1 k0_hw3 => k0_hw3.2.2.2.2

def k0_off26 (i : grid0.Coords) : Fin 3 → Nat :=
  let arg2 : BitVec 32 := BitVec.ofNat 32 (i 2).val
  let c2_i32 : BitVec 32 := 2#32
  let c0_i32_35 : BitVec 32 := 0#32
  let v78 : BitVec 1 := Scalar.cmpi .eq c2_i32 c0_i32_35
  let c1_i32_36 : BitVec 32 := 1#32
  let v79 : BitVec 32 := Scalar.select v78 c1_i32_36 c2_i32
  let v80 : BitVec 32 := Scalar.remsi arg2 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let v122 : Index := Scalar.indexCast v87
  let c768_65 : Index := 768#32
  let c0_66 : Index := 0#32
  ![v122.toNat, 768, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x8x64 : Shape := ⟨4, ![2, 8192, 8, 64]⟩
abbrev S2x8192x8 : Shape := ⟨3, ![2, 8192, 8]⟩
abbrev S64 : Shape := ⟨1, ![64]⟩
abbrev S_ : Shape := ⟨0, ![]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩
abbrev S2x8192x512 : Shape := ⟨3, ![2, 8192, 512]⟩
abbrev S2x512x8192 : Shape := ⟨3, ![2, 512, 8192]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S2x8192x8, .f32⟩
  | .hbm, ⟨9, _⟩ => ⟨S2x8x8192, .f32⟩
  | .hbm, ⟨10, _⟩ => ⟨S_, .f32⟩
  | .hbm, ⟨11, _⟩ => ⟨S2x8192x8x64, .f32⟩
  | .hbm, ⟨12, _⟩ => ⟨S2x8192x8x64, .f32⟩
  | .hbm, ⟨13, _⟩ => ⟨S2x8x8192x8192, .f32⟩
  | .hbm, ⟨14, _⟩ => ⟨S2x8x8192x1, .f32⟩
  | .hbm, ⟨15, _⟩ => ⟨S2x8x8192x8192, .f32⟩
  | .hbm, ⟨16, _⟩ => ⟨S2x8x8192x8192, .f32⟩
  | .hbm, ⟨17, _⟩ => ⟨S2x8x1x8192, .f32⟩
  | .hbm, ⟨18, _⟩ => ⟨S2x8x8192x8192, .f32⟩
  | .hbm, ⟨19, _⟩ => ⟨S2x8x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S2x8x8192x8192, .i1⟩
  | .hbm, ⟨29, _⟩ => ⟨S2x8x8192x8192, .f32⟩
  | .hbm, ⟨30, _⟩ => ⟨S2x8x8192x8192, .f32⟩
  | .hbm, ⟨31, _⟩ => ⟨S_, .f32⟩
  | .hbm, ⟨32, _⟩ => ⟨S2x8x8192, .f32⟩
  | .hbm, ⟨33, _⟩ => ⟨S_, .f32⟩
  | .hbm, ⟨34, _⟩ => ⟨S2x8x8192, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S2x8x8192, .f32⟩
  | .hbm, ⟨42, _⟩ => ⟨S2x8x8192x1, .f32⟩
  | .hbm, ⟨43, _⟩ => ⟨S2x8x8192x8192, .f32⟩
  | .hbm, ⟨44, _⟩ => ⟨S2x8x8192x8192, .f32⟩
  | .hbm, ⟨45, _⟩ => ⟨S2x8x64x8192, .f32⟩
  | .hbm, ⟨46, _⟩ => ⟨S2x8192x8x64, .f32⟩
  | .hbm, ⟨47, _⟩ => ⟨S2x8192x512, .f32⟩
  | .hbm, ⟨48, _⟩ => ⟨S2x512x8192, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_cst : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== InprojPrompt.lean ====
abbrev S2x8192x1024 : Shape := ⟨3, ![2, 8192, 1024]⟩
abbrev S1x1024 : Shape := ⟨2, ![1, 1024]⟩
abbrev S1x1024x6152 : Shape := ⟨3, ![1, 1024, 6152]⟩
abbrev S1x64 : Shape := ⟨2, ![1, 64]⟩
abbrev S1x8 : Shape := ⟨2, ![1, 8]⟩
abbrev S1024x6152 : Shape := ⟨2, ![1024, 6152]⟩
abbrev S6152x1024 : Shape := ⟨2, ![6152, 1024]⟩
abbrev S512x1024 : Shape := ⟨2, ![512, 1024]⟩
abbrev S8x1024 : Shape := ⟨2, ![8, 1024]⟩
abbrev S1024x1024 : Shape := ⟨2, ![1024, 1024]⟩
abbrev S1024 : Shape := ⟨1, ![1024]⟩
abbrev S64 : Shape := ⟨1, ![64]⟩
abbrev S8 : Shape := ⟨1, ![8]⟩
abbrev S_ : Shape := ⟨0, ![]⟩
abbrev S8x1 : Shape := ⟨2, ![8, 1]⟩
abbrev S64x1 : Shape := ⟨2, ![64, 1]⟩
abbrev S512x512 : Shape := ⟨2, ![512, 512]⟩
abbrev S2x8x128x8192 : Shape := ⟨4, ![2, 8, 128, 8192]⟩
abbrev S2x512x8192 : Shape := ⟨3, ![2, 512, 8192]⟩
abbrev S2x8x80x8192 : Shape := ⟨4, ![2, 8, 80, 8192]⟩
abbrev S2x8x8192 : Shape := ⟨3, ![2, 8, 8192]⟩
abbrev S1x512x1024 : Shape := ⟨3, ![1, 512, 1024]⟩
abbrev S1x8x128x512 : Shape := ⟨4, ![1, 8, 128, 512]⟩
abbrev S1x512x512 : Shape := ⟨3, ![1, 512, 512]⟩
abbrev S1x8x80x512 : Shape := ⟨4, ![1, 8, 80, 512]⟩
abbrev S1x8x512 : Shape := ⟨3, ![1, 8, 512]⟩
abbrev S8x128 : Shape := ⟨2, ![8, 128]⟩
abbrev S512 : Shape := ⟨1, ![512]⟩
abbrev S512x1 : Shape := ⟨2, ![512, 1]⟩
abbrev S8x512 : Shape := ⟨2, ![8, 512]⟩
abbrev S24x512 : Shape := ⟨2, ![24, 512]⟩
abbrev S16x512 : Shape := ⟨2, ![16, 512]⟩
abbrev S32x512 : Shape := ⟨2, ![32, 512]⟩
abbrev S64x512 : Shape := ⟨2, ![64, 512]⟩
abbrev S1x512 : Shape := ⟨2, ![1, 512]⟩
abbrev S1x64x512 : Shape := ⟨3, ![1, 64, 512]⟩
abbrev S80x512 : Shape := ⟨2, ![80, 512]⟩
abbrev S1x1x80x512 : Shape := ⟨4, ![1, 1, 80, 512]⟩
abbrev S128x512 : Shape := ⟨2, ![128, 512]⟩
abbrev S1x1x128x512 : Shape := ⟨4, ![1, 1, 128, 512]⟩
abbrev S512x128 : Shape := ⟨2, ![512, 128]⟩
abbrev S1x512x128 : Shape := ⟨3, ![1, 512, 128]⟩

abbrev nBuf : Space → Nat
  | .hbm => 64
  | .vmem => 40
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x6152, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1024x6152, .f32⟩
  | .hbm, ⟨7, _⟩ => ⟨S6152x1024, .f32⟩
  | .hbm, ⟨8, _⟩ => ⟨S6152x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S8x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S64, .f32⟩
  | .hbm, ⟨21, _⟩ => ⟨S64, .f32⟩
  | .hbm, ⟨22, _⟩ => ⟨S8, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x1, .f32⟩
  | .hbm, ⟨38, _⟩ => ⟨S64x1, .f32⟩
  | .hbm, ⟨39, _⟩ => ⟨S64x1, .f32⟩
  | .hbm, ⟨40, _⟩ => ⟨S8x1, .f32⟩
  | .hbm, ⟨41, _⟩ => ⟨S_, .f32⟩
  | .hbm, ⟨42, _⟩ => ⟨S512x512, .f32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S2x8x128x8192, .bf16⟩
  | .hbm, ⟨54, _⟩ => ⟨S2x8192x1024, .bf16⟩
  | .hbm, ⟨55, _⟩ => ⟨S2x512x8192, .f32⟩
  | .hbm, ⟨56, _⟩ => ⟨S2x512x8192, .f32⟩
  | .hbm, ⟨57, _⟩ => ⟨S2x8x80x8192, .bf16⟩
  | .hbm, ⟨58, _⟩ => ⟨S2x512x8192, .bf16⟩
  | .hbm, ⟨59, _⟩ => ⟨S2x8x8192, .f32⟩
  | .hbm, ⟨60, _⟩ => ⟨S2x8192x1024, .f32⟩
  | .hbm, ⟨61, _⟩ => ⟨S2x8192x1024, .bf16⟩
  | .hbm, ⟨62, _⟩ => ⟨S2x8192x1024, .bf16⟩
  | .hbm, ⟨63, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S8x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S64x1, .f32⟩
  | .local _ .vmem, ⟨13, _⟩ => ⟨S64x1, .f32⟩
  | .local _ .vmem, ⟨14, _⟩ => ⟨S8x1, .f32⟩
  | .local _ .vmem, ⟨15, _⟩ => ⟨S8x1, .f32⟩
  | .local _ .vmem, ⟨16, _⟩ => ⟨S512x512, .bf16⟩
  | .local _ .vmem, ⟨17, _⟩ => ⟨S1x8x128x512, .bf16⟩
  | .local _ .vmem, ⟨18, _⟩ => ⟨S1x8x128x512, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x8x80x512, .bf16⟩
  | .local _ .vmem, ⟨26, _⟩ => ⟨S1x8x80x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x8x512, .f32⟩
  | .local _ .vmem, ⟨30, _⟩ => ⟨S1x8x512, .f32⟩
  | .local _ .vmem, ⟨31, _⟩ => ⟨S1x512x1024, .f32⟩
  | .local _ .vmem, ⟨32, _⟩ => ⟨S1x512x1024, .f32⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x1024, .bf16⟩
  | .local _ .vmem, ⟨38, _⟩ => ⟨S1x512x1024, .bf16⟩
  | .local _ .vmem, ⟨39, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_cst : Ref sig .tc := ⟨.hbm, 49, rfl⟩
abbrev main_call1_v5 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_v32_2 : Ref sig .tc := ⟨.hbm, 55, rfl⟩
abbrev main_v32_3 : Ref sig .tc := ⟨.hbm, 56, rfl⟩
abbrev main_v32_4 : Ref sig .tc := ⟨.hbm, 57, rfl⟩
abbrev main_v32_5 : Ref sig .tc := ⟨.hbm, 58, rfl⟩
abbrev main_v32_6 : Ref sig .tc := ⟨.hbm, 59, rfl⟩
abbrev main_v32_7 : Ref sig .tc := ⟨.hbm, 60, rfl⟩
abbrev main_v32_8 : Ref sig .tc := ⟨.hbm, 61, rfl⟩
abbrev main_v32_9 : Ref sig .tc := ⟨.hbm, 62, rfl⟩
abbrev main_v32_10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x80x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== MixerPromptIdeal.lean ====
abbrev S2x8192x1024 : Shape := ⟨3, ![2, 8192, 1024]⟩
abbrev S1x1024 : Shape := ⟨2, ![1, 1024]⟩
abbrev S1x1024x6152 : Shape := ⟨3, ![1, 1024, 6152]⟩
abbrev S1x64 : Shape := ⟨2, ![1, 64]⟩
abbrev S1x8 : Shape := ⟨2, ![1, 8]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6152 : Shape := ⟨2, ![1024, 6152]⟩
abbrev S2x8192x6152 : Shape := ⟨3, ![2, 8192, 6152]⟩
abbrev S2x8192x512 : Shape := ⟨3, ![2, 8192, 512]⟩
abbrev S2x8192x8 : Shape := ⟨3, ![2, 8192, 8]⟩
abbrev S2x8192x8x64 : Shape := ⟨4, ![2, 8192, 8, 64]⟩
abbrev S64 : Shape := ⟨1, ![64]⟩
abbrev S2x8192x8x1 : Shape := ⟨4, ![2, 8192, 8, 1]⟩
abbrev S1x1x1x64 : Shape := ⟨4, ![1, 1, 1, 64]⟩
abbrev S8 : Shape := ⟨1, ![8]⟩
abbrev S1x1x8 : Shape := ⟨3, ![1, 1, 8]⟩
abbrev S2x512x8192 : Shape := ⟨3, ![2, 512, 8192]⟩
abbrev S2x8x8192 : Shape := ⟨3, ![2, 8, 8192]⟩

abbrev nBuf : Space → Nat
  | .hbm => 133
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x6152, .f32⟩
  | 3 => ⟨S1x64, .f32⟩
  | 4 => ⟨S1x64, .f32⟩
  | 5 => ⟨S1x8, .f32⟩
  | 6 => ⟨S1024, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S1024x6152, .f32⟩
  | 24 => ⟨S2x8192x6152, .f32⟩
  | 25 => ⟨S2x8192x512, .f32⟩
  | 26 => ⟨S2x8192x512, .f32⟩
  | 27 => ⟨S2x8192x512, .f32⟩
  | 28 => ⟨S2x8192x512, .f32⟩
  | 29 => ⟨S2x8192x8, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x8x64, .f32⟩
  | 35 => ⟨S64, .f32⟩
  | 36 => ⟨S2x8192x8x64, .f32⟩
  | 37 => ⟨S_, .f32⟩
  | 38 => ⟨S2x8192x8, .f32⟩
  | 39 => ⟨S2x8192x8x1, .f32⟩
  | 40 => ⟨S_, .f32⟩
  | 41 => ⟨S2x8192x8x1, .f32⟩
  | 42 => ⟨S2x8192x8x1, .f32⟩
  | 43 => ⟨S_, .f32⟩
  | 44 => ⟨S2x8192x8x1, .f32⟩
  | 45 => ⟨S2x8192x8x1, .f32⟩
  | 46 => ⟨S2x8192x8x1, .f32⟩
  | 47 => ⟨S2x8192x8x64, .f32⟩
  | 48 => ⟨S2x8192x8x64, .f32⟩
  | 49 => ⟨S1x1x1x64, .f32⟩
  | 50 => ⟨S2x8192x8x64, .f32⟩
  | 51 => ⟨S2x8192x8x64, .f32⟩
  | 52 => ⟨S2x8192x8x64, .f32⟩
  | 53 => ⟨S64, .f32⟩
  | 54 => ⟨S2x8192x8x64, .f32⟩
  | 55 => ⟨S_, .f32⟩
  | 56 => ⟨S2x8192x8, .f32⟩
  | 57 => ⟨S2x8192x8x1, .f32⟩
  | 58 => ⟨S_, .f32⟩
  | 59 => ⟨S2x8192x8x1, .f32⟩
  | 60 => ⟨S2x8192x8x1, .f32⟩
  | 61 => ⟨S_, .f32⟩
  | 62 => ⟨S2x8192x8x1, .f32⟩
  | 63 => ⟨S2x8192x8x1, .f32⟩
  | 64 => ⟨S2x8192x8x1, .f32⟩
  | 65 => ⟨S2x8192x8x64, .f32⟩
  | 66 => ⟨S2x8192x8x64, .f32⟩
  | 67 => ⟨S1x1x1x64, .f32⟩
  | 68 => ⟨S2x8192x8x64, .f32⟩
  | 69 => ⟨S2x8192x8x64, .f32⟩
  | 70 => ⟨S8, .f32⟩
  | 71 => ⟨S1x1x8, .f32⟩
  | 72 => ⟨S2x8192x8, .f32⟩
  | 73 => ⟨S2x8192x8, .f32⟩
  | 74 => ⟨S2x8192x8, .f32⟩
  | 75 => ⟨S_, .f32⟩
  | 76 => ⟨S2x8192x8, .f32⟩
  | 77 => ⟨S2x8192x8, .f32⟩
  | 78 => ⟨S2x8192x8, .f32⟩
  | 79 => ⟨S2x8192x8, .f32⟩
  | 80 => ⟨S2x8192x8, .i1⟩
  | 81 => ⟨S2x8192x8, .f32⟩
  | 82 => ⟨S2x8192x8, .f32⟩
  | 83 => ⟨S2x8192x8, .f32⟩
  | 84 => ⟨S2x8192x8, .f32⟩
  | 85 => ⟨S2x8192x8, .f32⟩
  | 86 => ⟨S2x8192x8, .f32⟩
  | 87 => ⟨S2x8192x8, .f32⟩
  | 88 => ⟨S2x8192x8, .f32⟩
  | 89 => ⟨S2x8192x8, .f32⟩
  | 90 => ⟨S2x8192x512, .f32⟩
  | 91 => ⟨S2x8192x512, .f32⟩
  | 92 => ⟨S_, .f32⟩
  | 93 => ⟨S2x8192x512, .f32⟩
  | 94 => ⟨S2x8192x512, .f32⟩
  | 95 => ⟨S_, .f32⟩
  | 96 => ⟨S2x8192x512, .f32⟩
  | 97 => ⟨S2x8192x512, .f32⟩
  | 98 => ⟨S2x8192x512, .f32⟩
  | 99 => ⟨S2x8192x1024, .f32⟩
  | 100 => ⟨S2x8192x1024, .f32⟩
  | 101 => ⟨S_, .f32⟩
  | 102 => ⟨S2x8192x1024, .f32⟩
  | 103 => ⟨S2x8192x1024, .f32⟩
  | 104 => ⟨S_, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x1024, .f32⟩
  | 110 => ⟨S_, .f32⟩
  | 111 => ⟨S2x8192x1024, .f32⟩
  | 112 => ⟨S2x8192x1024, .f32⟩
  | 113 => ⟨S_, .f32⟩
  | 114 => ⟨S2x8192x1024, .f32⟩
  | 115 => ⟨S2x8192x1024, .f32⟩
  | 116 => ⟨S2x8192x1024, .f32⟩
  | 117 => ⟨S2x8192x1024, .f32⟩
  | 118 => ⟨S_, .f32⟩
  | 119 => ⟨S2x8192x1024, .f32⟩
  | 120 => ⟨S2x8192x1024, .f32⟩
  | 121 => ⟨S_, .f32⟩
  | 122 => ⟨S2x8192x1024, .f32⟩
  | 123 => ⟨S2x8192x1024, .f32⟩
  | 124 => ⟨S2x8192x512, .f32⟩
  | 125 => ⟨S2x512x8192, .f32⟩
  | 126 => ⟨S2x512x8192, .f32⟩
  | 127 => ⟨S2x8x8192, .f32⟩
  | _ => ⟨S2x8192x1024, .f32⟩

abbrev hbmTy0_1 (i : Nat) : BufTy := match i % 128 with
  | 0 => ⟨S2x512x8192, .f32⟩
  | 1 => ⟨S2x512x8192, .bf16⟩
  | 2 => ⟨S2x8192x1024, .bf16⟩
  | 3 => ⟨S2x8192x1024, .bf16⟩
  | 4 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v59 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v60 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_8 : Ref sig .tc := ⟨.hbm, 110, rfl⟩
abbrev main_v64 : Ref sig .tc := ⟨.hbm, 111, rfl⟩
abbrev main_v65 : Ref sig .tc := ⟨.hbm, 112, rfl⟩
abbrev main_cst_9 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_10 : Ref sig .tc := ⟨.hbm, 118, rfl⟩
abbrev main_v70 : Ref sig .tc := ⟨.hbm, 119, rfl⟩
abbrev main_v71 : Ref sig .tc := ⟨.hbm, 120, rfl⟩
abbrev main_cst_11 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩

abbrev nD : Nat := 1
abbrev τ : Topo := Topo.v7x

variable {F : FTy → Type} [FloatOps F]
-- ==== InprojSample.lean ====
abbrev S128x8x1024 : Shape := ⟨3, ![128, 8, 1024]⟩
abbrev S1x1024 : Shape := ⟨2, ![1, 1024]⟩
abbrev S1x1024x6152 : Shape := ⟨3, ![1, 1024, 6152]⟩
abbrev S1x64 : Shape := ⟨2, ![1, 64]⟩
abbrev S1x8 : Shape := ⟨2, ![1, 8]⟩
abbrev S1024x6152 : Shape := ⟨2, ![1024, 6152]⟩
abbrev S6152x1024 : Shape := ⟨2, ![6152, 1024]⟩
abbrev S512x1024 : Shape := ⟨2, ![512, 1024]⟩
abbrev S8x1024 : Shape := ⟨2, ![8, 1024]⟩
abbrev S1024x1024 : Shape := ⟨2, ![1024, 1024]⟩
abbrev S_ : Shape := ⟨0, ![]⟩
abbrev S128x1024 : Shape := ⟨2, ![128, 1024]⟩
abbrev S1024 : Shape := ⟨1, ![1024]⟩
abbrev S64 : Shape := ⟨1, ![64]⟩
abbrev S8 : Shape := ⟨1, ![8]⟩
abbrev S8x64 : Shape := ⟨2, ![8, 64]⟩
abbrev S512 : Shape := ⟨1, ![512]⟩
abbrev S1x512 : Shape := ⟨2, ![1, 512]⟩
abbrev S128 : Shape := ⟨1, ![128]⟩
abbrev S1x128 : Shape := ⟨2, ![1, 128]⟩
abbrev S512x1 : Shape := ⟨2, ![512, 1]⟩
abbrev S512x512 : Shape := ⟨2, ![512, 512]⟩
abbrev S1024x512 : Shape := ⟨2, ![1024, 512]⟩
abbrev S1024x128 : Shape := ⟨2, ![1024, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x8 : Shape := ⟨2, ![1024, 8]⟩

abbrev nBuf : Space → Nat
  | .hbm => 74
  | .vmem => 34
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x6152, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1024x6152, .f32⟩
  | .hbm, ⟨7, _⟩ => ⟨S6152x1024, .f32⟩
  | .hbm, ⟨8, _⟩ => ⟨S6152x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S8x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S_, .i32⟩
  | .hbm, ⟨19, _⟩ => ⟨S_, .bf16⟩
  | .hbm, ⟨20, _⟩ => ⟨S128x1024, .bf16⟩
  | .hbm, ⟨21, _⟩ => ⟨S1024, .f32⟩
  | .hbm, ⟨22, _⟩ => ⟨S1x1024, .f32⟩
  | .hbm, ⟨23, _⟩ => ⟨S64, .f32⟩
  | .hbm, ⟨24, _⟩ => ⟨S64, .f32⟩
  | .hbm, ⟨25, _⟩ => ⟨S8, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S512, .i32⟩
  | .hbm, ⟨39, _⟩ => ⟨S_, .i32⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S512, .i1⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S512x1, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S512x512, .bf16⟩
  | .hbm, ⟨63, _⟩ => ⟨S1024x1024, .f32⟩
  | .hbm, ⟨64, _⟩ => ⟨S1024x512, .f32⟩
  | .hbm, ⟨65, _⟩ => ⟨S1024x512, .f32⟩
  | .hbm, ⟨66, _⟩ => ⟨S1024x512, .f32⟩
  | .hbm, ⟨67, _⟩ => ⟨S1024x512, .bf16⟩
  | .hbm, ⟨68, _⟩ => ⟨S1024x128, .f32⟩
  | .hbm, ⟨69, _⟩ => ⟨S1024x1024, .f32⟩
  | .hbm, ⟨70, _⟩ => ⟨S1024x1024, .bf16⟩
  | .hbm, ⟨71, _⟩ => ⟨S1024x1024, .bf16⟩
  | .hbm, ⟨72, _⟩ => ⟨S1024x1024, .bf16⟩
  | .hbm, ⟨73, _⟩ => ⟨S1024x8, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S128x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S512x512, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x128, .f32⟩
  | .local _ .vmem, ⟨25, _⟩ => ⟨S256x128, .f32⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_v37_3 : Ref sig .tc := ⟨.hbm, 67, rfl⟩
abbrev main_v37_4 : Ref sig .tc := ⟨.hbm, 68, rfl⟩
abbrev main_v37_5 : Ref sig .tc := ⟨.hbm, 69, rfl⟩
abbrev main_v37_6 : Ref sig .tc := ⟨.hbm, 70, rfl⟩
abbrev main_v37_7 : Ref sig .tc := ⟨.hbm, 71, rfl⟩
abbrev main_v37_8 : Ref sig .tc := ⟨.hbm, 72, rfl⟩
abbrev main_v38 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== MixerSampleIdeal.lean ====
abbrev S128x8x1024 : Shape := ⟨3, ![128, 8, 1024]⟩
abbrev S1x1024 : Shape := ⟨2, ![1, 1024]⟩
abbrev S1x1024x6152 : Shape := ⟨3, ![1, 1024, 6152]⟩
abbrev S1x64 : Shape := ⟨2, ![1, 64]⟩
abbrev S1x8 : Shape := ⟨2, ![1, 8]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x6152 : Shape := ⟨2, ![1024, 6152]⟩
abbrev S128x8x6152 : Shape := ⟨3, ![128, 8, 6152]⟩
abbrev S128x8x512 : Shape := ⟨3, ![128, 8, 512]⟩
abbrev S128x8x8 : Shape := ⟨3, ![128, 8, 8]⟩
abbrev S128x8x8x64 : Shape := ⟨4, ![128, 8, 8, 64]⟩
abbrev S64 : Shape := ⟨1, ![64]⟩
abbrev S128x8x8x1 : Shape := ⟨4, ![128, 8, 8, 1]⟩
abbrev S1x1x1x64 : Shape := ⟨4, ![1, 1, 1, 64]⟩
abbrev S8 : Shape := ⟨1, ![8]⟩
abbrev S1x1x8 : Shape := ⟨3, ![1, 1, 8]⟩
abbrev S1024x512 : Shape := ⟨2, ![1024, 512]⟩
abbrev S1024x8 : Shape := ⟨2, ![1024, 8]⟩
abbrev S1024x1024 : Shape := ⟨2, ![1024, 1024]⟩

abbrev nBuf : Space → Nat
  | .hbm => 140
  | .vmem => 0
  | .smem => 0
  | _ => 0

abbrev hbmTy0_0 (i : Nat) : BufTy := match i % 128 with
  | 0 => ⟨S128x8x1024, .f32⟩
  | 1 => ⟨S1x1024, .f32⟩
  | 2 => ⟨S1x1024x6152, .f32⟩
  | 3 => ⟨S1x64, .f32⟩
  | 4 => ⟨S1x64, .f32⟩
  | 5 => ⟨S1x8, .f32⟩
  | 6 => ⟨S1024, .f32⟩
  | 7 => ⟨S128x8x1024, .f32⟩
  | 8 => ⟨S_, .f32⟩
  | 9 => ⟨S128x8, .f32⟩
  | 10 => ⟨S128x8x1, .f32⟩
  | 11 => ⟨S_, .f32⟩
  | 12 => ⟨S128x8x1, .f32⟩
  | 13 => ⟨S128x8x1, .f32⟩
  | 14 => ⟨S_, .f32⟩
  | 15 => ⟨S128x8x1, .f32⟩
  | 16 => ⟨S128x8x1, .f32⟩
  | 17 => ⟨S128x8x1, .f32⟩
  | 18 => ⟨S128x8x1024, .f32⟩
  | 19 => ⟨S128x8x1024, .f32⟩
  | 20 => ⟨S1x1x1024, .f32⟩
  | 21 => ⟨S128x8x1024, .f32⟩
  | 22 => ⟨S128x8x1024, .f32⟩
  | 23 => ⟨S1024x6152, .f32⟩
  | 24 => ⟨S128x8x6152, .f32⟩
  | 25 => ⟨S128x8x512, .f32⟩
  | 26 => ⟨S128x8x512, .f32⟩
  | 27 => ⟨S128x8x512, .f32⟩
  | 28 => ⟨S128x8x512, .f32⟩
  | 29 => ⟨S128x8x8, .f32⟩
  | 30 => ⟨S128x8x1024, .f32⟩
  | 31 => ⟨S128x8x1024, .f32⟩
  | 32 => ⟨S128x8x1024, .f32⟩
  | 33 => ⟨S128x8x1024, .f32⟩
  | 34 => ⟨S128x8x8x64, .f32⟩
  | 35 => ⟨S64, .f32⟩
  | 36 => ⟨S128x8x8x64, .f32⟩
  | 37 => ⟨S_, .f32⟩
  | 38 => ⟨S128x8x8, .f32⟩
  | 39 => ⟨S128x8x8x1, .f32⟩
  | 40 => ⟨S_, .f32⟩
  | 41 => ⟨S128x8x8x1, .f32⟩
  | 42 => ⟨S128x8x8x1, .f32⟩
  | 43 => ⟨S_, .f32⟩
  | 44 => ⟨S128x8x8x1, .f32⟩
  | 45 => ⟨S128x8x8x1, .f32⟩
  | 46 => ⟨S128x8x8x1, .f32⟩
  | 47 => ⟨S128x8x8x64, .f32⟩
  | 48 => ⟨S128x8x8x64, .f32⟩
  | 49 => ⟨S1x1x1x64, .f32⟩
  | 50 => ⟨S128x8x8x64, .f32⟩
  | 51 => ⟨S128x8x8x64, .f32⟩
  | 52 => ⟨S128x8x8x64, .f32⟩
  | 53 => ⟨S64, .f32⟩
  | 54 => ⟨S128x8x8x64, .f32⟩
  | 55 => ⟨S_, .f32⟩
  | 56 => ⟨S128x8x8, .f32⟩
  | 57 => ⟨S128x8x8x1, .f32⟩
  | 58 => ⟨S_, .f32⟩
  | 59 => ⟨S128x8x8x1, .f32⟩
  | 60 => ⟨S128x8x8x1, .f32⟩
  | 61 => ⟨S_, .f32⟩
  | 62 => ⟨S128x8x8x1, .f32⟩
  | 63 => ⟨S128x8x8x1, .f32⟩
  | 64 => ⟨S128x8x8x1, .f32⟩
  | 65 => ⟨S128x8x8x64, .f32⟩
  | 66 => ⟨S128x8x8x64, .f32⟩
  | 67 => ⟨S1x1x1x64, .f32⟩
  | 68 => ⟨S128x8x8x64, .f32⟩
  | 69 => ⟨S128x8x8x64, .f32⟩
  | 70 => ⟨S8, .f32⟩
  | 71 => ⟨S1x1x8, .f32⟩
  | 72 => ⟨S128x8x8, .f32⟩
  | 73 => ⟨S128x8x8, .f32⟩
  | 74 => ⟨S128x8x8, .f32⟩
  | 75 => ⟨S_, .f32⟩
  | 76 => ⟨S128x8x8, .f32⟩
  | 77 => ⟨S128x8x8, .f32⟩
  | 78 => ⟨S128x8x8, .f32⟩
  | 79 => ⟨S128x8x8, .f32⟩
  | 80 => ⟨S128x8x8, .i1⟩
  | 81 => ⟨S128x8x8, .f32⟩
  | 82 => ⟨S128x8x8, .f32⟩
  | 83 => ⟨S128x8x8, .f32⟩
  | 84 => ⟨S128x8x8, .f32⟩
  | 85 => ⟨S128x8x8, .f32⟩
  | 86 => ⟨S128x8x8, .f32⟩
  | 87 => ⟨S128x8x8, .f32⟩
  | 88 => ⟨S128x8x8, .f32⟩
  | 89 => ⟨S128x8x8, .f32⟩
  | 90 => ⟨S128x8x512, .f32⟩
  | 91 => ⟨S128x8x512, .f32⟩
  | 92 => ⟨S_, .f32⟩
  | 93 => ⟨S128x8x512, .f32⟩
  | 94 => ⟨S128x8x512, .f32⟩
  | 95 => ⟨S_, .f32⟩
  | 96 => ⟨S128x8x512, .f32⟩
  | 97 => ⟨S128x8x512, .f32⟩
  | 98 => ⟨S128x8x512, .f32⟩
  | 99 => ⟨S128x8x1024, .f32⟩
  | 100 => ⟨S128x8x1024, .f32⟩
  | 101 => ⟨S_, .f32⟩
  | 102 => ⟨S128x8x1024, .f32⟩
  | 103 => ⟨S128x8x1024, .f32⟩
  | 104 => ⟨S_, .f32⟩
  | 105 => ⟨S128x8x1024, .f32⟩
  | 106 => ⟨S128x8x1024, .f32⟩
  | 107 => ⟨S128x8x1024, .f32⟩
  | 108 => ⟨S128x8x1024, .f32⟩
  | 109 => ⟨S128x8x1024, .f32⟩
  | 110 => ⟨S_, .f32⟩
  | 111 => ⟨S128x8x1024, .f32⟩
  | 112 => ⟨S128x8x1024, .f32⟩
  | 113 => ⟨S_, .f32⟩
  | 114 => ⟨S128x8x1024, .f32⟩
  | 115 => ⟨S128x8x1024, .f32⟩
  | 116 => ⟨S128x8x1024, .f32⟩
  | 117 => ⟨S128x8x1024, .f32⟩
  | 118 => ⟨S_, .f32⟩
  | 119 => ⟨S128x8x1024, .f32⟩
  | 120 => ⟨S128x8x1024, .f32⟩
  | 121 => ⟨S_, .f32⟩
  | 122 => ⟨S128x8x1024, .f32⟩
  | 123 => ⟨S128x8x1024, .f32⟩
  | 124 => ⟨S1024x512, .f32⟩
  | 125 => ⟨S_, .f32⟩
  | 126 => ⟨S1024x512, .f32⟩
  | 127 => ⟨S1024x512, .f32⟩
  | _ => ⟨S128x8x1024, .f32⟩

abbrev hbmTy0_1 (i : Nat) : BufTy := match i % 128 with
  | 0 => ⟨S1024x512, .f32⟩
  | 1 => ⟨S1024x512, .f32⟩
  | 2 => ⟨S1024x512, .f32⟩
  | 3 => ⟨S1024x512, .bf16⟩
  | 4 => ⟨S1024x8, .f32⟩
  | 5 => ⟨S1024x1024, .f32⟩
  | 6 => ⟨S1024x1024, .f32⟩
  | 7 => ⟨S1024x1024, .bf16⟩
  | 8 => ⟨S1024x1024, .f32⟩
  | 9 => ⟨S1024x1024, .bf16⟩
  | 10 => ⟨S1024x1024, .f32⟩
  | 11 => ⟨S1024x1024, .bf16⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v59 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v60 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_8 : Ref sig .tc := ⟨.hbm, 110, rfl⟩
abbrev main_v64 : Ref sig .tc := ⟨.hbm, 111, rfl⟩
abbrev main_v65 : Ref sig .tc := ⟨.hbm, 112, rfl⟩
abbrev main_cst_9 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_10 : Ref sig .tc := ⟨.hbm, 118, rfl⟩
abbrev main_v70 : Ref sig .tc := ⟨.hbm, 119, rfl⟩
abbrev main_v71 : Ref sig .tc := ⟨.hbm, 120, rfl⟩
abbrev main_cst_11 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_12 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩

abbrev nD : Nat := 1
abbrev τ : Topo := Topo.v7x

variable {F : FTy → Type} [FloatOps F]
-- ==== Proof.PI.Words.lean ====
/-
  The integer words of the shifted prompt attention's body: which key rows, which value columns and which of the
  two score slots each access names. The outer grid's third coordinate `i 2` is the query block; the loop's trip `k`
  handles the key block before the diagonal one. The slot a block's scores are stored in alternates, so a trip reads
  slot `k % 2` and writes slot `(k + 1) % 2`.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.PI

open Cert.KernelIdeal Cert.KernelIdeal.Gen
open Idealize.ShloMosaic Idealize.ShloMosaic.TcCoe Idealize.ShloMosaic.Tactic

/-- The query block of a grid point. -/
abbrev qb (i : grid0.Coords) : Fin 8 := i 2

/-- A word's remainder by two, with the sign correction, as the body computes a slot. -/
def slotW (w : BitVec 32) : BitVec 32 :=
  let v136 : BitVec 32 := Scalar.select (Scalar.cmpi .eq 2#32 0#32) 1#32 2#32
  let v137 : BitVec 32 := Scalar.remsi w v136
  Scalar.select (Scalar.andi (Scalar.xori (Scalar.cmpi .slt v137 0#32) (Scalar.cmpi .slt v136 0#32)) (Scalar.cmpi .ne v137 0#32))
    (Scalar.addi v137 v136) v137

theorem slotW_iv : ∀ n : Fin 8, (Scalar.indexCast (slotW (Scf.iv 0#32 1#32 n.val))).toNat = n.val % 2 := by decide +kernel
theorem slotW_next : ∀ n : Fin 8, (Scalar.indexCast (slotW (Scalar.addi (Scf.iv 0#32 1#32 n.val) 1#32))).toNat = (n.val + 1) % 2 := by
  decide +kernel
theorem slotW_coord : ∀ n : Fin 8, (Scalar.indexCast (slotW (BitVec.ofNat 32 n.val))).toNat = n.val % 2 := by decide +kernel

/-- The row block a trip's scores are of, as a word. -/
def rowW (n : ℕ) : BitVec 32 := Scalar.muli (Scf.iv 0#32 1#32 n) 1024#32

theorem rowW_eq : ∀ n : Fin 8, rowW n.val = BitVec.ofNat 32 (1024 * n.val) := by decide +kernel
theorem rowOff : ∀ (n : Fin 8) (u : Fin 4), (Scalar.indexCast (Scalar.addi (rowW n.val) (BitVec.ofNat 32 (256 * u.val)))).toNat = 1024 * n.val + 256 * u.val := by
  decide +kernel
theorem diagOff : ∀ (n : Fin 8) (u : Fin 4), (Scalar.indexCast (Scalar.addi (Scalar.muli (BitVec.ofNat 32 n.val) 1024#32) (BitVec.ofNat 32 (256 * u.val)))).toNat
    = 1024 * n.val + 256 * u.val := by decide +kernel
theorem colOff : ∀ (n : Fin 8) (u : Fin 4), (Scalar.indexCast (Scalar.addi (BitVec.ofNat 32 (1024 * n.val)) (BitVec.ofNat 32 (256 * u.val)))).toNat
    = 1024 * n.val + 256 * u.val := by decide +kernel
theorem diagW : ∀ n : Fin 8, Scalar.muli (BitVec.ofNat 32 n.val) 1024#32 = BitVec.ofNat 32 (1024 * n.val) := by decide +kernel

/-- The first loop runs once per key block before the diagonal one, the second never. -/
theorem trips1 (i : grid0.Coords) : (k0_t1_loop i).trips = (qb i).val :=
  (by decide +kernel : ∀ n : Fin 8,
    (⟨0#32, Scalar.addi 0#32 (Scalar.muli (Scalar.divsi (Scalar.subi (BitVec.ofNat 32 n.val) 0#32) 1#32) 1#32), 1#32⟩ : Scf.Loop 32).trips = n.val) (qb i)
theorem trips2 (i : grid0.Coords) : (k0_t2_loop i).trips = 0 :=
  (by decide +kernel : ∀ n : Fin 8,
    (⟨Scalar.addi 0#32 (Scalar.muli (Scalar.divsi (Scalar.subi (BitVec.ofNat 32 n.val) 0#32) 1#32) 1#32),
      Scalar.addi 0#32 (Scalar.subi (BitVec.ofNat 32 n.val) 0#32), 1#32⟩ : Scf.Loop 32).trips = 0) (qb i)

theorem trip_lt {i : grid0.Coords} (k : Fin (k0_t1_loop i).trips) : k.val < 8 :=
  Nat.lt_trans (Nat.lt_of_lt_of_eq k.isLt (trips1 i)) (qb i).isLt

section
variable (i : grid0.Coords) (k : Fin (k0_t1_loop i).trips)

theorem off3_eq : k0_off3 i k = ![k.val % 2, 0, 0] := congrArg (fun n => ![n, 0, 0]) (slotW_iv ⟨k.val, trip_lt k⟩)
theorem off4_eq : k0_off4 i k = ![k.val % 2, 256, 0] := congrArg (fun n => ![n, 256, 0]) (slotW_iv ⟨k.val, trip_lt k⟩)
theorem off5_eq : k0_off5 i k = ![k.val % 2, 512, 0] := congrArg (fun n => ![n, 512, 0]) (slotW_iv ⟨k.val, trip_lt k⟩)
theorem off6_eq : k0_off6 i k = ![k.val % 2, 768, 0] := congrArg (fun n => ![n, 768, 0]) (slotW_iv ⟨k.val, trip_lt k⟩)
theorem off8_eq : k0_off8 i k = ![(k.val + 1) % 2, 0, 0] := congrArg (fun n => ![n, 0, 0]) (slotW_next ⟨k.val, trip_lt k⟩)
theorem off9_eq : k0_off9 i k = ![(k.val + 1) % 2, 256, 0] := congrArg (fun n => ![n, 256, 0]) (slotW_next ⟨k.val, trip_lt k⟩)
theorem off10_eq : k0_off10 i k = ![(k.val + 1) % 2, 512, 0] := congrArg (fun n => ![n, 512, 0]) (slotW_next ⟨k.val, trip_lt k⟩)
theorem off11_eq : k0_off11 i k = ![(k.val + 1) % 2, 768, 0] := congrArg (fun n => ![n, 768, 0]) (slotW_next ⟨k.val, trip_lt k⟩)
theorem off23_eq : k0_off23 i = ![(qb i).val % 2, 0, 0] := congrArg (fun n => ![n, 0, 0]) (slotW_coord (qb i))
theorem off24_eq : k0_off24 i = ![(qb i).val % 2, 256, 0] := congrArg (fun n => ![n, 256, 0]) (slotW_coord (qb i))
theorem off25_eq : k0_off25 i = ![(qb i).val % 2, 512, 0] := congrArg (fun n => ![n, 512, 0]) (slotW_coord (qb i))
theorem off26_eq : k0_off26 i = ![(qb i).val % 2, 768, 0] := congrArg (fun n => ![n, 768, 0]) (slotW_coord (qb i))
theorem off1_eq (u : Fin 4) : k0_off1 i (BitVec.ofNat 32 (256 * u.val)) = ![0, 1024 * (qb i).val + 256 * u.val, 0] :=
  congrArg (fun n => ![0, n, 0]) (diagOff (qb i) u)
theorem off7_eq (u : Fin 4) : k0_off7 i k (BitVec.ofNat 32 (256 * u.val)) = ![0, 1024 * k.val + 256 * u.val, 0] :=
  congrArg (fun n => ![0, n, 0]) (rowOff ⟨k.val, trip_lt k⟩ u)
end

/-- The value columns of key block `n`, by the word the loop carries. -/
theorem off2_eq (n : Fin 8) (u : Fin 4) : k0_off2 (BitVec.ofNat 32 (1024 * n.val)) (BitVec.ofNat 32 (256 * u.val)) = ![0, 0, 0, 1024 * n.val + 256 * u.val] :=
  congrArg (fun n => ![0, 0, 0, n]) (colOff n u)
theorem off22_eq (n : Fin 8) (u : Fin 4) : k0_off22 (BitVec.ofNat 32 (1024 * n.val)) (BitVec.ofNat 32 (256 * u.val)) = ![0, 0, 0, 1024 * n.val + 256 * u.val] :=
  congrArg (fun n => ![0, 0, 0, n]) (colOff n u)

/-- The side conditions the body checks of the carried word hold of every block's word. -/
theorem chk1 (i : grid0.Coords) (k : Fin (k0_t1_loop i).trips) (n : Fin 8) : k0_chk1 i k (BitVec.ofNat 32 (1024 * n.val)) := by
  refine ⟨?_, fun r => ?_, ?_, ?_, ?_⟩
  · exact (by decide +kernel : ∀ n : Fin 8, 256 ∣ (k0_mult6 (BitVec.ofNat 32 (1024 * n.val))).toNat) n
  · rw [off2_eq]
    exact (by decide +kernel : ∀ (n : Fin 8) (u : Fin 4), ∀ a, (![0, 0, 0, 1024 * n.val + 256 * u.val] : Fin 4 → ℕ) a + S1x1x80x256.size a ≤ S1x1x80x8192.size a) n r
  · exact (by decide +kernel : ∀ n : Fin 8, 256 ∣ (k0_mult7 (BitVec.ofNat 32 (1024 * n.val))).toNat) n
  · exact (by decide +kernel : ∀ n : Fin 8, 256 ∣ (k0_mult8 (BitVec.ofNat 32 (1024 * n.val))).toNat) n
  · exact (by decide +kernel : ∀ n : Fin 8, 256 ∣ (k0_mult9 (BitVec.ofNat 32 (1024 * n.val))).toNat) n
theorem chk3 (n : Fin 8) : k0_chk3 (BitVec.ofNat 32 (1024 * n.val)) := by
  refine ⟨?_, fun r => ?_, ?_, ?_, ?_⟩
  · exact (by decide +kernel : ∀ n : Fin 8, 256 ∣ (k0_mult24 (BitVec.ofNat 32 (1024 * n.val))).toNat) n
  · rw [off22_eq]
    exact (by decide +kernel : ∀ (n : Fin 8) (u : Fin 4), ∀ a, (![0, 0, 0, 1024 * n.val + 256 * u.val] : Fin 4 → ℕ) a + S1x1x80x256.size a ≤ S1x1x80x8192.size a) n r
  · exact (by decide +kernel : ∀ n : Fin 8, 256 ∣ (k0_mult25 (BitVec.ofNat 32 (1024 * n.val))).toNat) n
  · exact (by decide +kernel : ∀ n : Fin 8, 256 ∣ (k0_mult26 (BitVec.ofNat 32 (1024 * n.val))).toNat) n
  · exact (by decide +kernel : ∀ n : Fin 8, 256 ∣ (k0_mult27 (BitVec.ofNat 32 (1024 * n.val))).toNat) n

end Cert.Proof.PI

end
-- ==== Proof.PI.Body.lean ====
/-
  The body of the shifted prompt attention, run once at symbolic operands. Per grid point it scores the query block
  against the diagonal key block (masked), then trip by trip against the blocks before it, storing a block's
  exponentials in one of two slots while the other slot's are multiplied by their value columns and added to the
  accumulator. After the loop the last slot's product is added and the rows are divided by the row of sums.
-/
module

public import proofs.«01_k».proof.Proof.PI.Words
public import Idealize.ShloMosaic.Lib.Claim
public import Idealize.ShloMosaic.Lib.WritesUnit

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The query block's buffer, read whole, -/
def qRaw (x : Vec F S1x1x128x1024 .bf16) : Vec F S1x1x128x1024 .bf16 :=
  View.ld x (Rect.unit (s := S1x1x128x1024) ![0, 0, 0, 0] S1x1x128x1024.size inb_S1x1x128x1024_S1x1x128x1024_0_0_0_0)
/-- and as a matrix. -/
def qAt (x : Vec F S1x1x128x1024 .bf16) : FVec F S128x1024 .bf16 :=
  k0_pay18 (qRaw x)

theorem kInb : ∀ (n : Fin 8) (u : Fin 4), ∀ a, (![0, 1024 * n.val + 256 * u.val, 0] : Fin 3 → ℕ) a + S1x256x128.size a ≤ S1x8192x128.size a := by
  decide +kernel
theorem vInb : ∀ (n : Fin 8) (u : Fin 4), ∀ a, (![0, 0, 0, 1024 * n.val + 256 * u.val] : Fin 4 → ℕ) a + S1x1x80x256.size a ≤ S1x1x80x8192.size a := by
  decide +kernel

/-- Key rows `256 u …` of key block `n`. -/
def kAt (y : Vec F S1x8192x128 .bf16) (n : Fin 8) (u : Fin 4) : Vec F S1x256x128 .bf16 :=
  View.ld y (Rect.unit (s := S1x8192x128) ![0, 1024 * n.val + 256 * u.val, 0] S1x256x128.size (kInb n u))
/-- Value columns `256 u …` of key block `n`. -/
def vAt (z : Vec F S1x1x80x8192 .bf16) (n : Fin 8) (u : Fin 4) : Vec F S1x1x80x256 .bf16 :=
  View.ld z (Rect.unit (s := S1x1x80x8192) ![0, 0, 0, 1024 * n.val + 256 * u.val] S1x1x80x256.size (vInb n u))

/-- A natural number as a key block. -/
def blk (n : ℕ) : Fin 8 := ⟨n % 8, Nat.mod_lt _ (by decide)⟩
theorem blk_val {n : ℕ} (h : n < 8) : (blk n).val = n := Nat.mod_eq_of_lt h
/-- The key block whose exponentials are in the slot before trip `k`: the diagonal one first, then the trips'. -/
def prevB (q : Fin 8) (k : ℕ) : Fin 8 := if k = 0 then q else blk (k - 1)

/-- The diagonal block's exponentials, in four sub-blocks of key rows. -/
def masked (q : Fin 8) (x : Vec F S1x1x128x1024 .bf16) (y : Vec F S1x8192x128 .bf16) : Fin 4 → FVec F S1x256x1024 .bf16 :=
  ![k0_pay19 (qRaw x) (kAt y q 0),
    k0_pay21 (k0_pay20 (qRaw x) (kAt y q 1)),
    k0_pay22 (qAt x) (iota .tc S256x1024 32 [0] iota_S256x1024_d0_w32) (iota .tc S256x1024 32 [1] iota_S256x1024_d1_w32) (kAt y q 2),
    k0_pay23 (qAt x) (iota .tc S256x1024 32 [0] iota_S256x1024_d0_w32) (iota .tc S256x1024 32 [1] iota_S256x1024_d1_w32) (kAt y q 3)]
/-- An earlier block's exponentials. -/
def unmasked (n : Fin 8) (x : Vec F S1x1x128x1024 .bf16) (y : Vec F S1x8192x128 .bf16) : Fin 4 → FVec F S1x256x1024 .bf16 :=
  ![k0_pay6 (k0_pay5 (qAt x) (kAt y n 0)), k0_pay7 (qAt x) (kAt y n 1), k0_pay8 (qAt x) (kAt y n 2), k0_pay25 (k0_pay9 (qAt x) (kAt y n 3))]
/-- What the slot read by trip `k` holds. -/
def prob (q : Fin 8) (x : Vec F S1x1x128x1024 .bf16) (y : Vec F S1x8192x128 .bf16) (k : ℕ) : Fin 4 → FVec F S1x256x1024 .bf16 :=
  if k = 0 then masked q x y else unmasked (blk (k - 1)) x y

/-- A key block's weighted values. -/
def wsum (z : Vec F S1x1x80x8192 .bf16) (n : Fin 8) (p : Fin 4 → FVec F S1x256x1024 .bf16) : FVec F S80x1024 .f32 :=
  k0_pay4 (k0_pay2 (vAt z n 0) (p 0) (vAt z n 1) (p 1)) (k0_pay3 (vAt z n 2)) (p 2) (vAt z n 3) (p 3)
/-- The accumulator before trip `k`. -/
def acc (q : Fin 8) (x : Vec F S1x1x128x1024 .bf16) (y : Vec F S1x8192x128 .bf16) (z : Vec F S1x1x80x8192 .bf16) : ℕ → FVec F S80x1024 .f32
  | 0 => k0_pay24
  | k + 1 => k0_pay26 (acc q x y z k) (wsum z (prevB q k) (prob q x y k))
/-- The block the body leaves: the last slot's product added, and the division. -/
def out (q : Fin 8) (x : Vec F S1x1x128x1024 .bf16) (y : Vec F S1x8192x128 .bf16) (z : Vec F S1x1x80x8192 .bf16) : FVec F S1x64x1024 .f32 :=
  k0_pay1 (acc q x y z q.val)
    (k0_pay29 (vAt z (prevB q q.val) 0) (prob q x y q.val 0)) (k0_pay30 (vAt z (prevB q q.val) 1) (prob q x y q.val 1))
    (vAt z (prevB q q.val) 2) (prob q x y q.val 2) (vAt z (prevB q q.val) 3) (prob q x y q.val 3)
/-- The output window's buffer after the body. -/
def out0_3 (q : Fin 8) (x : Vec F S1x1x128x1024 .bf16) (y : Vec F S1x8192x128 .bf16) (z : Vec F S1x1x80x8192 .bf16) : Vec F S1x64x1024 .f32 :=
  View.canon [⟨Rect.unit (s := S1x64x1024) ![0, 0, 0] S1x64x1024.size inb_S1x64x1024_S1x64x1024_0_0_0, out q x y z⟩]

theorem cover0_3 (p0 : Vec F S1x64x1024 .f32) (y : S1x64x1024.Idx) :
    ∃ pc ∈ ([⟨Rect.unit (s := S1x64x1024) ![0, 0, 0] S1x64x1024.size inb_S1x64x1024_S1x64x1024_0_0_0, p0⟩] : List (View.Piece (Elt F) S1x64x1024 .f32)), y ∈ pc.1.set :=
  View.cover_of_tiled [⟨Rect.unit (s := S1x64x1024) ![0, 0, 0] S1x64x1024.size inb_S1x64x1024_S1x64x1024_0_0_0, p0⟩] S1x64x1024.size (by rfl) y

/-! ## The score buffer's slots -/

/-- Slot `s` of the score buffer holds the four sub-blocks `p`. -/
def SlotAt (arg7 : Memref sig .tc .vmem S2x1024x1024 .bf16) (f : arg7.view.ty.Contents (Elt F)) (s : ℕ) (p : Fin 4 → FVec F S1x256x1024 .bf16) : Prop :=
  ∀ (u : Fin 4) (o : Fin 3 → ℕ) (h : ∀ a, o a + S1x256x1024.size a ≤ S2x1024x1024.size a), o = ![s, 256 * u.val, 0] →
    arg7.view.readAt (Elt F) (Rect.unit (s := S2x1024x1024) o S1x256x1024.size h).toLoadRect f = p u

/-- A load at a computed offset is the load at its closed form. -/
theorem ld_congr {s : Shape} {e : EltTy} (X : Vec F s e) (sz : Fin s.rank → ℕ) {o o' : Fin s.rank → ℕ} (e' : o = o')
    (h : ∀ a, o a + sz a ≤ s.size a) (h' : ∀ a, o' a + sz a ≤ s.size a) :
    View.ld X (Rect.unit (s := s) o sz h) = View.ld X (Rect.unit (s := s) o' sz h') := by subst e'; rfl

/-- Four stores tiling slot `s` leave their payloads there. -/
theorem slot_writes (arg7 : Memref sig .tc .vmem S2x1024x1024 .bf16) (f : arg7.view.ty.Contents (Elt F)) (s : ℕ)
    {o0 o1 o2 o3 : Fin 3 → ℕ} (h0 : ∀ a, o0 a + S1x256x1024.size a ≤ S2x1024x1024.size a) (h1 : ∀ a, o1 a + S1x256x1024.size a ≤ S2x1024x1024.size a)
    (h2 : ∀ a, o2 a + S1x256x1024.size a ≤ S2x1024x1024.size a) (h3 : ∀ a, o3 a + S1x256x1024.size a ≤ S2x1024x1024.size a)
    (e0 : o0 = ![s, 0, 0]) (e1 : o1 = ![s, 256, 0]) (e2 : o2 = ![s, 512, 0]) (e3 : o3 = ![s, 768, 0])
    (p0 p1 p2 p3 : FVec F S1x256x1024 .bf16) (p : Fin 4 → FVec F S1x256x1024 .bf16) (w0 : p0 = p 0) (w1 : p1 = p 1) (w2 : p2 = p 2) (w3 : p3 = p 3) :
    SlotAt arg7 (arg7.view.writes (Elt F) f
      [⟨Rect.unit (s := S2x1024x1024) o3 S1x256x1024.size h3, p3⟩, ⟨Rect.unit (s := S2x1024x1024) o2 S1x256x1024.size h2, p2⟩,
        ⟨Rect.unit (s := S2x1024x1024) o1 S1x256x1024.size h1, p1⟩, ⟨Rect.unit (s := S2x1024x1024) o0 S1x256x1024.size h0, p0⟩]) s p := by
  subst w0 w1 w2 w3
  intro u o h ho
  funext x
  have hx1 : (x 1).val < 256 := (x 1).isLt
  have hy : ∀ a : Fin 3, ((((Rect.unit (s := S2x1024x1024) o S1x256x1024.size h).emb x) a).val : ℕ) = (![s, 256 * u.val, 0] : Fin 3 → ℕ) a + (x a).val := fun a => by
    show o a + 1 * (x a).val = _
    exact congrArg₂ (· + ·) (congrFun ho a) (Nat.one_mul _)
  show arg7.view.read (Elt F) _ ((Rect.unit (s := S2x1024x1024) o S1x256x1024.size h).emb x) = _
  revert hy
  generalize (Rect.unit (s := S2x1024x1024) o S1x256x1024.size h).emb x = y
  intro hy
  have y1 : ((y 1).val : ℕ) = 256 * u.val + (x 1).val := hy 1
  match u, hy, y1 with
  | 0, hy, y1 =>
    rw [View.read_writes_cons_unit_of_not_mem (heq := e3) (a := (1 : Fin 3)) (ha := .inl (by rw [y1]; show 256 * 0 + (x 1).val < 768; omega)),
      View.read_writes_cons_unit_of_not_mem (heq := e2) (a := (1 : Fin 3)) (ha := .inl (by rw [y1]; show 256 * 0 + (x 1).val < 512; omega)),
      View.read_writes_cons_unit_of_not_mem (heq := e1) (a := (1 : Fin 3)) (ha := .inl (by rw [y1]; show 256 * 0 + (x 1).val < 256; omega))]
    exact View.read_writes_cons_unit_of_mem _ _ _ _ _ _ _ e0 hy
  | 1, hy, y1 =>
    rw [View.read_writes_cons_unit_of_not_mem (heq := e3) (a := (1 : Fin 3)) (ha := .inl (by rw [y1]; show 256 * 1 + (x 1).val < 768; omega)),
      View.read_writes_cons_unit_of_not_mem (heq := e2) (a := (1 : Fin 3)) (ha := .inl (by rw [y1]; show 256 * 1 + (x 1).val < 512; omega))]
    exact View.read_writes_cons_unit_of_mem _ _ _ _ _ _ _ e1 hy
  | 2, hy, y1 =>
    rw [View.read_writes_cons_unit_of_not_mem (heq := e3) (a := (1 : Fin 3)) (ha := .inl (by rw [y1]; show 256 * 2 + (x 1).val < 768; omega))]
    exact View.read_writes_cons_unit_of_mem _ _ _ _ _ _ _ e2 hy
  | 3, hy, y1 => exact View.read_writes_cons_unit_of_mem _ _ _ _ _ _ _ e3 hy

theorem ld_off1 (i : grid0.Coords) (y : Vec F S1x8192x128 .bf16) (u : Fin 4) (h) :
    View.ld y (Rect.unit (s := S1x8192x128) (k0_off1 i (BitVec.ofNat 32 (256 * u.val))) S1x256x128.size h) = kAt y (qb i) u :=
  ld_congr y _ (off1_eq i u) _ _
theorem ld_off7 (i : grid0.Coords) (k : Fin (k0_t1_loop i).trips) (y : Vec F S1x8192x128 .bf16) (u : Fin 4) (h) :
    View.ld y (Rect.unit (s := S1x8192x128) (k0_off7 i k (BitVec.ofNat 32 (256 * u.val))) S1x256x128.size h) = kAt y (blk k.val) u :=
  ld_congr y _ ((off7_eq i k u).trans (congrArg (fun n => (![0, 1024 * n + 256 * u.val, 0] : Fin 3 → ℕ)) (blk_val (trip_lt k)).symm)) _ _
theorem ld_off2 (z : Vec F S1x1x80x8192 .bf16) (n : Fin 8) (u : Fin 4) (h) :
    View.ld z (Rect.unit (s := S1x1x80x8192) (k0_off2 (BitVec.ofNat 32 (1024 * n.val)) (BitVec.ofNat 32 (256 * u.val))) S1x1x80x256.size h) = vAt z n u :=
  ld_congr z _ (off2_eq n u) _ _
theorem ld_off22 (z : Vec F S1x1x80x8192 .bf16) (n : Fin 8) (u : Fin 4) (h) :
    View.ld z (Rect.unit (s := S1x1x80x8192) (k0_off22 (BitVec.ofNat 32 (1024 * n.val)) (BitVec.ofNat 32 (256 * u.val))) S1x1x80x256.size h) = vAt z n u :=
  ld_congr z _ (off22_eq n u) _ _

theorem wsum_of (z : Vec F S1x1x80x8192 .bf16) (n : Fin 8) (p : Fin 4 → FVec F S1x256x1024 .bf16) {v0 v1 v2 v3 : Vec F S1x1x80x256 .bf16}
    (h0 : v0 = vAt z n 0) (h1 : v1 = vAt z n 1) (h2 : v2 = vAt z n 2) (h3 : v3 = vAt z n 3) :
    k0_pay4 (k0_pay2 v0 (p 0) v1 (p 1)) (k0_pay3 v2) (p 2) v3 (p 3) = wsum z n p := by subst h0 h1 h2 h3; rfl
theorem out_of (a : FVec F S80x1024 .f32) (z : Vec F S1x1x80x8192 .bf16) (n : Fin 8) (p : Fin 4 → FVec F S1x256x1024 .bf16) {v0 v1 v2 v3 : Vec F S1x1x80x256 .bf16}
    (h0 : v0 = vAt z n 0) (h1 : v1 = vAt z n 1) (h2 : v2 = vAt z n 2) (h3 : v3 = vAt z n 3) :
    k0_pay1 a (k0_pay29 v0 (p 0)) (k0_pay30 v1 (p 1)) v2 (p 2) v3 (p 3)
      = k0_pay1 a (k0_pay29 (vAt z n 0) (p 0)) (k0_pay30 (vAt z n 1) (p 1)) (vAt z n 2) (p 2) (vAt z n 3) (p 3) := by
  subst h0 h1 h2 h3; rfl

theorem prevB_succ (q : Fin 8) (k : ℕ) : prevB q (k + 1) = blk k := if_neg (Nat.succ_ne_zero k)
theorem prob_succ (q : Fin 8) (x : Vec F S1x1x128x1024 .bf16) (y : Vec F S1x8192x128 .bf16) (k : ℕ) : prob q x y (k + 1) = unmasked (blk k) x y :=
  if_neg (Nat.succ_ne_zero k)

/-- The state before trip `k`: the inputs as they are, the slot the trip reads holding its block's exponentials, and
    the carried pair. -/
def inv (c : Dev nD) (q : Fin 8) (arg3 : Memref sig .tc .vmem S1x1x128x1024 .bf16) (arg4 : Memref sig .tc .vmem S1x8192x128 .bf16)
    (arg5 : Memref sig .tc .vmem S1x1x80x8192 .bf16) (arg7 : Memref sig .tc .vmem S2x1024x1024 .bf16)
    (f0 : arg3.view.ty.Contents (Elt F)) (f1 : arg4.view.ty.Contents (Elt F)) (f2 : arg5.view.ty.Contents (Elt F))
    (k : ℕ) (a : FVec F S80x1024 .f32 × BitVec 32) : sProp 𝕄 :=
  iprop((arg4.view.loc (c : Thread nD τ) ↦[arg4.view.set]{fullShare} f1)
    ∗ (arg5.view.loc (c : Thread nD τ) ↦[arg5.view.set]{fullShare} f2)
    ∗ (∃ f, ⌜SlotAt arg7 f (k % 2) (prob q (arg3.view.read (Elt F) f0) (arg4.view.read (Elt F) f1) k)⌝ ∗ (arg7.view.loc (c : Thread nD τ) ↦[arg7.view.set]{fullShare} f))
    ∗ ⌜a = (acc q (arg3.view.read (Elt F) f0) (arg4.view.read (Elt F) f1) (arg5.view.read (Elt F) f2) k, BitVec.ofNat 32 (1024 * (prevB q k).val))⌝)

theorem sound_kernel (c : Dev nD) (E : Set ℕ) (i : grid0.Coords) (arg3 : Memref sig .tc .vmem S1x1x128x1024 .bf16) (harg3 : arg3.IsWhole)
    (arg4 : Memref sig .tc .vmem S1x8192x128 .bf16) (harg4 : arg4.IsWhole) (arg5 : Memref sig .tc .vmem S1x1x80x8192 .bf16) (harg5 : arg5.IsWhole)
    (arg6 : Memref sig .tc .vmem S1x64x1024 .f32) (harg6 : arg6.IsWhole) (arg7 : Memref sig .tc .vmem S2x1024x1024 .bf16) (harg7 : arg7.IsWhole)
    (x : Vec F S1x1x128x1024 .bf16) (y : Vec F S1x8192x128 .bf16) (z : Vec F S1x1x80x8192 .bf16) (K : PUnit → sProp 𝕄) :
    iprop(owns (c : Thread nD τ) arg3 fullShare x ∗ owns (c : Thread nD τ) arg4 fullShare y ∗ owns (c : Thread nD τ) arg5 fullShare z
        ∗ (∃ d, owns (c : Thread nD τ) arg6 fullShare d) ∗ (∃ d, owns (c : Thread nD τ) arg7 fullShare d)
        ∗ (iprop(owns (c : Thread nD τ) arg3 fullShare x ∗ owns (c : Thread nD τ) arg4 fullShare y ∗ owns (c : Thread nD τ) arg5 fullShare z
            ∗ owns (c : Thread nD τ) arg6 fullShare (out0_3 (qb i) x y z) ∗ (∃ d, owns (c : Thread nD τ) arg7 fullShare d)) -∗ K ⟨⟩))
      ⊢ wp frame (wpE (defs₀ (F := F)) Variants.none c none) E (cc0_fox_prompt_shifted i arg3 harg3 arg4 harg4 arg5 harg5 arg6 harg6 arg7 harg7) K := by
  simp only [cc0_fox_prompt_shifted_eq_skeleton]; unfold cc0_fox_prompt_shifted_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_for (inv c (qb i) arg3 arg4 arg5 arg7 f0 f1 f2) $$ [H1 H2 H4]
  case region =>
    intro k a
    unfold inv
    iintro ⟨H1, H2, ⟨%f, %hs, H4⟩, %ha⟩
    subst ha
    have hk := trip_lt k
    have hc : k0_chk1 i k (BitVec.ofNat 32 (1024 * (prevB (qb i) k.val).val)) := chk1 i k _
    have e0 := fun h => hs 0 (k0_off3 i k) h (off3_eq i k)
    have e1 := fun h => hs 1 (k0_off4 i k) h (off4_eq i k)
    have e2 := fun h => hs 2 (k0_off5 i k) h (off5_eq i k)
    have e3 := fun h => hs 3 (k0_off6 i k) h (off6_eq i k)
    sl_exec
    sl_step
    isplitl [H1]; · iexact H1
    isplitl [H2]; · iexact H2
    isplitl [H4]
    · iexists _; isplitr
      swap; · iexact H4
      ipureintro
      rw [prob_succ]
      exact slot_writes arg7 f _ _ _ _ _ (off8_eq i k) (off9_eq i k) (off10_eq i k) (off11_eq i k) _ _ _ _ _
        (congrArg (fun w => k0_pay6 (k0_pay5 (qAt (arg3.view.read (Elt F) f0)) w)) (ld_off7 i k (arg4.view.read (Elt F) f1) 0 _))
        (congrArg (fun w => k0_pay7 (qAt (arg3.view.read (Elt F) f0)) w) (ld_off7 i k (arg4.view.read (Elt F) f1) 1 _))
        (congrArg (fun w => k0_pay8 (qAt (arg3.view.read (Elt F) f0)) w) (ld_off7 i k (arg4.view.read (Elt F) f1) 2 _))
        (congrArg (fun w => k0_pay25 (k0_pay9 (qAt (arg3.view.read (Elt F) f0)) w)) (ld_off7 i k (arg4.view.read (Elt F) f1) 3 _))
    ipureintro
    refine Prod.ext ?_ ?_
    · exact congrArg (k0_pay26 (acc (qb i) _ _ _ k.val)) (wsum_of (arg5.view.read (Elt F) f2) (prevB (qb i) k.val) _
        (ld_off2 _ _ 0 _) (ld_off2 _ _ 1 _) (ld_off2 _ _ 2 _) (ld_off2 _ _ 3 _))
    · rw [prevB_succ, blk_val hk]
      exact rowW_eq ⟨k.val, hk⟩
  · unfold inv
    isplitl [H1]; · iexact H1
    isplitl [H2]; · iexact H2
    isplitl [H4]
    · iexists _; isplitr
      swap; · iexact H4
      ipureintro
      exact slot_writes arg7 f4 0 _ _ _ _ rfl rfl rfl rfl _ _ _ _ (masked (qb i) (arg3.view.read (Elt F) f0) (arg4.view.read (Elt F) f1))
        (congrArg (fun w => k0_pay19 (qRaw (arg3.view.read (Elt F) f0)) w) (ld_off1 i (arg4.view.read (Elt F) f1) 0 _))
        (congrArg (fun w => k0_pay21 (k0_pay20 (qRaw (arg3.view.read (Elt F) f0)) w)) (ld_off1 i (arg4.view.read (Elt F) f1) 1 _))
        (congrArg (fun w => k0_pay22 (qAt (arg3.view.read (Elt F) f0)) (iota .tc S256x1024 32 [0] iota_S256x1024_d0_w32) (iota .tc S256x1024 32 [1] iota_S256x1024_d1_w32) w) (ld_off1 i (arg4.view.read (Elt F) f1) 2 _))
        (congrArg (fun w => k0_pay23 (qAt (arg3.view.read (Elt F) f0)) (iota .tc S256x1024 32 [0] iota_S256x1024_d0_w32) (iota .tc S256x1024 32 [1] iota_S256x1024_d1_w32) w) (ld_off1 i (arg4.view.read (Elt F) f1) 3 _))
    ipureintro
    exact Prod.ext rfl (diagW (qb i))
  iintro %a HI
  unfold inv
  icases HI with ⟨H1, H2, ⟨%f, %hs, H4⟩, %ha⟩
  have ht : Scf.trips (k0_t1_loop i).lb (k0_t1_loop i).ub (k0_t1_loop i).st = (qb i).val := trips1 i
  rw [ht] at hs ha
  subst ha
  have hc : k0_chk3 (BitVec.ofNat 32 (1024 * (prevB (qb i) (qb i).val).val)) := chk3 _
  have e0 := fun h => hs 0 (k0_off23 i) h (off23_eq i)
  have e1 := fun h => hs 1 (k0_off24 i) h (off24_eq i)
  have e2 := fun h => hs 2 (k0_off25 i) h (off25_eq i)
  have e3 := fun h => hs 3 (k0_off26 i) h (off26_eq i)
  sl_exec
  sl_for0 (trips2 i)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    exact congrArg (fun w => View.canon [⟨Rect.unit (s := S1x64x1024) ![0, 0, 0] S1x64x1024.size inb_S1x64x1024_S1x64x1024_0_0_0, w⟩])
      (out_of _ (arg5.view.read (Elt F) f2) (prevB (qb i) (qb i).val) _ (ld_off22 _ _ 0 _) (ld_off22 _ _ 1 _) (ld_off22 _ _ 2 _) (ld_off22 _ _ 3 _))
  · iexists _; iexists f; isplitr; · ipureintro; rfl
    iexact H4

end Cert.Proof.PI

end
-- ==== Proof.PI.Run.lean ====
/-
  The pipeline's run of the shifted prompt attention: what each point leaves in each window's buffer, the body's triple
  at every point, the launch and the frame.
-/
module

public import proofs.«01_k».proof.Proof.PI.Body

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data on core `c`: an input's buffer keeps its block, the output's takes the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (qb (grid0.coords t)) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (qb (grid0.coords t)) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The score buffer, owned whole at some contents, as the invariant keeps it. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) (Memref.whole cc0_scratch0) fullShare d) := by
  rw [scopedRest0_eq]
  exact congrArg _ (funext fun f => (owns_whole (c : Thread nD τ) cc0_scratch0 fullShare f).symm)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3]
  unfold Pipeline.ΦA
  rw [scratch_eq]
  iintro ⟨⟨Hs, Hr⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.PI

end
-- ==== Proof.P.Same.lean ====
/-
  The frame of the call at its compiled formats: the pass changed nothing, so `Kernel` and `KernelIdeal` are one text,
  and the run of `KernelIdeal`, which holds over every float semantics, is that of `Kernel`.
-/
module

public import proofs.«01_k».proof.Defs
public import proofs.«01_k».proof.Proof.Gen.Kernel
public import proofs.«01_k».proof.Proof.PI.Run

@[expose] public section

set_option maxRecDepth 16384

namespace Cert.Proof.P

open Idealize.ShloMosaic

variable [hKernel : Cert.Kernel.Facts] [hKernelIdeal : Cert.KernelIdeal.Facts]

/-- The two kernel bodies are one. -/
theorem defs₀_eq : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

/-- So are the two calls. -/
theorem defs_eq : Cert.Kernel.defs (F := Bits) = Cert.KernelIdeal.defs (F := Bits) :=
  congrArg (Pipeline.defs Cert.KernelIdeal.pcfgs) defs₀_eq

/-- And the two host programs. -/
theorem main_eq : Cert.Kernel.main (F := Bits) = Cert.KernelIdeal.main (F := Bits) := by
  unfold Cert.Kernel.main Cert.KernelIdeal.main
  rfl

omit hKernelIdeal in
/-- The frame at the compiled formats. -/
theorem frame : Cert.quiescent_Kernel := fun m g _ => by
  rw [defs_eq, main_eq]
  exact Cert.Proof.PI.frame (F := Bits) m g

end Cert.Proof.P

end
-- ==== Proof.Val.Reference.lean ====
/-
  The reference's result at an index: the softmax of the masked logits, shifted by their maximum, against the values.
-/
module

public import proofs.«01_k».proof.Proof.Gen.ReferenceIdeal.Run
public import Idealize.ShloMosaic.Lib.Pointwise

@[expose] public section

set_option maxRecDepth 16384
set_option maxHeartbeats 1000000

noncomputable section

namespace Cert.Proof.Val

open Cert.ReferenceIdeal Cert.ReferenceIdeal.Gen
open Idealize.ShloMosaic Idealize.ShloMosaic.TcCoe Idealize.ShloMosaic.Tactic

/-- The reference's masked logit, of arrays of queries, keys and running sums. -/
def rsc (q k : S2x8192x8x64.Idx → EReal) (cm : S2x8192x8.Idx → EReal) (b : Fin 2) (h : Fin 8) (s t : Fin 8192) : EReal :=
  Scalar.select (IntOp.cmpi .sle (BitVec.ofNat 32 s.val) (BitVec.ofNat 32 t.val))
    (∑ i : Fin 64, q (ix4 b t h i) * Ideal.ofBits .f32 0x3E000000#32 * k (ix4 b s h i) + cm (ix3 b t h) - cm (ix3 b s h))
    (Ideal.ofBits .f32 0xFF800000#32)

/-- Its maximum over the keys. -/
def rmax (q k : S2x8192x8x64.Idx → EReal) (cm : S2x8192x8.Idx → EReal) (b : Fin 2) (h : Fin 8) (t : Fin 8192) : EReal :=
  max (Ideal.ofBits .f32 0xFF800000#32) (Finset.fold max (Ideal.ofBits .f32 0xFF800000#32) (fun s => rsc q k cm b h s t) Finset.univ)

/-- The exponential's weight of a key. -/
def rex (q k : S2x8192x8x64.Idx → EReal) (cm : S2x8192x8.Idx → EReal) (b : Fin 2) (h : Fin 8) (s t : Fin 8192) : EReal :=
  Ideal.exp (rsc q k cm b h s t - rmax q k cm b h t)

/-- The attention. -/
def attn (q k v : S2x8192x8x64.Idx → EReal) (cm : S2x8192x8.Idx → EReal) (b : Fin 2) (h : Fin 8) (d : Fin 64) (t : Fin 8192) : EReal :=
  ∑ s : Fin 8192, v (ix4 b s h d) * Ideal.div (rex q k cm b h s t) (∑ s' : Fin 8192, rex q k cm b h s' t)

/-- The reference's running sum of the log forget gates. -/
def rcum (x : S2x8192x8.Idx → EReal) : S2x8192x8.Idx → EReal :=
  Host.reduceWindowAdd (F := Ideal) (φ := .f32) ![1, 8192, 1] ![1, 1, 1] ![0, 8191, 0] ![0, 0, 0] x
    (broadcastInDim S_ ![] bcast_S_S_ (constant (F := Ideal) S_ .f32 0x00000000#32))
    reduceWindows_S2x8192x8_S2x8192x8_w1s1p0_0_w8192s1p8191_0_w1s1p0_0 h_S_

/-! ## The arrays of the program, stage by stage -/

abbrev Arr4 := FVec Ideal S2x8192x8x64 .f32
abbrev Arr3 := FVec Ideal S2x8192x8 .f32
abbrev Sq := FVec Ideal S2x8x8192x8192 .f32
abbrev Row := FVec Ideal S2x8x8192 .f32

/-- The masked logits. -/
def sqLogit (q k : Arr4) (cm : Arr3) : Sq :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (subf (addf (Host.dotGeneral dot_S2x8192x8x64_S2x8192x8x64_S2x8x8192x8192_3_3_1_1_02_02 none (mulf q (broadcastInDim S2x8192x8x64 ![] bcast_S_S2x8192x8x64 (constant S_ .f32 0x3E000000#32))) k)
      (broadcastInDim S2x8x8192x8192 ![0, 1, 2, 3] bcast_S2x8x8192x1_S2x8x8192x8192_0_1_2_3 (broadcastInDim S2x8x8192x1 ![0, 1, 2] bcast_S2x8x8192_S2x8x8192x1_0_1_2 (transpose S2x8x8192 [0, 2, 1] cm transposes_S2x8192x8_S2x8x8192_0_2_1))))
      (broadcastInDim S2x8x8192x8192 ![0, 1, 2, 3] bcast_S2x8x1x8192_S2x8x8192x8192_0_1_2_3 (broadcastInDim S2x8x1x8192 ![0, 1, 3] bcast_S2x8x8192_S2x8x1x8192_0_1_3 (transpose S2x8x8192 [0, 2, 1] cm transposes_S2x8192x8_S2x8x8192_0_2_1))))
    (broadcastInDim S2x8x8192x8192 ![] bcast_S_S2x8x8192x8192 (id (constant S_ .f32 0xFF800000#32)))

/-- A row array spread over the keys. -/
def spread (x : Row) : Sq :=
  broadcastInDim S2x8x8192x8192 ![0, 1, 2, 3] bcast_S2x8x8192x1_S2x8x8192x8192_0_1_2_3 (broadcastInDim S2x8x8192x1 ![0, 1, 2] bcast_S2x8x8192_S2x8x8192x1_0_1_2 x)

/-- The rows' maxima. -/
def rowMax (L : Sq) : Row :=
  maximumf (broadcastInDim S2x8x8192 ![] bcast_S_S2x8x8192 (constant S_ .f32 0xFF800000#32)) (Host.reduce FloatOps.maximumf L (constant S_ .f32 0xFF800000#32) reducesTo_S2x8x8192x8192_S2x8x8192_d3 h_S_)

/-- The exponentials. -/
def sqExp (L : Sq) : Sq := Host.exp (subf L (spread (rowMax L)))

/-- The rows' sums. -/
def rowSum (L : Sq) : Row :=
  Host.reduceAdd L (constant S_ .f32 0x00000000#32) reducesTo_S2x8x8192x8192_S2x8x8192_d3 h_S_

/-- The average of the values, laid out as the result. -/
def outer (v : Arr4) (P : Sq) : FVec Ideal S2x512x8192 .f32 :=
  transpose S2x512x8192 [0, 2, 1] (shapeCast _ (transpose S2x8192x8x64 [0, 3, 1, 2] (Host.dotGeneral dot_S2x8192x8x64_S2x8x8192x8192_S2x8x64x8192_1_3_3_2_02_01 none v P) transposes_S2x8x64x8192_S2x8192x8x64_0_3_1_2) shapeCasts_S2x8192x8x64_S2x8192x512) transposes_S2x8192x512_S2x512x8192_0_2_1

theorem sqLogit_at (q k : Arr4) (cm : Arr3) (b : Fin 2) (h : Fin 8) (t s : Fin 8192) :
    (sqLogit q k cm : S2x8x8192x8192.Idx → EReal) (ix4 b h t s) = rsc q k cm b h s t := by
  unfold sqLogit rsc
  pointwise
  rfl

theorem spread_at (x : Row) (b : Fin 2) (h : Fin 8) (t s : Fin 8192) :
    (spread x : S2x8x8192x8192.Idx → EReal) (ix4 b h t s) = (x : S2x8x8192.Idx → EReal) (ix3 b h t) := by
  unfold spread
  pointwise

/-- A maximum over the last axis, at any extents. -/
theorem reduceMax_at {a e n r : Nat} (L : FVec Ideal ⟨4, ![a, e, r, n]⟩ .f32)
    (h : (⟨4, ![a, e, r, n]⟩ : Shape).ReducesTo [3] ⟨3, ![a, e, r]⟩) (h' : (⟨4, ![a, e, r, n]⟩ : Shape).Reduces [3] ⟨3, ![a, e, r]⟩)
    (hu : 0 < S_.numel) (i : Fin a) (j : Fin e) (k : Fin r) :
    (Host.reduce (FloatOps.maximumf (F := Ideal) (φ := .f32)) L (constant (F := Ideal) S_ .f32 0xFF800000#32) h hu (ix3 i j k) : EReal) =
      Finset.fold max (Ideal.ofBits .f32 0xFF800000#32) (fun s : Fin n => (L (ix4 i j k s) : EReal)) Finset.univ := by
  rw [Host.reduce_eq_fold_single FloatOps.maximumf L _ h h' hu]
  refine congrArg (fun f : Fin n → EReal => Finset.fold max (Ideal.ofBits .f32 0xFF800000#32) f Finset.univ) (funext fun s => congrArg L ?_)
  funext d
  apply Fin.ext
  fin_cases d <;> rfl

theorem maxBot_at (Y : Row) (b : Fin 2) (h : Fin 8) (t : Fin 8192) :
    (maximumf (broadcastInDim S2x8x8192 ![] bcast_S_S2x8x8192 (constant (F := Ideal) S_ .f32 0xFF800000#32)) Y : S2x8x8192.Idx → EReal) (ix3 b h t) =
      max (Ideal.ofBits .f32 0xFF800000#32) (Y (ix3 b h t) : EReal) := by
  pointwise

theorem reducesRow : S2x8x8192x8192.Reduces [3] S2x8x8192 := by decide

theorem rowMax_at (L : Sq) (b : Fin 2) (h : Fin 8) (t : Fin 8192) :
    (rowMax L : S2x8x8192.Idx → EReal) (ix3 b h t) =
      max (Ideal.ofBits .f32 0xFF800000#32) (Finset.fold max (Ideal.ofBits .f32 0xFF800000#32)
        (fun s : Fin 8192 => (L : S2x8x8192x8192.Idx → EReal) (ix4 b h t s)) Finset.univ) := by
  unfold rowMax
  exact (maxBot_at _ b h t).trans (congrArg _ (reduceMax_at L reducesTo_S2x8x8192x8192_S2x8x8192_d3 reducesRow h_S_ b h t))

theorem rowSum_at (L : Sq) (b : Fin 2) (h : Fin 8) (t : Fin 8192) :
    (rowSum L : S2x8x8192.Idx → EReal) (ix3 b h t) = ∑ s : Fin 8192, (L : S2x8x8192x8192.Idx → EReal) (ix4 b h t s) := by
  unfold rowSum
  pointwise

theorem sqExp_at (L : Sq) (b : Fin 2) (h : Fin 8) (t s : Fin 8192) :
    (sqExp L : S2x8x8192x8192.Idx → EReal) (ix4 b h t s) =
      Ideal.exp ((L : S2x8x8192x8192.Idx → EReal) (ix4 b h t s) - (rowMax L : S2x8x8192.Idx → EReal) (ix3 b h t)) :=
  congrArg (fun y : EReal => Ideal.exp ((L : S2x8x8192x8192.Idx → EReal) (ix4 b h t s) - y)) (spread_at _ b h t s)

theorem outer_at (v : Arr4) (P : Sq) (b : Fin 2) (D : Fin 512) (t : Fin 8192) :
    (outer v P : S2x512x8192.Idx → EReal) (ix3 b D t) =
      (∑ s : Fin 8192, (v : S2x8192x8x64.Idx → EReal) (ix4 b s ⟨D.val / 64, by omega⟩ ⟨D.val % 64, by omega⟩) *
        (P : S2x8x8192x8192.Idx → EReal) (ix4 b ⟨D.val / 64, by omega⟩ t s) : EReal) := by
  unfold outer
  pointwise

/-- The stages put together are the attention. -/
theorem stages (q k v : Arr4) (cm : Arr3) (b : Fin 2) (D : Fin 512) (t : Fin 8192) :
    (outer v (Host.divf (sqExp (sqLogit q k cm)) (spread (rowSum (sqExp (sqLogit q k cm))))) : S2x512x8192.Idx → EReal) (ix3 b D t) =
      attn q k v cm b ⟨D.val / 64, by omega⟩ ⟨D.val % 64, by omega⟩ t := by
  have e : ∀ h s, (sqExp (sqLogit q k cm) : S2x8x8192x8192.Idx → EReal) (ix4 b h t s) = rex q k cm b h s t := fun h s => by
    rw [sqExp_at, sqLogit_at, rowMax_at]
    simp only [sqLogit_at]
    rfl
  refine (outer_at v _ b D t).trans (Finset.sum_congr rfl fun s _ => congrArg _ ?_)
  refine congrArg₂ Ideal.div (e _ s) ((spread_at _ b _ t s).trans ((rowSum_at _ b _ t).trans (Finset.sum_congr rfl fun s' _ => e _ s')))

variable (m : (ℓ : Loc nD τ sig) → Buf (Elt Ideal) ℓ) (c : Dev nD)

theorem res_stages : Cert.ReferenceIdeal.Value.res_main_v32 m c =
    outer (m (c, Proc.tc.devRef main_arg2)) (Host.divf
      (sqExp (sqLogit (m (c, Proc.tc.devRef main_arg0)) (m (c, Proc.tc.devRef main_arg1)) (rcum (m (c, Proc.tc.devRef main_arg3)))))
      (spread (rowSum (sqExp (sqLogit (m (c, Proc.tc.devRef main_arg0)) (m (c, Proc.tc.devRef main_arg1)) (rcum (m (c, Proc.tc.devRef main_arg3)))))))) := rfl

theorem ref_at (b : Fin 2) (D : Fin 512) (t : Fin 8192) :
    (Cert.ReferenceIdeal.Value.res_main_v32 m c : S2x512x8192.Idx → EReal) (ix3 b D t) =
      attn (m (c, Proc.tc.devRef main_arg0)) (m (c, Proc.tc.devRef main_arg1)) (m (c, Proc.tc.devRef main_arg2))
        (rcum (m (c, Proc.tc.devRef main_arg3))) b ⟨D.val / 64, by omega⟩ ⟨D.val % 64, by omega⟩ t := by
  rw [res_stages]
  exact stages _ _ _ _ b D t

end Cert.Proof.Val

end
-- ==== Proof.Val.Operands.lean ====
/-
  What the call's three operands hold, at an index, as terms of the program's arguments: the host lines that lay the
  queries, the keys, the values and the running sums of the log forget gates out.
-/
module

public import proofs.«01_k».proof.Proof.PI.Run
public import Idealize.ShloMosaic.Lib.StableHlo.ReadAt
public import Idealize.ShloMosaic.Lib.Pointwise

@[expose] public section

set_option maxRecDepth 16384
set_option maxHeartbeats 1000000

noncomputable section

namespace Cert.Proof.Val

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The queries, the keys, the values: batch, token, head, feature. -/
abbrev aq : S2x8192x8x64.Idx → EReal := m (c, Proc.tc.devRef main_arg0)
abbrev ak : S2x8192x8x64.Idx → EReal := m (c, Proc.tc.devRef main_arg1)
abbrev av : S2x8192x8x64.Idx → EReal := m (c, Proc.tc.devRef main_arg2)
/-- The log forget gates: batch, token, head. -/
abbrev alf : S2x8192x8.Idx → EReal := m (c, Proc.tc.devRef main_arg3)

/-- The running sum of the log forget gates, as the host prints it. -/
def cumv (x : S2x8192x8.Idx → EReal) : S2x8192x8.Idx → EReal :=
  Host.reduceWindowAdd (F := Ideal) (φ := .f32) ![1, 8192, 1] ![1, 1, 1] ![0, 8191, 0] ![0, 0, 0] x
    (broadcastInDim S_ ![] bcast_S_S_ (constant (F := Ideal) S_ .f32 0x00000000#32))
    reduceWindows_S2x8192x8_S2x8192x8_w1s1p0_0_w8192s1p8191_0_w1s1p0_0 h_S_

/-- One over the logarithm of two. -/
def l2e : EReal := Ideal.div 1 (Ideal.log (Ideal.ofBits .f32 0x40000000#32))

/-- The shift of the scores. -/
def shiftv : EReal := V m c main_v9 ix0

/-- The scaled running sum. -/
def c2 (b : Fin 2) (t : Fin 8192) (h : Fin 8) : EReal := cumv (alf m c) (ix3 b t h) * l2e

/-- The scaled running sum less the shift. -/
def xq (b : Fin 2) (t : Fin 8192) (h : Fin 8) : EReal := c2 m c b t h - shiftv m c

/-! ## Values -/

/-- The values' operand: the values, feature major, over sixteen rows of ones. -/
theorem vtb_at (b : Fin 2) (h : Fin 8) (d : Fin 80) (t : Fin 8192) : V m c main_v77 (ix4 b h d t) =
    if hd : d.val < 64 then av m c (ix4 b t h ⟨d.val, hd⟩) else 1 := by
  unfold V
  after_reads_at
  after_reads_at

/-! ## Queries -/

theorem v54_at (b : Fin 2) (h : Fin 8) (d : Fin 128) (t : Fin 8192) :
    V m c main_v54 (ix4 b h d t) = BitVec.ofBool (decide (h.val % 2 = 0)) := by
  unfold V
  after_reads_at
  revert h
  decide +kernel

theorem v57_at (b : Fin 2) (h : Fin 8) (d : Fin 128) (t : Fin 8192) : V m c main_v57 (ix4 b h d t) =
    Scalar.select (V m c main_v54 (ix4 b h d t)) (V m c main_v55 (ix4 b h d t)) (V m c main_v56 (ix4 b h d t)) := by
  unfold V
  simp only [StableHlo.readAfter, StableHlo.readUpto, StableHlo.ternary_result']
  rfl

theorem v58_at (b : Fin 2) (h : Fin 8) (d : Fin 128) (t : Fin 8192) :
    V m c main_v58 (ix4 b h d t) = V m c main_v57 (ix4 b h d t) := by
  unfold V
  simp only [StableHlo.readAfter, StableHlo.readUpto, StableHlo.unary_result']
  rfl

theorem v55_at (b : Fin 2) (h : Fin 8) (d : Fin 128) (t : Fin 8192) : V m c main_v55 (ix4 b h d t) =
    if hd : d.val < 64 then V m c main_v34 (ix4 b h ⟨d.val, hd⟩ t) else V m c main_v50 (ix4 b h ⟨d.val - 64, by omega⟩ t) := by
  unfold V
  simp only [StableHlo.readAfter, StableHlo.readUpto, StableHlo.binary_result']
  clean_types
  pointwise

theorem v56_at (b : Fin 2) (h : Fin 8) (d : Fin 128) (t : Fin 8192) : V m c main_v56 (ix4 b h d t) =
    if hd : d.val < 64 then V m c main_v50 (ix4 b h ⟨d.val, hd⟩ t) else V m c main_v34 (ix4 b h ⟨d.val - 64, by omega⟩ t) := by
  unfold V
  simp only [StableHlo.readAfter, StableHlo.readUpto, StableHlo.binary_result']
  clean_types
  pointwise

/-- The scaled queries. -/
theorem v34_at (b : Fin 2) (h : Fin 8) (d : Fin 64) (t : Fin 8192) : V m c main_v34 (ix4 b h d t) =
    aq m c (ix4 b t h d) * (Ideal.ofBits .f32 0x3E000000#32 * l2e) := by
  unfold V l2e
  after_reads_at

/-- The rows beside the queries, part by part. -/
theorem v50_at (b : Fin 2) (h : Fin 8) (i : Fin 64) (t : Fin 8192) : V m c main_v50 (ix4 b h i t) =
    if h1 : i.val < 1 then V m c main_v40 (ix4 b h ⟨i.val, h1⟩ t)
    else if h2 : i.val - 1 < 1 then V m c main_v42 (ix4 b h ⟨i.val - 1, h2⟩ t)
    else if h3 : i.val - 1 - 1 < 1 then V m c main_v44 (ix4 b h ⟨i.val - 1 - 1, h3⟩ t)
    else if h4 : i.val - 1 - 1 - 1 < 5 then V m c main_v45 (ix4 b h ⟨i.val - 1 - 1 - 1, h4⟩ t)
    else if h5 : i.val - 1 - 1 - 1 - 5 < 8 then V m c main_v47 (ix4 b h ⟨i.val - 1 - 1 - 1 - 5, h5⟩ t)
    else if h6 : i.val - 1 - 1 - 1 - 5 - 8 < 8 then V m c main_v48 (ix4 b h ⟨i.val - 1 - 1 - 1 - 5 - 8, h6⟩ t)
    else if h7 : i.val - 1 - 1 - 1 - 5 - 8 - 8 < 8 then V m c main_v49 (ix4 b h ⟨i.val - 1 - 1 - 1 - 5 - 8 - 8, h7⟩ t)
    else V m c main_v46 (ix4 b h ⟨i.val - 1 - 1 - 1 - 5 - 8 - 8 - 8, by omega⟩ t) := by
  unfold V
  simp only [StableHlo.readAfter, StableHlo.nary_result']
  clean_types
  pointwise
  simp only [StableHlo.readUpto]

theorem v40_at (b : Fin 2) (h : Fin 8) (i : Fin 1) (t : Fin 8192) : V m c main_v40 (ix4 b h i t) = xq m c b t h := by
  unfold xq c2 shiftv V l2e cumv
  after_reads_at

theorem v42_at (b : Fin 2) (h : Fin 8) (i : Fin 1) (t : Fin 8192) :
    V m c main_v42 (ix4 b h i t) = xq m c b t h - xq m c b t h := by
  unfold xq c2 shiftv V l2e cumv
  after_reads_at

theorem v44_at (b : Fin 2) (h : Fin 8) (i : Fin 1) (t : Fin 8192) :
    V m c main_v44 (ix4 b h i t) = xq m c b t h - xq m c b t h - (xq m c b t h - xq m c b t h) := by
  unfold xq c2 shiftv V l2e cumv
  after_reads_at

theorem v45_at (b : Fin 2) (h : Fin 8) (i : Fin 5) (t : Fin 8192) : V m c main_v45 (ix4 b h i t) = (0 : EReal) := by
  unfold V
  after_reads_at

theorem v46_at (b : Fin 2) (h : Fin 8) (i : Fin 32) (t : Fin 8192) : V m c main_v46 (ix4 b h i t) = (0 : EReal) := by
  unfold V
  after_reads_at

theorem v47_at (b : Fin 2) (h : Fin 8) (i : Fin 8) (t : Fin 8192) : V m c main_v47 (ix4 b h i t) =
    Scalar.select (IntOp.cmpi .eq (BitVec.ofNat 32 i.val) (BitVec.ofNat 32 h.val)) (Ideal.ofBits .f32 0xBF800000#32) 0 := by
  unfold V
  after_reads_at
  simp only [id]
  pointwise

/-! ## Keys -/

theorem v73_at (b : Fin 2) (h : Fin 8) (d : Fin 128) (t : Fin 8192) :
    V m c main_v73 (ix3 b t ⟨128 * h.val + d.val, by omega⟩) = V m c main_v71 (ix4 b t h d) := by
  unfold V
  simp only [StableHlo.readAfter, StableHlo.readUpto, StableHlo.unary_result', StableHlo.reshape_result']
  clean_types
  pointwise
  have e1 : (⟨(128 * h.val + d.val) / 128, by omega⟩ : Fin 8) = h := Fin.ext (by simp only []; omega)
  have e2 : (⟨(128 * h.val + d.val) % 128, by omega⟩ : Fin 128) = d := Fin.ext (by simp only []; omega)
  rw [e1, e2]

theorem v68_at (b : Fin 2) (h : Fin 8) (d : Fin 128) (t : Fin 8192) :
    V m c main_v68 (ix4 b t h d) = BitVec.ofBool (decide (h.val % 2 = 0)) := by
  unfold V
  after_reads_at
  revert h
  decide +kernel

theorem v71_at (b : Fin 2) (h : Fin 8) (d : Fin 128) (t : Fin 8192) : V m c main_v71 (ix4 b t h d) =
    Scalar.select (V m c main_v68 (ix4 b t h d)) (V m c main_v69 (ix4 b t h d)) (V m c main_v70 (ix4 b t h d)) := by
  unfold V
  simp only [StableHlo.readAfter, StableHlo.readUpto, StableHlo.ternary_result']
  rfl

theorem v69_at (b : Fin 2) (h : Fin 8) (d : Fin 128) (t : Fin 8192) : V m c main_v69 (ix4 b t h d) =
    if hd : d.val < 64 then ak m c (ix4 b t h ⟨d.val, hd⟩) else V m c main_v62 (ix3 b t ⟨d.val - 64, by omega⟩) := by
  unfold V
  simp only [StableHlo.readAfter, StableHlo.readUpto, StableHlo.binary_result', StableHlo.unary_result']
  clean_types
  pointwise

theorem v70_at (b : Fin 2) (h : Fin 8) (d : Fin 128) (t : Fin 8192) : V m c main_v70 (ix4 b t h d) =
    if hd : d.val < 64 then V m c main_v62 (ix3 b t ⟨d.val, hd⟩) else ak m c (ix4 b t h ⟨d.val - 64, by omega⟩) := by
  unfold V
  simp only [StableHlo.readAfter, StableHlo.readUpto, StableHlo.binary_result', StableHlo.unary_result']
  clean_types
  pointwise

theorem v62_at (b : Fin 2) (i : Fin 64) (t : Fin 8192) : V m c main_v62 (ix3 b t i) =
    if h1 : i.val < 3 then V m c main_v59 (ix3 b t ⟨i.val, h1⟩)
    else if h2 : i.val - 3 < 5 then V m c main_v60 (ix3 b t ⟨i.val - 3, h2⟩)
    else if h3 : i.val - 3 - 5 < 8 then V m c main_v24 (ix3 b t ⟨i.val - 3 - 5, h3⟩)
    else if h4 : i.val - 3 - 5 - 8 < 8 then V m c main_v27 (ix3 b t ⟨i.val - 3 - 5 - 8, h4⟩)
    else if h5 : i.val - 3 - 5 - 8 - 8 < 8 then V m c main_v30 (ix3 b t ⟨i.val - 3 - 5 - 8 - 8, h5⟩)
    else V m c main_v61 (ix3 b t ⟨i.val - 3 - 5 - 8 - 8 - 8, by omega⟩) := by
  unfold V
  simp only [StableHlo.readAfter, StableHlo.nary_result']
  clean_types
  pointwise
  simp only [StableHlo.readUpto]

theorem v59_at (b : Fin 2) (i : Fin 3) (t : Fin 8192) : V m c main_v59 (ix3 b t i) = (1 : EReal) := by
  unfold V
  after_reads_at

theorem v24_at (b : Fin 2) (i : Fin 8) (t : Fin 8192) : V m c main_v24 (ix3 b t i) = c2 m c b t i := by
  unfold c2 V l2e cumv
  after_reads_at

theorem v27_at (b : Fin 2) (i : Fin 8) (t : Fin 8192) : V m c main_v27 (ix3 b t i) = c2 m c b t i - c2 m c b t i := by
  unfold c2 V l2e cumv
  after_reads_at

theorem v30_at (b : Fin 2) (i : Fin 8) (t : Fin 8192) : V m c main_v30 (ix3 b t i) =
    c2 m c b t i - c2 m c b t i - (c2 m c b t i - c2 m c b t i) := by
  unfold c2 V l2e cumv
  after_reads_at

/-- The shift: a bound on the scores from the two gains, when that is at most fifty. -/
theorem shift_read : shiftv m c =
    if Ideal.ofBits .f32 0x4138AA3B#32 * Finset.fold max (Ideal.ofBits .f32 0xFF800000#32)
          (fun k : Fin 64 => FloatOps.absf (F := Ideal) (φ := .f32) ((m (c, Proc.tc.devRef main_arg4) : S64.Idx → EReal) (ix1 k))) Finset.univ
        * Finset.fold max (Ideal.ofBits .f32 0xFF800000#32)
          (fun k : Fin 64 => FloatOps.absf (F := Ideal) (φ := .f32) ((m (c, Proc.tc.devRef main_arg5) : S64.Idx → EReal) (ix1 k))) Finset.univ
        ≤ Ideal.ofBits .f32 0x42480000#32 then
      Ideal.ofBits .f32 0x4138AA3B#32 * Finset.fold max (Ideal.ofBits .f32 0xFF800000#32)
          (fun k : Fin 64 => FloatOps.absf (F := Ideal) (φ := .f32) ((m (c, Proc.tc.devRef main_arg4) : S64.Idx → EReal) (ix1 k))) Finset.univ
        * Finset.fold max (Ideal.ofBits .f32 0xFF800000#32)
          (fun k : Fin 64 => FloatOps.absf (F := Ideal) (φ := .f32) ((m (c, Proc.tc.devRef main_arg5) : S64.Idx → EReal) (ix1 k))) Finset.univ
    else 0 := by
  unfold shiftv V
  after_reads_at
  simp only [id]
  pointwise

end Cert.Proof.Val

end
-- ==== Proof.Val.Finite.lean ====
/-
  What the precondition gives: the queries, the keys and the log forget gates are real numbers, and so are the running
  sums, the scale and the shift.
-/
module

public import proofs.«01_k».proof.Proof.Val.Operands
public import proofs.«01_k».proof.Defs
public import Idealize.ShloMosaic.Lib.ReduceAll
public import Idealize.ShloMosaic.Lib.IdealHost

@[expose] public section

set_option maxRecDepth 16384
set_option maxHeartbeats 1000000

noncomputable section

namespace Cert.Proof.Val

open Cert.KernelIdeal Cert.KernelIdeal.Gen
open Idealize.ShloMosaic Idealize.ShloMosaic.TcCoe Idealize.ShloMosaic.Tactic

/-! ## The literals -/

theorem bits_two : Ideal.ofBits .f32 0x40000000#32 = ((2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_fifty : Ideal.ofBits .f32 0x42480000#32 = ((50 : ℝ) : EReal) := by
  simp [Ideal.ofBits, Ideal.ieee, -EReal.coe_mul]; norm_num
theorem bits_bound : ∃ r : ℝ, 0 < r ∧ Ideal.ofBits .f32 0x4138AA3B#32 = (r : EReal) := by
  refine ⟨12102203 / 1048576, by norm_num, ?_⟩
  simp [Ideal.ofBits, Ideal.ieee, -EReal.coe_mul]; norm_num

/-- The logarithm of e to the base two. -/
def lg : ℝ := 1 / Real.log 2

theorem l2e_coe : l2e = ((lg : ℝ) : EReal) := by
  have h2 : Real.log 2 ≠ 0 := (Real.log_pos (by norm_num)).ne'
  unfold l2e lg
  rw [bits_two, Ideal.log_coe, if_neg (by norm_num), Ideal.div_coe h2, one_mul]

/-! ## Real arrays -/

theorem real_of_lt {x : EReal} (h : FloatOps.cmpf (F := Ideal) (φ := .f32) .olt (max x (-x)) (Ideal.ofBits .f32 0x7F800000#32) = 1#1) :
    ∃ r : ℝ, x = (r : EReal) := by
  rw [bits_top] at h
  induction x using EReal.rec with
  | bot => exact absurd h (by simp [FloatOps.cmpf, Ideal.cmp])
  | coe r => exact ⟨r, rfl⟩
  | top => exact absurd h (by simp [FloatOps.cmpf, Ideal.cmp])

theorem foldl_real {ι : Type} (f : ι → EReal) (hf : ∀ i, ∃ r : ℝ, f i = (r : EReal)) (l : List ι) :
    ∀ s : EReal, (∃ r : ℝ, s = (r : EReal)) → ∃ r : ℝ, l.foldl (fun a i => a + f i) s = (r : EReal) := by
  induction l with
  | nil => exact fun s h => h
  | cons i l ih =>
    intro s ⟨r, hs⟩
    obtain ⟨w, hw⟩ := hf i
    exact ih _ ⟨r + w, by show s + f i = _; rw [hs, hw, EReal.coe_add]⟩

theorem window_real {s t u : Shape} (window strides lo hi : Fin s.rank → Nat) (h : s.ReduceWindows window strides lo hi t)
    (hu : 0 < u.numel) (x : s.Idx → EReal) (init : u.Idx → EReal) (hx : ∀ i, ∃ r : ℝ, x i = (r : EReal))
    (hv : ∀ i, ∃ r : ℝ, init i = (r : EReal)) (j : t.Idx) :
    ∃ r : ℝ, Host.reduceWindowAdd (F := Ideal) (φ := .f32) window strides lo hi x init h hu j = (r : EReal) := by
  show ∃ r : ℝ, Ideal.hostReduceWindowAdd window strides lo hi h x (init (Shape.Idx.first hu)) j = (r : EReal)
  unfold Ideal.hostReduceWindowAdd Host.reduceWindow
  refine foldl_real _ (fun n => ?_) _ _ (hv _)
  dsimp only
  split
  · exact hx _
  · exact hv _

theorem cumv_real (x : S2x8192x8.Idx → EReal) (hx : ∀ i, ∃ r : ℝ, x i = (r : EReal)) (i : S2x8192x8.Idx) :
    ∃ r : ℝ, cumv x i = (r : EReal) := by
  unfold cumv
  exact window_real _ _ _ _ _ _ _ _ hx (fun _ => ⟨0, Ideal.ofBits_zero_f32⟩) i

/-! ## The precondition -/

variable (m : (ℓ : Loc nD τ sig) → Buf (Elt Ideal) ℓ) (c : Dev nD)

/-- The queries, the keys and the log forget gates are real. -/
structure Real3 : Prop where
  q : ∀ i, ∃ r : ℝ, aq m c i = (r : EReal)
  k : ∀ i, ∃ r : ℝ, ak m c i = (r : EReal)
  lf : ∀ i, ∃ r : ℝ, alf m c i = (r : EReal)

theorem real3 [hPre : Cert.Pre_finite.Facts] (h : Cert.Pre_KernelIdeal_finite m) : Real3 m c := by
  have e := congrFun (h c) ix0
  dsimp only [Cert.Pre_finite.fn] at e
  have e1 := IntOp.andi_eq_one.mp e
  have e2 := IntOp.andi_eq_one.mp e1.1
  have : Subsingleton Cert.Pre_finite.S_.Idx := ⟨fun a b => funext fun i => i.elim0⟩
  exact ⟨fun i => real_of_lt (Host.reduce_andi_all _ _ _ _ _ e2.1 i),
    fun i => real_of_lt (Host.reduce_andi_all _ _ _ _ _ e2.2 i),
    fun i => real_of_lt (Host.reduce_andi_all _ _ _ _ _ e1.2 i)⟩

/-! ## The shift -/

theorem fold_abs_nonneg (x : Fin 64 → EReal) :
    0 ≤ Finset.fold max (⊥ : EReal) (fun k : Fin 64 => FloatOps.absf (F := Ideal) (φ := .f32) (x k)) Finset.univ := by
  rw [Finset.le_fold_max]
  refine Or.inr ⟨0, Finset.mem_univ _, ?_⟩
  show (0 : EReal) ≤ max (x 0) (-(x 0))
  rcases le_total (0 : EReal) (x 0) with h | h
  · exact le_max_of_le_left h
  · exact le_max_of_le_right (by rw [← neg_zero]; exact EReal.neg_le_neg_iff.mpr h)

theorem shift_real : ∃ r : ℝ, shiftv m c = (r : EReal) := by
  rw [shift_read]
  obtain ⟨w, hw, ew⟩ := bits_bound
  rw [ew, bits_fifty, bits_bot]
  split
  · rename_i h
    have h0 : (0 : EReal) ≤ _ := mul_nonneg (mul_nonneg (EReal.coe_nonneg.mpr hw.le)
      (fold_abs_nonneg fun k => (m (c, Proc.tc.devRef main_arg4) : S64.Idx → EReal) (ix1 k)))
      (fold_abs_nonneg fun k => (m (c, Proc.tc.devRef main_arg5) : S64.Idx → EReal) (ix1 k))
    exact ⟨_, (EReal.coe_toReal (ne_top_of_le_ne_top (EReal.coe_ne_top _) h) (ne_bot_of_le_ne_bot EReal.zero_ne_bot h0)).symm⟩
  · exact ⟨0, rfl⟩

end Cert.Proof.Val

end
-- ==== Proof.Val.Block.lean ====
/-
  The body's block at the ideal instance, read at an index: the sum over key blocks of the values times the exponentials,
  divided by the same sum of the exponentials alone.
-/
module

public import proofs.«01_k».proof.Proof.Val.Finite
public import Idealize.ShloMosaic.Lib.WordCmp

@[expose] public section

set_option maxRecDepth 16384
set_option maxHeartbeats 1000000

noncomputable section

namespace Cert.Proof.Val

open Cert.KernelIdeal Cert.KernelIdeal.Gen Cert.Proof.PI
open Idealize.ShloMosaic Idealize.ShloMosaic.TcCoe Idealize.ShloMosaic.Tactic

variable (q : Fin 8) (x : Vec Ideal S1x1x128x1024 .bf16) (y : Vec Ideal S1x8192x128 .bf16) (z : Vec Ideal S1x1x80x8192 .bf16)

/-- Key row `256 u + κ` of key block `n`. -/
def row (n : Fin 8) (u : Fin 4) (κ : Fin 256) : Fin 8192 := ⟨1024 * n.val + 256 * u.val + κ.val, by omega⟩

theorem qAt_at (d : Fin 128) (r : Fin 1024) : qAt x (ix2 d r) = x (ix4 0 0 d r) := by
  unfold qAt qRaw k0_pay18
  pointwise

theorem kAt_at (n : Fin 8) (u : Fin 4) (κ : Fin 256) (d : Fin 128) : kAt y n u (ix3 0 κ d) = y (ix3 0 (row n u κ) d) := by
  unfold kAt row
  pointwise

theorem vAt_at (n : Fin 8) (u : Fin 4) (d : Fin 80) (κ : Fin 256) : vAt z n u (ix4 0 0 d κ) = z (ix4 0 0 d (row n u κ)) := by
  unfold vAt row
  pointwise

/-- The score of key row `s` and query column `r`. -/
def sc (x : Vec Ideal S1x1x128x1024 .bf16) (y : Vec Ideal S1x8192x128 .bf16) (s : Fin 8192) (r : Fin 1024) : EReal :=
  ∑ d : Fin 128, (y (ix3 0 s d) : EReal) * (x (ix4 0 0 d r) : EReal)

theorem unmasked_at (n : Fin 8) (u : Fin 4) (κ : Fin 256) (r : Fin 1024) :
    unmasked n x y u (ix3 0 κ r) = Ideal.exp2 (sc x y (row n u κ) r) := by
  unfold unmasked sc
  simp only [← kAt_at, ← qAt_at]
  fin_cases u
  · dsimp only
    unfold k0_pay6 k0_pay5
    pointwise
    rfl
  · dsimp only
    unfold k0_pay7
    pointwise
    rfl
  · dsimp only
    unfold k0_pay8
    pointwise
    rfl
  · dsimp only
    unfold k0_pay25 k0_pay9
    pointwise
    rfl

/-- The exponential of a masked score. -/
theorem mask_exp (u : Fin 4) (κ : Fin 256) (r : Fin 1024) (a : EReal) :
    FloatOps.exp2 (F := Ideal) (φ := .f32) (Scalar.select (IntOp.cmpi .sle (IntOp.addi (BitVec.ofNat 32 κ.val) (BitVec.ofNat 32 (256 * u.val)))
      (BitVec.ofNat 32 r.val)) a (Ideal.ofBits .f32 0xFF800000#32)) =
    if 256 * u.val + κ.val ≤ r.val then Ideal.exp2 a else 0 := by
  rw [WordCmp.addi_ofNat, WordCmp.cmpi_sle_ofNat (by omega) (by omega), bits_bot, Nat.add_comm]
  by_cases h : 256 * u.val + κ.val ≤ r.val
  · rw [if_pos h, decide_eq_true h]; rfl
  · rw [if_neg h, decide_eq_false h]; rfl

theorem masked_at (u : Fin 4) (κ : Fin 256) (r : Fin 1024) :
    masked q x y u (ix3 0 κ r) = if 256 * u.val + κ.val ≤ r.val then Ideal.exp2 (sc x y (row q u κ) r) else 0 := by
  unfold masked sc
  simp only [← kAt_at, ← qAt_at]
  fin_cases u
  · dsimp only
    unfold k0_pay19
    pointwise
    exact (mask_exp 0 κ r _).trans (if_congr (by simp) rfl rfl)
  · dsimp only
    unfold k0_pay21 k0_pay20
    pointwise
    exact mask_exp 1 κ r _
  · dsimp only
    unfold k0_pay22
    pointwise
    exact mask_exp 2 κ r _
  · dsimp only
    unfold k0_pay23
    pointwise
    exact mask_exp 3 κ r _

theorem wsum_at (n : Fin 8) (p : Fin 4 → FVec Ideal S1x256x1024 .bf16) (d : Fin 80) (r : Fin 1024) :
    wsum z n p (ix2 d r) = ∑ u : Fin 4, ∑ κ : Fin 256, (z (ix4 0 0 d (row n u κ)) : EReal) * (p u (ix3 0 κ r) : EReal) := by
  unfold wsum k0_pay4 k0_pay2 k0_pay3
  simp only [← vAt_at, Fin.sum_univ_four]
  pointwise

theorem acc_at (k : ℕ) (d : Fin 80) (r : Fin 1024) : acc q x y z k (ix2 d r) =
    ∑ j ∈ Finset.range k, (wsum z (prevB q j) (prob q x y j) (ix2 d r) : EReal) := by
  induction k with
  | zero =>
    rw [Finset.sum_range_zero]
    unfold acc k0_pay24
    pointwise
  | succ k ih =>
    rw [Finset.sum_range_succ, ← ih]
    rfl

/-- The sum over the key blocks up to the query's. -/
def tot (d : Fin 80) (r : Fin 1024) : EReal := acc q x y z (q.val + 1) (ix2 d r)

theorem out_at (d : Fin 64) (r : Fin 1024) :
    out q x y z (ix3 0 d r) = Ideal.div (tot q x y z ⟨d.val, by omega⟩ r) (tot q x y z ⟨64, by omega⟩ r) := by
  have e : ∀ d' : Fin 80, tot q x y z d' r = (acc q x y z q.val (ix2 d' r) : EReal)
      + (wsum z (prevB q q.val) (prob q x y q.val) (ix2 d' r) : EReal) := fun d' => rfl
  rw [e, e]
  unfold out wsum
  generalize acc q x y z q.val = a
  generalize vAt z (prevB q q.val) = vv
  generalize prob q x y q.val = p
  unfold k0_pay1 k0_pay29 k0_pay30 k0_pay4 k0_pay2 k0_pay3
  pointwise

/-- The exponential's weight of key row `s` for column `r` of query block `q`. -/
def wt (q : Fin 8) (x : Vec Ideal S1x1x128x1024 .bf16) (y : Vec Ideal S1x8192x128 .bf16) (s : Fin 8192) (r : Fin 1024) : EReal :=
  if s.val ≤ 1024 * q.val + r.val then Ideal.exp2 (sc x y s r) else 0

theorem prob_at (j : ℕ) (hj : j ≤ q.val) (u : Fin 4) (κ : Fin 256) (r : Fin 1024) :
    prob q x y j u (ix3 0 κ r) = wt q x y (row (prevB q j) u κ) r := by
  unfold prob prevB wt
  by_cases h : j = 0
  · rw [if_pos h, if_pos h, masked_at]
    exact if_congr (by unfold row; simp only []; omega) rfl rfl
  · have hb : (blk (j - 1)).val = j - 1 := blk_val (by omega)
    rw [if_neg h, if_neg h, unmasked_at, if_pos (by unfold row; simp only []; omega)]

/-- A sum over key rows, by blocks and sub-blocks. -/
theorem sum_rows (f : Fin 8192 → EReal) : ∑ s, f s = ∑ n : Fin 8, ∑ u : Fin 4, ∑ κ : Fin 256, f (row n u κ) := by
  rw [← Equiv.sum_comp (finProdFinEquiv (m := 8) (n := 1024)) f, Fintype.sum_prod_type]
  refine Finset.sum_congr rfl fun n _ => ?_
  rw [← Equiv.sum_comp (finProdFinEquiv (m := 4) (n := 256)), Fintype.sum_prod_type]
  refine Finset.sum_congr rfl fun u _ => Finset.sum_congr rfl fun κ _ => congrArg f (Fin.ext ?_)
  simp only [finProdFinEquiv_apply_val, row]
  omega

/-- The diagonal block first, then the earlier ones: a sum over the blocks up to the query's. -/
theorem sum_prevB (g : Fin 8 → EReal) (hg : ∀ n : Fin 8, q.val < n.val → g n = 0) :
    ∑ j ∈ Finset.range (q.val + 1), g (prevB q j) = ∑ n : Fin 8, g n := by
  have e : ∑ n : Fin 8, g n = ∑ j ∈ Finset.range 8, g (blk j) := by
    rw [Finset.sum_range]
    exact Finset.sum_congr rfl fun n _ => congrArg g (Fin.ext (blk_val n.isLt).symm)
  rw [e, Finset.sum_range_succ', ← Finset.sum_subset (Finset.range_subset_range.mpr (show q.val + 1 ≤ 8 by omega))
    (fun j h8 hq => hg _ (by
      rw [Finset.mem_range] at h8 hq
      rw [blk_val h8]; omega)), Finset.sum_range_succ]
  refine congrArg₂ (· + ·) (Finset.sum_congr rfl fun j _ => by rw [prevB_succ]) (congrArg g ?_)
  exact Fin.ext (blk_val q.isLt).symm

/-- The sum over the key blocks is the sum over all key rows, a later row's weight being nothing. -/
theorem tot_eq (d : Fin 80) (r : Fin 1024) :
    tot q x y z d r = ∑ s : Fin 8192, (z (ix4 0 0 d s) : EReal) * wt q x y s r := by
  rw [sum_rows, ← sum_prevB q]
  · unfold tot
    rw [acc_at]
    refine Finset.sum_congr rfl fun j hj => ?_
    rw [wsum_at]
    refine Finset.sum_congr rfl fun u _ => Finset.sum_congr rfl fun κ _ => ?_
    rw [prob_at q x y j (by have := Finset.mem_range.mp hj; omega)]
  · intro n hn
    refine Finset.sum_eq_zero fun u _ => Finset.sum_eq_zero fun κ _ => ?_
    unfold wt
    rw [if_neg (by unfold row; simp only []; omega), mul_zero]

end Cert.Proof.Val

end
-- ==== Proof.Val.Score.lean ====
/-
  The product of a key column of the second operand with a query column of the first: the base-two logarithm of e times
  the logit, less the shift. The first 64 features carry the scaled dot product, the other 64 the two running sums.
-/
module

public import proofs.«01_k».proof.Proof.Val.Finite

@[expose] public section

set_option maxRecDepth 16384
set_option maxHeartbeats 1000000

noncomputable section

namespace Cert.Proof.Val

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The queries, the keys, the running sums and the shift as real numbers. -/
def qr (b : Fin 2) (t : Fin 8192) (h : Fin 8) (i : Fin 64) : ℝ := (aq m c (ix4 b t h i)).toReal
def kr (b : Fin 2) (t : Fin 8192) (h : Fin 8) (i : Fin 64) : ℝ := (ak m c (ix4 b t h i)).toReal
def cr (b : Fin 2) (t : Fin 8192) (h : Fin 8) : ℝ := (cumv (alf m c) (ix3 b t h)).toReal
def sr : ℝ := (shiftv m c).toReal

/-- The logit of key `s` for query `t`. -/
def logit (b : Fin 2) (h : Fin 8) (s t : Fin 8192) : ℝ :=
  (∑ i, qr m c b t h i * kr m c b s h i) * (1 / 8) + cr m c b t h - cr m c b s h

theorem coe_toReal_of {x : EReal} (h : ∃ r : ℝ, x = (r : EReal)) : x = (x.toReal : EReal) := by
  obtain ⟨r, rfl⟩ := h
  simp

/-- The operands as extended reals: queries, keys, values, and the parts of a query and a key column. -/
def opQ (b : Fin 2) (h : Fin 8) (d : Fin 128) (t : Fin 8192) : EReal := V m c main_v58 (ix4 b h d t)
def opK (b : Fin 2) (s : Fin 8192) (h : Fin 8) (d : Fin 128) : EReal := V m c main_v73 (ix3 b s ⟨128 * h.val + d.val, by omega⟩)
def opV (b : Fin 2) (h : Fin 8) (d : Fin 80) (t : Fin 8192) : EReal := V m c main_v77 (ix4 b h d t)
def headQ (b : Fin 2) (h : Fin 8) (i : Fin 64) (t : Fin 8192) : EReal := V m c main_v34 (ix4 b h i t)
def tailQ (b : Fin 2) (h : Fin 8) (i : Fin 64) (t : Fin 8192) : EReal := V m c main_v50 (ix4 b h i t)
def tailK (b : Fin 2) (s : Fin 8192) (i : Fin 64) : EReal := V m c main_v62 (ix3 b s i)

variable {m c}

theorem aq_coe (H : Real3 m c) (b : Fin 2) (t : Fin 8192) (h : Fin 8) (i : Fin 64) :
    aq m c (ix4 b t h i) = (qr m c b t h i : EReal) := coe_toReal_of (H.q _)
theorem ak_coe (H : Real3 m c) (b : Fin 2) (t : Fin 8192) (h : Fin 8) (i : Fin 64) :
    ak m c (ix4 b t h i) = (kr m c b t h i : EReal) := coe_toReal_of (H.k _)
theorem cum_coe (H : Real3 m c) (b : Fin 2) (t : Fin 8192) (h : Fin 8) :
    cumv (alf m c) (ix3 b t h) = (cr m c b t h : EReal) := coe_toReal_of (cumv_real _ H.lf _)
theorem c2_coe (H : Real3 m c) (b : Fin 2) (t : Fin 8192) (h : Fin 8) :
    c2 m c b t h = ((cr m c b t h * lg : ℝ) : EReal) := by
  rw [c2, cum_coe H, l2e_coe, EReal.coe_mul]
theorem xq_coe (H : Real3 m c) (b : Fin 2) (t : Fin 8192) (h : Fin 8) :
    xq m c b t h = ((cr m c b t h * lg - sr m c : ℝ) : EReal) := by
  rw [xq, c2_coe H, coe_toReal_of (shift_real m c), ← EReal.coe_sub]
  rfl

theorem coe_sub_self (r : ℝ) : (r : EReal) - (r : EReal) = 0 := by
  rw [← EReal.coe_sub, sub_self, EReal.coe_zero]

theorem select_head (i h : Fin 8) (a b : EReal) :
    Scalar.select (IntOp.cmpi .eq (BitVec.ofNat 32 i.val) (BitVec.ofNat 32 h.val)) a b = if i = h then a else b := by
  have e : IntOp.cmpi .eq (BitVec.ofNat 32 i.val) (BitVec.ofNat 32 h.val) = BitVec.ofBool (decide (i = h)) := by
    revert i h; decide +kernel
  rw [e]
  by_cases hh : i = h <;> simp [Scalar.select, hh]

theorem sum_split (f : Fin 128 → EReal) :
    ∑ d, f d = (∑ i : Fin 64, f ⟨i.val, by omega⟩) + ∑ i : Fin 64, f ⟨64 + i.val, by omega⟩ :=
  Fin.sum_univ_add (a := 64) (b := 64) f

/-- One product of the rows beside the features. -/
theorem tail_prod (H : Real3 m c) (b : Fin 2) (h : Fin 8) (s t : Fin 8192) (i : Fin 64) :
    tailK m c b s i * tailQ m c b h i t =
      (((if i = ⟨0, by omega⟩ then cr m c b t h * lg - sr m c else 0)
        + (if i = ⟨8 + h.val, by omega⟩ then -(cr m c b s h * lg) else 0) : ℝ) : EReal) := by
  obtain ⟨i, hi⟩ := i
  have hh := h.isLt
  unfold tailK tailQ
  rw [v62_at, v50_at]
  simp only [Fin.mk.injEq]
  by_cases h0 : i = 0
  · subst h0
    rw [dif_pos (show (0 : ℕ) < 3 by omega), dif_pos (show (0 : ℕ) < 1 by omega), v59_at, v40_at, xq_coe H, one_mul, if_pos rfl,
      if_neg (show ¬ (0 = 8 + h.val) by omega), add_zero]
  rw [if_neg h0, zero_add]
  rcases Nat.lt_or_ge i 3 with h3 | h3
  · rw [if_neg (by omega)]
    rcases Nat.lt_or_ge i 2 with h2 | h2
    · rw [dif_pos h3, dif_neg (by omega), dif_pos (by omega), v42_at, xq_coe H, coe_sub_self, mul_zero, EReal.coe_zero]
    · rw [dif_pos h3, dif_neg (by omega), dif_neg (by omega), dif_pos (by omega), v44_at, xq_coe H, coe_sub_self,
        sub_zero, mul_zero, EReal.coe_zero]
  rw [dif_neg (show ¬ i < 1 by omega), dif_neg (show ¬ i - 1 < 1 by omega), dif_neg (show ¬ i - 1 - 1 < 1 by omega),
    dif_neg (show ¬ i < 3 by omega)]
  rcases Nat.lt_or_ge i 8 with h8 | h8
  · rw [dif_pos (show i - 1 - 1 - 1 < 5 by omega), v45_at, mul_zero, if_neg (by omega), EReal.coe_zero]
  rw [dif_neg (show ¬ i - 1 - 1 - 1 < 5 by omega), dif_neg (show ¬ i - 3 < 5 by omega)]
  rcases Nat.lt_or_ge i 16 with h16 | h16
  · rw [dif_pos (show i - 3 - 5 < 8 by omega), dif_pos (show i - 1 - 1 - 1 - 5 < 8 by omega), v24_at, v47_at, c2_coe H,
      select_head, bits_neg_one]
    by_cases e : i = 8 + h.val
    · subst e
      rw [if_pos (Fin.ext (by simp only []; omega)), if_pos rfl,
        show (⟨8 + h.val - 3 - 5, by omega⟩ : Fin 8) = h from Fin.ext (by simp only []; omega), ← EReal.coe_mul]
      congr 1
      ring
    · rw [if_neg (fun e' => e (by have := congrArg Fin.val e'; simp only [] at this; omega)), if_neg e, mul_zero, EReal.coe_zero]
  rw [if_neg (by omega), EReal.coe_zero, dif_neg (show ¬ i - 3 - 5 < 8 by omega), dif_neg (show ¬ i - 1 - 1 - 1 - 5 < 8 by omega)]
  rcases Nat.lt_or_ge i 24 with h24 | h24
  · rw [dif_pos (show i - 3 - 5 - 8 < 8 by omega), v27_at, c2_coe H, coe_sub_self, zero_mul]
  rw [dif_neg (show ¬ i - 3 - 5 - 8 < 8 by omega)]
  rcases Nat.lt_or_ge i 32 with h32 | h32
  · rw [dif_pos (show i - 3 - 5 - 8 - 8 < 8 by omega), v30_at, c2_coe H, coe_sub_self, sub_zero, zero_mul]
  · rw [dif_neg (show ¬ i - 1 - 1 - 1 - 5 - 8 < 8 by omega), dif_neg (show ¬ i - 1 - 1 - 1 - 5 - 8 - 8 < 8 by omega), v46_at, mul_zero]

theorem head_prod (H : Real3 m c) (b : Fin 2) (h : Fin 8) (s t : Fin 8192) (i : Fin 64) :
    ak m c (ix4 b s h i) * headQ m c b h i t =
      ((qr m c b t h i * kr m c b s h i * (1 / 8 * lg) : ℝ) : EReal) := by
  unfold headQ
  rw [v34_at, aq_coe H, ak_coe H, bits_eighth, l2e_coe, ← EReal.coe_mul, ← EReal.coe_mul, ← EReal.coe_mul]
  congr 1
  ring

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem both_parts (H : Real3 m c) (b : Fin 2) (h : Fin 8) (s t : Fin 8192) :
    (∑ i : Fin 64, ak m c (ix4 b s h i) * headQ m c b h i t)
      + (∑ i : Fin 64, tailK m c b s i * tailQ m c b h i t) =
    ((lg * logit m c b h s t - sr m c : ℝ) : EReal) := by
  simp only [head_prod H, tail_prod H]
  rw [← coe_sum, ← coe_sum, ← EReal.coe_add]
  congr 1
  rw [Finset.sum_add_distrib, Finset.sum_ite_eq' Finset.univ, Finset.sum_ite_eq' Finset.univ, if_pos (Finset.mem_univ _),
    if_pos (Finset.mem_univ _), ← Finset.sum_mul]
  unfold logit
  ring

theorem select_even (h : Fin 8) (a b : EReal) :
    Scalar.select (BitVec.ofBool (decide (h.val % 2 = 0))) a b = if h.val % 2 = 0 then a else b := by
  by_cases e : h.val % 2 = 0 <;> simp [Scalar.select, e]

theorem opQ_eq (b : Fin 2) (h : Fin 8) (d : Fin 128) (t : Fin 8192) : opQ m c b h d t =
    if h.val % 2 = 0 then (if hd : d.val < 64 then headQ m c b h ⟨d.val, hd⟩ t else tailQ m c b h ⟨d.val - 64, by omega⟩ t)
    else if hd : d.val < 64 then tailQ m c b h ⟨d.val, hd⟩ t else headQ m c b h ⟨d.val - 64, by omega⟩ t := by
  unfold opQ headQ tailQ
  rw [v58_at, v57_at, v54_at, v55_at, v56_at]
  exact select_even h _ _

theorem opK_eq (b : Fin 2) (s : Fin 8192) (h : Fin 8) (d : Fin 128) : opK m c b s h d =
    if h.val % 2 = 0 then (if hd : d.val < 64 then ak m c (ix4 b s h ⟨d.val, hd⟩) else tailK m c b s ⟨d.val - 64, by omega⟩)
    else if hd : d.val < 64 then tailK m c b s ⟨d.val, hd⟩ else ak m c (ix4 b s h ⟨d.val - 64, by omega⟩) := by
  unfold opK tailK
  rw [v73_at, v71_at, v68_at, v69_at, v70_at]
  exact select_even h _ _

/-- The score, from the operands. -/
theorem score (H : Real3 m c) (b : Fin 2) (h : Fin 8) (s t : Fin 8192) :
    ∑ d : Fin 128, opK m c b s h d * opQ m c b h d t = ((lg * logit m c b h s t - sr m c : ℝ) : EReal) := by
  rw [sum_split, ← both_parts H b h s t]
  simp only [opQ_eq, opK_eq]
  by_cases he : h.val % 2 = 0
  · simp only [if_pos he]
    refine congrArg₂ (· + ·) (Finset.sum_congr rfl fun i _ => ?_) (Finset.sum_congr rfl fun i _ => ?_)
    · rw [dif_pos i.isLt, dif_pos i.isLt]
    · rw [dif_neg (show ¬ 64 + i.val < 64 by omega), dif_neg (show ¬ 64 + i.val < 64 by omega)]
      simp only [Nat.add_sub_cancel_left]
  · simp only [if_neg he]
    rw [add_comm]
    refine congrArg₂ (· + ·) (Finset.sum_congr rfl fun i _ => ?_) (Finset.sum_congr rfl fun i _ => ?_)
    · rw [dif_neg (show ¬ 64 + i.val < 64 by omega), dif_neg (show ¬ 64 + i.val < 64 by omega)]
      simp only [Nat.add_sub_cancel_left]
    · rw [dif_pos i.isLt, dif_pos i.isLt]

end Cert.Proof.Val

end
-- ==== Proof.Val.Array.lean ====
/-
  The result array after the run, at an index: the weighted values of the keys up to the query's token over the sum of
  their weights.
-/
module

public import proofs.«01_k».proof.Proof.Val.Block
public import proofs.«01_k».proof.Proof.Val.Score
public import Idealize.ShloMosaic.Lib.Pipeline.ValueKit.Point

@[expose] public section

set_option maxRecDepth 16384
set_option maxHeartbeats 1000000

noncomputable section

namespace Cert.Proof.Val

open Cert.KernelIdeal Cert.KernelIdeal.Gen Cert.Proof.PI
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The batch and the head of a grid point. -/
def bOf (t : Fin cfg0.N) : Fin 2 := grid0.coords t 0
def hOf (t : Fin cfg0.N) : Fin 8 := grid0.coords t 1
def qOf (t : Fin cfg0.N) : Fin 8 := qb (grid0.coords t)

theorem idx0 : ∀ t : Fin cfg0.N, win0_0.index t = ![(bOf t).val, (hOf t).val, 0, (qOf t).val] := by decide +kernel
theorem idx1 : ∀ t : Fin cfg0.N, win0_1.index t = ![(bOf t).val, 0, (hOf t).val] := by decide +kernel
theorem idx2 : ∀ t : Fin cfg0.N, win0_2.index t = ![(bOf t).val, (hOf t).val, 0, 0] := by decide +kernel
theorem idx3 : ∀ t : Fin cfg0.N, win0_3.index t = ![(bOf t).val, (hOf t).val, (qOf t).val] := by decide +kernel

/-- Token `r` of query block `q`. -/
def tok (q : Fin 8) (r : Fin 1024) : Fin 8192 := ⟨1024 * q.val + r.val, by omega⟩
theorem tok_val (q : Fin 8) (r : Fin 1024) : (tok q r).val = 1024 * q.val + r.val := rfl

/-! ## The operands' blocks at a grid point -/

def qBlk (t : Fin cfg0.N) : Vec Ideal S1x1x128x1024 .bf16 := iblk m c 0 t
def kBlk (t : Fin cfg0.N) : Vec Ideal S1x8192x128 .bf16 := iblk m c 1 t
def vBlk (t : Fin cfg0.N) : Vec Ideal S1x1x80x8192 .bf16 := iblk m c 2 t

theorem read0 (X : main_v58.ty.Contents (Elt Ideal)) (t : Fin cfg0.N) (j : ((cfg0.win 0).xblock (cfg0.grid.coords t)).Idx)
    (b : Fin 2) (h : Fin 8) (d : Fin 128) (T : Fin 8192) (q : Fin 8) (i : win0_0.index t = ![b.val, h.val, 0, q.val])
    (hd : d.val = (j (2 : Fin 4)).val) (hT : T.val = 1024 * q.val + (j (3 : Fin 4)).val) :
    ((cfg0.win 0).blk t).view.read (Elt Ideal) X j = X (ix4 b h d T) := by
  blk_ext [i]
theorem read1 (X : main_v73.ty.Contents (Elt Ideal)) (t : Fin cfg0.N) (j : ((cfg0.win 1).xblock (cfg0.grid.coords t)).Idx)
    (b : Fin 2) (s : Fin 8192) (D : Fin 1024) (h : Fin 8) (i : win0_1.index t = ![b.val, 0, h.val])
    (hs : s.val = (j (1 : Fin 3)).val) (hD : D.val = 128 * h.val + (j (2 : Fin 3)).val) :
    ((cfg0.win 1).blk t).view.read (Elt Ideal) X j = X (ix3 b s D) := by
  blk_ext [i]
theorem read2 (X : main_v77.ty.Contents (Elt Ideal)) (t : Fin cfg0.N) (j : ((cfg0.win 2).xblock (cfg0.grid.coords t)).Idx)
    (b : Fin 2) (h : Fin 8) (d : Fin 80) (s : Fin 8192) (i : win0_2.index t = ![b.val, h.val, 0, 0])
    (hd : d.val = (j (2 : Fin 4)).val) (hs : s.val = (j (3 : Fin 4)).val) :
    ((cfg0.win 2).blk t).view.read (Elt Ideal) X j = X (ix4 b h d s) := by
  blk_ext [i]

theorem qBlk_eq (t : Fin cfg0.N) : qBlk m c t = ((cfg0.win 0).blk t).view.read (Elt Ideal) (V m c main_v58) := by
  unfold qBlk iblk
  exact congrArg _ rfl
theorem kBlk_eq (t : Fin cfg0.N) : kBlk m c t = ((cfg0.win 1).blk t).view.read (Elt Ideal) (V m c main_v73) := by
  unfold kBlk iblk
  exact congrArg _ rfl
theorem vBlk_eq (t : Fin cfg0.N) : vBlk m c t = ((cfg0.win 2).blk t).view.read (Elt Ideal) (V m c main_v77) := by
  unfold vBlk iblk
  exact congrArg _ rfl

theorem blk0_at (t : Fin cfg0.N) (d : Fin 128) (r : Fin 1024) :
    qBlk m c t (ix4 0 0 d r) = opQ m c (bOf t) (hOf t) d (tok (qOf t) r) := by
  rw [qBlk_eq]
  exact read0 _ t (ix4 0 0 d r) _ _ _ _ _ (idx0 t) rfl (tok_val _ _)
theorem blk1_at (t : Fin cfg0.N) (s : Fin 8192) (d : Fin 128) :
    kBlk m c t (ix3 0 s d) = opK m c (bOf t) s (hOf t) d := by
  rw [kBlk_eq]
  exact read1 _ t (ix3 0 s d) _ _ _ _ (idx1 t) rfl rfl
theorem blk2_at (t : Fin cfg0.N) (d : Fin 80) (s : Fin 8192) :
    vBlk m c t (ix4 0 0 d s) = opV m c (bOf t) (hOf t) d s := by
  rw [vBlk_eq]
  exact read2 _ t (ix4 0 0 d s) _ _ _ _ (idx2 t) rfl rfl

/-- The weight of key `s` for query token `t`. -/
def wgt (b : Fin 2) (h : Fin 8) (s t : Fin 8192) : EReal :=
  if s.val ≤ t.val then Ideal.exp2 (∑ d : Fin 128, opK m c b s h d * opQ m c b h d t) else 0

/-- The result at a batch, a head, a feature and a token. -/
def res (b : Fin 2) (h : Fin 8) (d : Fin 64) (t : Fin 8192) : EReal :=
  Ideal.div (∑ s : Fin 8192, opV m c b h ⟨d.val, by omega⟩ s * wgt m c b h s t) (∑ s : Fin 8192, opV m c b h ⟨64, by omega⟩ s * wgt m c b h s t)

theorem out_res (t : Fin cfg0.N) (d : Fin 64) (r : Fin 1024) :
    out (qOf t) (qBlk m c t) (kBlk m c t) (vBlk m c t) (ix3 0 d r) = res m c (bOf t) (hOf t) d (tok (qOf t) r) := by
  have hs : ∀ s : Fin 8192, sc (qBlk m c t) (kBlk m c t) s r = ∑ d : Fin 128, opK m c (bOf t) s (hOf t) d * opQ m c (bOf t) (hOf t) d (tok (qOf t) r) :=
    fun s => Finset.sum_congr rfl fun d _ => congrArg₂ (· * ·) (blk1_at m c t s d) (blk0_at m c t d r)
  have hw : ∀ s : Fin 8192, wt (qOf t) (qBlk m c t) (kBlk m c t) s r = wgt m c (bOf t) (hOf t) s (tok (qOf t) r) := fun s => by
    unfold wt wgt
    rw [hs]
    rfl
  have ht : ∀ d : Fin 80, tot (qOf t) (qBlk m c t) (kBlk m c t) (vBlk m c t) d r =
      ∑ s : Fin 8192, opV m c (bOf t) (hOf t) d s * wgt m c (bOf t) (hOf t) s (tok (qOf t) r) := fun d => by
    rw [tot_eq]
    exact Finset.sum_congr rfl fun s _ => congrArg₂ (· * ·) (blk2_at m c t d s) (hw s)
  rw [out_at, ht, ht]
  rfl

/-- The result array. -/
def G : S2x512x8192.Idx → EReal := fun i =>
  res m c (i 0) ⟨(i 1).val / 64, by have : (i 1).val < 512 := (i 1).isLt; omega⟩ ⟨(i 1).val % 64, Nat.mod_lt _ (by decide)⟩ (i 2)

theorem G_at (b : Fin 2) (h : Fin 8) (d : Fin 64) (t : Fin 8192) : G m c (ix3 b ⟨64 * h.val + d.val, by omega⟩ t) = res m c b h d t := by
  show res m c b ⟨(64 * h.val + d.val) / 64, _⟩ ⟨(64 * h.val + d.val) % 64, _⟩ t = _
  congr 1
  · exact Fin.ext (by simp only []; omega)
  · exact Fin.ext (by simp only []; omega)

theorem read3 (X : main_v78.ty.Contents (Elt Ideal)) (t : Fin cfg0.N) (j : ((cfg0.win 3).xblock (cfg0.grid.coords t)).Idx)
    (b : Fin 2) (h q : Fin 8) (D : Fin 512) (T : Fin 8192) (i : win0_3.index t = ![b.val, h.val, q.val])
    (hD : D.val = 64 * h.val + (j (1 : Fin 3)).val) (hT : T.val = 1024 * q.val + (j (2 : Fin 3)).val) :
    X (((cfg0.win 3).blk t).view.emb j) = X (ix3 b D T) := by
  blk_ext [i]

theorem out_canon (q : Fin 8) (x : Vec Ideal S1x1x128x1024 .bf16) (y : Vec Ideal S1x8192x128 .bf16) (z : Vec Ideal S1x1x80x8192 .bf16) :
    out0_3 q x y z = out q x y z := by
  unfold out0_3
  exact View.canon_unit_zero (S := S1x64x1024) (off := ![0, 0, 0]) (by decide) _ _

theorem left_eq (t : Fin cfg0.N) : (dats m 0 c).after 3 t = out (qOf t) (qBlk m c t) (kBlk m c t) (vBlk m c t) :=
  (after0_3 m c t).trans (out_canon _ _ _ _)

theorem final : (dats m 0 c).arrAt 3 cfg0.N = G m c := by
  refine (dats m 0 c).arrAt_eq_of_covers 3 (G m c) (by decide +kernel) fun t _ y => ?_
  rw [left_eq]
  have h1 : (y (1 : Fin 3)).val < 64 := (y (1 : Fin 3)).isLt
  have h2 : (y (2 : Fin 3)).val < 1024 := (y (2 : Fin 3)).isLt
  rw [read3 (G m c) t y (bOf t) (hOf t) (qOf t) ⟨64 * (hOf t).val + (y (1 : Fin 3)).val, by omega⟩ (tok (qOf t) ⟨_, h2⟩) (idx3 t) rfl (tok_val _ _),
    G_at m c (bOf t) (hOf t) ⟨_, h1⟩, ← out_res]
  have hy : (y : S1x64x1024.Idx) = ix3 0 ⟨_, h1⟩ ⟨_, h2⟩ := funext fun a => by
    match a with
    | 0 => exact Subsingleton.elim (α := Fin 1) _ _
    | 1 => rfl
    | 2 => rfl
  exact congrArg (out (qOf t) (qBlk m c t) (kBlk m c t) (vBlk m c t)) hy

end Cert.Proof.Val

end
-- ==== Proof.Val.Softmax.lean ====
/-
  The two spellings of a softmax average agree: weights scaled by one positive number and divided at the end, or scaled
  by another and divided first.
-/
module

public import proofs.«01_k».proof.Proof.Val.Reference
public import proofs.«01_k».proof.Proof.Val.Array

@[expose] public section

set_option maxRecDepth 16384
set_option maxHeartbeats 1000000

noncomputable section

namespace Cert.Proof.Val

open Idealize.ShloMosaic Idealize.ShloMosaic.TcCoe Idealize.ShloMosaic.Tactic

theorem sum_mul_coe {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

variable {n : ℕ} (v : Fin n → EReal) (W : Fin n → ℝ)

/-- Divided at the end. -/
theorem average_late (κ : ℝ) (hκ : 0 < κ) (hS : 0 < ∑ s, W s) :
    Ideal.div (∑ s, v s * ((W s * κ : ℝ) : EReal)) (∑ s, (1 : EReal) * ((W s * κ : ℝ) : EReal)) =
      ∑ s, v s * ((W s / ∑ s', W s' : ℝ) : EReal) := by
  have hd : (∑ s, (1 : EReal) * ((W s * κ : ℝ) : EReal)) = (((∑ s, W s) * κ : ℝ) : EReal) := by
    simp only [one_mul]
    rw [← coe_sum, ← Finset.sum_mul]
  have hp : 0 < (∑ s, W s) * κ := mul_pos hS hκ
  rw [hd, Ideal.div_coe hp.ne', sum_mul_coe _ _ (one_div_pos.mpr hp).le]
  refine Finset.sum_congr rfl fun s _ => ?_
  rw [mul_assoc, ← EReal.coe_mul]
  congr 2
  field_simp

/-- Divided first. -/
theorem average_early (κ : ℝ) (hκ : 0 < κ) (hS : 0 < ∑ s, W s) :
    ∑ s, v s * Ideal.div ((W s * κ : ℝ) : EReal) (∑ s', ((W s' * κ : ℝ) : EReal)) =
      ∑ s, v s * ((W s / ∑ s', W s' : ℝ) : EReal) := by
  have hp : 0 < (∑ s, W s) * κ := mul_pos hS hκ
  rw [← coe_sum, ← Finset.sum_mul]
  refine Finset.sum_congr rfl fun s _ => ?_
  rw [Ideal.div_coe hp.ne', ← EReal.coe_mul]
  congr 2
  field_simp

/-! ## The reference's weights -/

variable {m : (ℓ : Loc Cert.KernelIdeal.nD Cert.KernelIdeal.τ Cert.KernelIdeal.sig) → Buf (Elt Ideal) ℓ} {c : Dev Cert.KernelIdeal.nD}

/-- The weight of key `s` for token `t`, up to a factor. -/
def wreal (m : (ℓ : Loc Cert.KernelIdeal.nD Cert.KernelIdeal.τ Cert.KernelIdeal.sig) → Buf (Elt Ideal) ℓ) (c : Dev Cert.KernelIdeal.nD)
    (b : Fin 2) (h : Fin 8) (t s : Fin 8192) : ℝ :=
  if s.val ≤ t.val then Real.exp (logit m c b h s t) else 0

theorem wreal_pos (b : Fin 2) (h : Fin 8) (t : Fin 8192) : 0 < ∑ s, wreal m c b h t s := by
  refine Finset.sum_pos' (fun s _ => ?_) ⟨t, Finset.mem_univ _, ?_⟩
  · unfold wreal
    split
    · exact (Real.exp_pos _).le
    · exact le_rfl
  · unfold wreal
    rw [if_pos le_rfl]
    exact Real.exp_pos _

theorem rsc_eq (H : Real3 m c) (b : Fin 2) (h : Fin 8) (s t : Fin 8192) :
    rsc (aq m c) (ak m c) (cumv (alf m c)) b h s t = if s.val ≤ t.val then (logit m c b h s t : EReal) else ⊥ := by
  have e : (∑ i : Fin 64, aq m c (ix4 b t h i) * Ideal.ofBits .f32 0x3E000000#32 * ak m c (ix4 b s h i)
      + cumv (alf m c) (ix3 b t h) - cumv (alf m c) (ix3 b s h) : EReal) = (logit m c b h s t : EReal) := by
    rw [cum_coe H, cum_coe H, bits_eighth]
    simp only [aq_coe H, ak_coe H, ← EReal.coe_mul]
    rw [← coe_sum, ← EReal.coe_add, ← EReal.coe_sub]
    congr 1
    unfold logit
    rw [Finset.sum_mul]
    congr 2
    exact Finset.sum_congr rfl fun i _ => by ring
  unfold rsc
  rw [e, bits_bot, WordCmp.cmpi_sle_ofNat (by omega) (by omega)]
  by_cases hs : s.val ≤ t.val
  · rw [if_pos hs, decide_eq_true hs]; rfl
  · rw [if_neg hs, decide_eq_false hs]; rfl

theorem rmax_real (H : Real3 m c) (b : Fin 2) (h : Fin 8) (t : Fin 8192) :
    ∃ μ : ℝ, rmax (aq m c) (ak m c) (cumv (alf m c)) b h t = (μ : EReal) := by
  unfold rmax
  simp only [rsc_eq H, bits_bot]
  rw [max_eq_right bot_le]
  refine ⟨_, (EReal.coe_toReal (ne_of_lt ?_) (ne_of_gt ?_)).symm⟩
  · rw [Finset.fold_max_lt]
    refine ⟨bot_lt_top, fun s _ => ?_⟩
    split
    · exact EReal.coe_lt_top _
    · exact bot_lt_top
  · refine lt_of_lt_of_le (EReal.bot_lt_coe (logit m c b h t t)) ?_
    rw [Finset.le_fold_max]
    exact Or.inr ⟨t, Finset.mem_univ _, by rw [if_pos le_rfl]⟩

theorem rex_eq (H : Real3 m c) (b : Fin 2) (h : Fin 8) (t : Fin 8192) : ∃ κ : ℝ, 0 < κ ∧ ∀ s,
    rex (aq m c) (ak m c) (cumv (alf m c)) b h s t = ((wreal m c b h t s * κ : ℝ) : EReal) := by
  obtain ⟨μ, hμ⟩ := rmax_real H b h t
  refine ⟨Real.exp (-μ), Real.exp_pos _, fun s => ?_⟩
  unfold rex wreal
  rw [hμ, rsc_eq H]
  by_cases hs : s.val ≤ t.val
  · rw [if_pos hs, if_pos hs, ← EReal.coe_sub, Ideal.exp_coe, sub_eq_add_neg, Real.exp_add]
  · rw [if_neg hs, if_neg hs, EReal.bot_sub, Ideal.exp_bot, zero_mul, EReal.coe_zero]

theorem wgt_eq (H : Real3 m c) (b : Fin 2) (h : Fin 8) (t : Fin 8192) : ∃ κ : ℝ, 0 < κ ∧ ∀ s,
    wgt m c b h s t = ((wreal m c b h t s * κ : ℝ) : EReal) := by
  refine ⟨Real.exp (-(Real.log 2 * sr m c)), Real.exp_pos _, fun s => ?_⟩
  have h2 : Real.log 2 ≠ 0 := (Real.log_pos (by norm_num)).ne'
  unfold wgt wreal
  rw [score H]
  by_cases hs : s.val ≤ t.val
  · rw [if_pos hs, if_pos hs, Ideal.exp2_coe, ← Real.exp_add]
    congr 1
    show (2 : ℝ) ^ (lg * logit m c b h s t - sr m c) = _
    rw [Real.rpow_def_of_pos (by norm_num)]
    congr 1
    unfold lg
    field_simp
    ring
  · rw [if_neg hs, if_neg hs, zero_mul, EReal.coe_zero]

theorem opV_head (b : Fin 2) (h : Fin 8) (d : Fin 64) (s : Fin 8192) : opV m c b h ⟨d.val, by omega⟩ s = av m c (ix4 b s h d) :=
  (vtb_at m c b h _ s).trans (dif_pos d.isLt)
theorem opV_ones (b : Fin 2) (h : Fin 8) (s : Fin 8192) : opV m c b h ⟨64, by omega⟩ s = 1 :=
  (vtb_at m c b h _ s).trans (dif_neg (by simp only []; omega))

/-- The call's result is the attention. -/
theorem res_eq (H : Real3 m c) (b : Fin 2) (h : Fin 8) (d : Fin 64) (t : Fin 8192) :
    res m c b h d t = attn (aq m c) (ak m c) (av m c) (cumv (alf m c)) b h d t := by
  obtain ⟨κ, hκ, e⟩ := wgt_eq H b h t
  obtain ⟨κ', hκ', e'⟩ := rex_eq H b h t
  unfold res attn
  simp only [opV_head, opV_ones, e, e']
  rw [average_late _ _ κ hκ (wreal_pos b h t), average_early _ _ κ' hκ' (wreal_pos b h t)]

end Cert.Proof.Val

end
-- ==== Proof.Val.Equation.lean ====
/-
  The call's result is the reference's.
-/
module

public import proofs.«01_k».proof.Proof.Val.Softmax
public import proofs.«01_k».proof.Proof.PI.Run
public import proofs.«01_k».proof.Proof.Gen.Pre_finite
public import Idealize.ShloMosaic.Adequacy

@[expose] public section

set_option maxRecDepth 16384
set_option maxHeartbeats 1000000

noncomputable section

namespace Cert.Proof.Val

open Idealize.ShloMosaic Idealize.ShloMosaic.TcCoe Idealize.ShloMosaic.Tactic Idealize.SL.Sem

attribute [local instance] Cert.KernelIdeal.Gen.facts Cert.ReferenceIdeal.Gen.facts Cert.Pre_finite.Gen.facts

theorem rcum_eq (x : Cert.KernelIdeal.S2x8192x8.Idx → EReal) : rcum x = cumv x := rfl

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}
variable {c : Dev Cert.KernelIdeal.nD}

theorem ref_eq (H : Real3 m c)
    (h0 : m' (c, Proc.tc.devRef Cert.ReferenceIdeal.main_arg0) = aq m c)
    (h1 : m' (c, Proc.tc.devRef Cert.ReferenceIdeal.main_arg1) = ak m c)
    (h2 : m' (c, Proc.tc.devRef Cert.ReferenceIdeal.main_arg2) = av m c)
    (h3 : m' (c, Proc.tc.devRef Cert.ReferenceIdeal.main_arg3) = alf m c) :
    (Cert.ReferenceIdeal.Value.res_main_v32 m' c : Cert.KernelIdeal.S2x512x8192.Idx → EReal) = G m c := by
  funext i
  obtain ⟨b, D, t, rfl⟩ : ∃ (b : Fin 2) (D : Fin 512) (t : Fin 8192), i = ix3 b D t :=
    ⟨i 0, i 1, i 2, by funext a; fin_cases a <;> rfl⟩
  refine (ref_at m' c b D t).trans ?_
  rw [h0, h1, h2, h3, rcum_eq]
  exact (res_eq H b ⟨D.val / 64, by omega⟩ ⟨D.val % 64, by omega⟩ t).symm

theorem algebraic : Cert.algebraic_KernelIdeal_ReferenceIdeal_pre_finite := by
  intro m g m' g' hp hA
  have H := fun c => real3 (m := m) hp (c := c)
  refine ⟨fun c => G m c, ?_, ?_⟩
  · refine (θ_run _ _ _).mono (fun r h c => ?_) (θ_run_and (Cert.Proof.PI.run_main (F := Ideal) m g) (Cert.Proof.PI.frame (F := Ideal) m g))
    exact ⟨((h.1.1 c).1 3).trans (final m c), h.2.1 c⟩
  · refine (θ_run _ _ _).mono (fun r h c => ⟨((h c).1).trans ?_, (h c).2⟩) (Cert.ReferenceIdeal.Value.run m' g')
    obtain ⟨h0, h1, h2, h3, -⟩ := hA c
    exact ref_eq (H c) h0 h1 h2 h3

end Cert.Proof.Val

end
-- ==== Proof.In.PromptBody.lean ====
/-
  The body of the prompt's input projections, run once at symbolic operands, at both outcomes of its test for a
  sequence's first block. Stated of the windows the claim reads: the keys, the values, the log forget gates, the
  projected feature rows and the gates. The packed queries, keys and values end at some contents, and so does the
  carried sum.
-/
module

public import proofs.«01_k».proof.Proof.Gen.InprojPromptIdeal.Frame.Runs
public import Idealize.ShloMosaic.Lib.Claim
public import Idealize.ShloMosaic.Lib.WritesUnit

@[expose] public section

set_option maxRecDepth 16384

noncomputable section

namespace Cert.Proof.In.Prompt

open Cert.InprojPromptIdeal Cert.InprojPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The normalised rows of the block. -/
def hN (x0 : Vec F S1x512x1024 .f32) (x1 : Vec F S1x1024 .f32) : FVec F S512x1024 .bf16 :=
  k0_pay4 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0))

/-- The key projection, features by rows. -/
def kN (x0 : Vec F S1x512x1024 .f32) (x1 : Vec F S1x1024 .f32) (x3 : Vec F S512x1024 .bf16) : FVec F S512x512 .f32 :=
  k0_pay6 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (View.ld x3 (Rect.unit (s := S512x1024) ![0, 0] S512x1024.size inb_S512x1024_S512x1024_0_0))

/-- A gain column, read whole. -/
def gN (x12 : Vec F S64x1 .f32) : Vec F S64x1 .f32 := View.ld x12 (Rect.unit (s := S64x1) ![0, 0] S64x1.size inb_S64x1_S64x1_0_0)

/-- The eight heads' normalised keys, the last head first, each in its 64 feature rows. -/
def kPieces (k : FVec F S512x512 .f32) (g : Vec F S64x1 .f32) : List (View.Piece (Elt F) S1x512x512 .f32) :=
  [⟨Rect.unit (s := S1x512x512) ![0, 448, 0] S1x64x512.size inb_S1x512x512_S1x64x512_0_448_0, k0_pay91 k g⟩,
    ⟨Rect.unit (s := S1x512x512) ![0, 384, 0] S1x64x512.size inb_S1x512x512_S1x64x512_0_384_0, k0_pay84 (k0_pay83 k g)⟩,
    ⟨Rect.unit (s := S1x512x512) ![0, 320, 0] S1x64x512.size inb_S1x512x512_S1x64x512_0_320_0, k0_pay75 (k0_pay72 k) (k0_pay73 k) (Scalar.ofBits .f32 0x42800000#32) g⟩,
    ⟨Rect.unit (s := S1x512x512) ![0, 256, 0] S1x64x512.size inb_S1x512x512_S1x64x512_0_256_0, k0_pay66 k g⟩,
    ⟨Rect.unit (s := S1x512x512) ![0, 192, 0] S1x64x512.size inb_S1x512x512_S1x64x512_0_192_0, k0_pay58 k g⟩,
    ⟨Rect.unit (s := S1x512x512) ![0, 128, 0] S1x64x512.size inb_S1x512x512_S1x64x512_0_128_0, k0_pay52 (k0_pay50 k) g⟩,
    ⟨Rect.unit (s := S1x512x512) ![0, 64, 0] S1x64x512.size inb_S1x512x512_S1x64x512_0_64_0, k0_pay39 k g⟩,
    ⟨Rect.unit (s := S1x512x512) ![0, 0, 0] S1x64x512.size inb_S1x512x512_S1x64x512_0_0_0, k0_pay32 k g⟩]

theorem kCover (k : FVec F S512x512 .f32) (g : Vec F S64x1 .f32) (y : S1x512x512.Idx) : ∃ pc ∈ kPieces k g, y ∈ pc.1.set :=
  View.cover_of_tiled (kPieces k g) S1x64x512.size (by rfl) y

/-- The keys' buffer after the body, -/
def out18 (x0 : Vec F S1x512x1024 .f32) (x1 : Vec F S1x1024 .f32) (x3 : Vec F S512x1024 .bf16) (x12 : Vec F S64x1 .f32) : Vec F S1x512x512 .f32 :=
  View.canon (kPieces (kN x0 x1 x3) (gN x12))

/-- the values', -/
def out19 (x0 : Vec F S1x512x1024 .f32) (x1 : Vec F S1x1024 .f32) (x4 : Vec F S512x1024 .bf16) : Vec F S1x512x512 .f32 :=
  View.canon [⟨Rect.unit (s := S1x512x512) ![0, 0, 0] S1x512x512.size inb_S1x512x512_S1x512x512_0_0_0, k0_pay23 (k0_pay7 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (View.ld x4 (Rect.unit (s := S512x1024) ![0, 0] S512x1024.size inb_S512x1024_S512x1024_0_0)))⟩]

/-- the attention gate's, -/
def out21 (x0 : Vec F S1x512x1024 .f32) (x1 : Vec F S1x1024 .f32) (x5 : Vec F S512x1024 .bf16) : Vec F S1x512x512 .bf16 :=
  View.canon [⟨Rect.unit (s := S1x512x512) ![0, 0, 0] S1x512x512.size inb_S1x512x512_S1x512x512_0_0_0, k0_pay24 (k0_pay8 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (View.ld x5 (Rect.unit (s := S512x1024) ![0, 0] S512x1024.size inb_S512x1024_S512x1024_0_0)))⟩]

/-- the log forget gates', -/
def out22 (x0 : Vec F S1x512x1024 .f32) (x1 : Vec F S1x1024 .f32) (x6 : Vec F S8x1024 .bf16) (x13 : Vec F S8x1 .f32) : Vec F S1x8x512 .f32 :=
  View.canon [⟨Rect.unit (s := S1x8x512) ![0, 0, 0] S1x8x512.size inb_S1x8x512_S1x8x512_0_0_0, k0_pay10 (hN x0 x1) (View.ld x6 (Rect.unit (s := S8x1024) ![0, 0] S8x1024.size inb_S8x1024_S8x1024_0_0)) (View.ld x13 (Rect.unit (s := S8x1) ![0, 0] S8x1.size inb_S8x1_S8x1_0_0))⟩]

/-- the projected rows', -/
def out23 (x0 : Vec F S1x512x1024 .f32) (x1 : Vec F S1x1024 .f32) (x7 : Vec F S1024x1024 .bf16) : Vec F S1x512x1024 .f32 :=
  View.canon [⟨Rect.unit (s := S1x512x1024) ![0, 0, 0] S1x512x1024.size inb_S1x512x1024_S1x512x1024_0_0_0, k0_pay111 (hN x0 x1) (View.ld x7 (Rect.unit (s := S1024x1024) ![0, 0] S1024x1024.size inb_S1024x1024_S1024x1024_0_0))⟩]

/-- the recurrence's output gate's, -/
def out24 (x0 : Vec F S1x512x1024 .f32) (x1 : Vec F S1x1024 .f32) (x8 : Vec F S1024x1024 .bf16) : Vec F S1x512x1024 .bf16 :=
  View.canon [⟨Rect.unit (s := S1x512x1024) ![0, 0, 0] S1x512x1024.size inb_S1x512x1024_S1x512x1024_0_0_0, k0_pay112 (hN x0 x1) (View.ld x8 (Rect.unit (s := S1024x1024) ![0, 0] S1024x1024.size inb_S1024x1024_S1024x1024_0_0))⟩]

/-- and the two recurrent gates', -/
def out25 (x0 : Vec F S1x512x1024 .f32) (x1 : Vec F S1x1024 .f32) (x9 : Vec F S1024x1024 .bf16) : Vec F S1x512x1024 .bf16 :=
  View.canon [⟨Rect.unit (s := S1x512x1024) ![0, 0, 0] S1x512x1024.size inb_S1x512x1024_S1x512x1024_0_0_0, k0_pay1 (hN x0 x1) (View.ld x9 (Rect.unit (s := S1024x1024) ![0, 0] S1024x1024.size inb_S1024x1024_S1024x1024_0_0))⟩]

/-- the second of them. -/
def out26 (x0 : Vec F S1x512x1024 .f32) (x1 : Vec F S1x1024 .f32) (x10 : Vec F S1024x1024 .bf16) : Vec F S1x512x1024 .bf16 :=
  View.canon [⟨Rect.unit (s := S1x512x1024) ![0, 0, 0] S1x512x1024.size inb_S1x512x1024_S1x512x1024_0_0_0, k0_pay2 (hN x0 x1) (View.ld x10 (Rect.unit (s := S1024x1024) ![0, 0] S1024x1024.size inb_S1024x1024_S1024x1024_0_0))⟩]

theorem cover_S1x512x1024_bf16 (p : Vec F S1x512x1024 .bf16) (y : S1x512x1024.Idx) :
    ∃ pc ∈ ([⟨Rect.unit (s := S1x512x1024) ![0, 0, 0] S1x512x1024.size inb_S1x512x1024_S1x512x1024_0_0_0, p⟩] : List (View.Piece (Elt F) S1x512x1024 .bf16)), y ∈ pc.1.set :=
  View.cover_of_tiled [⟨Rect.unit (s := S1x512x1024) ![0, 0, 0] S1x512x1024.size inb_S1x512x1024_S1x512x1024_0_0_0, p⟩] S1x512x1024.size (by rfl) y

theorem cover_S1x512x1024_f32 (p : Vec F S1x512x1024 .f32) (y : S1x512x1024.Idx) :
    ∃ pc ∈ ([⟨Rect.unit (s := S1x512x1024) ![0, 0, 0] S1x512x1024.size inb_S1x512x1024_S1x512x1024_0_0_0, p⟩] : List (View.Piece (Elt F) S1x512x1024 .f32)), y ∈ pc.1.set :=
  View.cover_of_tiled [⟨Rect.unit (s := S1x512x1024) ![0, 0, 0] S1x512x1024.size inb_S1x512x1024_S1x512x1024_0_0_0, p⟩] S1x512x1024.size (by rfl) y

theorem cover_S1x512x512_bf16 (p : Vec F S1x512x512 .bf16) (y : S1x512x512.Idx) :
    ∃ pc ∈ ([⟨Rect.unit (s := S1x512x512) ![0, 0, 0] S1x512x512.size inb_S1x512x512_S1x512x512_0_0_0, p⟩] : List (View.Piece (Elt F) S1x512x512 .bf16)), y ∈ pc.1.set :=
  View.cover_of_tiled [⟨Rect.unit (s := S1x512x512) ![0, 0, 0] S1x512x512.size inb_S1x512x512_S1x512x512_0_0_0, p⟩] S1x512x512.size (by rfl) y

theorem cover_S1x512x512_f32 (p : Vec F S1x512x512 .f32) (y : S1x512x512.Idx) :
    ∃ pc ∈ ([⟨Rect.unit (s := S1x512x512) ![0, 0, 0] S1x512x512.size inb_S1x512x512_S1x512x512_0_0_0, p⟩] : List (View.Piece (Elt F) S1x512x512 .f32)), y ∈ pc.1.set :=
  View.cover_of_tiled [⟨Rect.unit (s := S1x512x512) ![0, 0, 0] S1x512x512.size inb_S1x512x512_S1x512x512_0_0_0, p⟩] S1x512x512.size (by rfl) y

theorem cover_S1x8x512_f32 (p : Vec F S1x8x512 .f32) (y : S1x8x512.Idx) :
    ∃ pc ∈ ([⟨Rect.unit (s := S1x8x512) ![0, 0, 0] S1x8x512.size inb_S1x8x512_S1x8x512_0_0_0, p⟩] : List (View.Piece (Elt F) S1x8x512 .f32)), y ∈ pc.1.set :=
  View.cover_of_tiled [⟨Rect.unit (s := S1x8x512) ![0, 0, 0] S1x8x512.size inb_S1x8x512_S1x8x512_0_0_0, p⟩] S1x8x512.size (by rfl) y

/-- What the body is given and what it hands on: the inputs as they are, the claimed windows at their values. -/
def Given (c : Dev nD) (arg2 : Memref sig .tc .vmem S1x512x1024 .f32) (arg3 : Memref sig .tc .vmem S1x1024 .f32) (arg4 : Memref sig .tc .vmem S512x1024 .bf16) (arg5 : Memref sig .tc .vmem S512x1024 .bf16) (arg6 : Memref sig .tc .vmem S512x1024 .bf16) (arg7 : Memref sig .tc .vmem S512x1024 .bf16) (arg8 : Memref sig .tc .vmem S8x1024 .bf16) (arg9 : Memref sig .tc .vmem S1024x1024 .bf16) (arg10 : Memref sig .tc .vmem S1024x1024 .bf16) (arg11 : Memref sig .tc .vmem S1024x1024 .bf16) (arg12 : Memref sig .tc .vmem S1024x1024 .bf16) (arg13 : Memref sig .tc .vmem S64x1 .f32) (arg14 : Memref sig .tc .vmem S64x1 .f32) (arg15 : Memref sig .tc .vmem S8x1 .f32) (arg16 : Memref sig .tc .vmem S8x1 .f32) (arg17 : Memref sig .tc .vmem S512x512 .bf16) (arg18 : Memref sig .tc .vmem S1x8x128x512 .bf16) (arg19 : Memref sig .tc .vmem S1x512x1024 .bf16) (arg20 : Memref sig .tc .vmem S1x512x512 .f32) (arg21 : Memref sig .tc .vmem S1x512x512 .f32) (arg22 : Memref sig .tc .vmem S1x8x80x512 .bf16) (arg23 : Memref sig .tc .vmem S1x512x512 .bf16) (arg24 : Memref sig .tc .vmem S1x8x512 .f32) (arg25 : Memref sig .tc .vmem S1x512x1024 .f32) (arg26 : Memref sig .tc .vmem S1x512x1024 .bf16) (arg27 : Memref sig .tc .vmem S1x512x1024 .bf16) (arg28 : Memref sig .tc .vmem S1x512x1024 .bf16) (arg29 : Memref sig .tc .vmem S8x128 .f32)
    (x0 : Vec F S1x512x1024 .f32) (x1 : Vec F S1x1024 .f32) (x2 : Vec F S512x1024 .bf16) (x3 : Vec F S512x1024 .bf16) (x4 : Vec F S512x1024 .bf16) (x5 : Vec F S512x1024 .bf16) (x6 : Vec F S8x1024 .bf16) (x7 : Vec F S1024x1024 .bf16) (x8 : Vec F S1024x1024 .bf16) (x9 : Vec F S1024x1024 .bf16) (x10 : Vec F S1024x1024 .bf16) (x11 : Vec F S64x1 .f32) (x12 : Vec F S64x1 .f32) (x13 : Vec F S8x1 .f32) (x14 : Vec F S8x1 .f32) (x15 : Vec F S512x512 .bf16) (K : PUnit → sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
    ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ owns (c : Thread nD τ) arg20 fullShare (out18 x0 x1 x3 x12) ∗ owns (c : Thread nD τ) arg21 fullShare (out19 x0 x1 x4) ∗ (∃ d, owns (c : Thread nD τ) arg22 fullShare d) ∗ owns (c : Thread nD τ) arg23 fullShare (out21 x0 x1 x5) ∗ owns (c : Thread nD τ) arg24 fullShare (out22 x0 x1 x6 x13) ∗ owns (c : Thread nD τ) arg25 fullShare (out23 x0 x1 x7) ∗ owns (c : Thread nD τ) arg26 fullShare (out24 x0 x1 x8) ∗ owns (c : Thread nD τ) arg27 fullShare (out25 x0 x1 x9) ∗ owns (c : Thread nD τ) arg28 fullShare (out26 x0 x1 x10) ∗ (∃ d, owns (c : Thread nD τ) arg29 fullShare d)) -∗ K ⟨⟩))

set_option maxHeartbeats 4000000 in
theorem sound_first (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S8x1 .f32) (harg15 : arg15.IsWhole) (arg16 : Memref sig .tc .vmem S8x1 .f32) (harg16 : arg16.IsWhole) (arg17 : Memref sig .tc .vmem S512x512 .bf16) (harg17 : arg17.IsWhole) (arg18 : Memref sig .tc .vmem S1x8x128x512 .bf16) (harg18 : arg18.IsWhole) (arg19 : Memref sig .tc .vmem S1x512x1024 .bf16) (harg19 : arg19.IsWhole) (arg20 : Memref sig .tc .vmem S1x512x512 .f32) (harg20 : arg20.IsWhole) (arg21 : Memref sig .tc .vmem S1x512x512 .f32) (harg21 : arg21.IsWhole) (arg22 : Memref sig .tc .vmem S1x8x80x512 .bf16) (harg22 : arg22.IsWhole) (arg23 : Memref sig .tc .vmem S1x512x512 .bf16) (harg23 : arg23.IsWhole) (arg24 : Memref sig .tc .vmem S1x8x512 .f32) (harg24 : arg24.IsWhole) (arg25 : Memref sig .tc .vmem S1x512x1024 .f32) (harg25 : arg25.IsWhole) (arg26 : Memref sig .tc .vmem S1x512x1024 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S8x128 .f32) (harg29 : arg29.IsWhole)
    (x0 : Vec F S1x512x1024 .f32) (x1 : Vec F S1x1024 .f32) (x2 : Vec F S512x1024 .bf16) (x3 : Vec F S512x1024 .bf16) (x4 : Vec F S512x1024 .bf16) (x5 : Vec F S512x1024 .bf16) (x6 : Vec F S8x1024 .bf16) (x7 : Vec F S1024x1024 .bf16) (x8 : Vec F S1024x1024 .bf16) (x9 : Vec F S1024x1024 .bf16) (x10 : Vec F S1024x1024 .bf16) (x11 : Vec F S64x1 .f32) (x12 : Vec F S64x1 .f32) (x13 : Vec F S8x1 .f32) (x14 : Vec F S8x1 .f32) (x15 : Vec F S512x512 .bf16) (K : PUnit → sProp 𝕄) (hc0 : cond0_0 i) :
    Given c arg2 arg3 arg4 arg5 arg6 arg7 arg8 arg9 arg10 arg11 arg12 arg13 arg14 arg15 arg16 arg17 arg18 arg19 arg20 arg21 arg22 arg23 arg24 arg25 arg26 arg27 arg28 arg29 x0 x1 x2 x3 x4 x5 x6 x7 x8 x9 x10 x11 x12 x13 x14 x15 K ⊢ wp frame (wpE (defs₀ (F := F)) Variants.none c none) E (cc0_inproj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_inproj_prompt_eq_skeleton]; unfold cc0_inproj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold Given owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0; subst hf1; subst hf2; subst hf3; subst hf4; subst hf5; subst hf6; subst hf7; subst hf8; subst hf9; subst hf10; subst hf11; subst hf12; subst hf13; subst hf14; subst hf15
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; iexists _; isplitr; swap; · iexact H16
    ipureintro; rfl
  isplitl [H17]
  · iexists _; iexists _; isplitr; swap; · iexact H17
    ipureintro; rfl
  isplitl [H18]
  · iexists _; isplitr; swap; · iexact H18
    ipureintro; exact View.read_writes_eq_canon _ _ _ (kCover _ _)
  isplitl [H19]
  · iexists _; isplitr; swap; · iexact H19
    ipureintro; exact View.read_writes_eq_canon _ _ _ (cover_S1x512x512_f32 _)
  isplitl [H20]
  · iexists _; iexists _; isplitr; swap; · iexact H20
    ipureintro; rfl
  isplitl [H21]
  · iexists _; isplitr; swap; · iexact H21
    ipureintro; exact View.read_writes_eq_canon _ _ _ (cover_S1x512x512_bf16 _)
  isplitl [H22]
  · iexists _; isplitr; swap; · iexact H22
    ipureintro; exact View.read_writes_eq_canon _ _ _ (cover_S1x8x512_f32 _)
  isplitl [H23]
  · iexists _; isplitr; swap; · iexact H23
    ipureintro; exact View.read_writes_eq_canon _ _ _ (cover_S1x512x1024_f32 _)
  isplitl [H24]
  · iexists _; isplitr; swap; · iexact H24
    ipureintro; exact View.read_writes_eq_canon _ _ _ (cover_S1x512x1024_bf16 _)
  isplitl [H25]
  · iexists _; isplitr; swap; · iexact H25
    ipureintro; exact View.read_writes_eq_canon _ _ _ (cover_S1x512x1024_bf16 _)
  isplitl [H26]
  · iexists _; isplitr; swap; · iexact H26
    ipureintro; exact View.read_writes_eq_canon _ _ _ (cover_S1x512x1024_bf16 _)
  · iexists _; iexists _; isplitr; swap; · iexact H27
    ipureintro; rfl

set_option maxHeartbeats 4000000 in
theorem sound_later (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S8x1 .f32) (harg15 : arg15.IsWhole) (arg16 : Memref sig .tc .vmem S8x1 .f32) (harg16 : arg16.IsWhole) (arg17 : Memref sig .tc .vmem S512x512 .bf16) (harg17 : arg17.IsWhole) (arg18 : Memref sig .tc .vmem S1x8x128x512 .bf16) (harg18 : arg18.IsWhole) (arg19 : Memref sig .tc .vmem S1x512x1024 .bf16) (harg19 : arg19.IsWhole) (arg20 : Memref sig .tc .vmem S1x512x512 .f32) (harg20 : arg20.IsWhole) (arg21 : Memref sig .tc .vmem S1x512x512 .f32) (harg21 : arg21.IsWhole) (arg22 : Memref sig .tc .vmem S1x8x80x512 .bf16) (harg22 : arg22.IsWhole) (arg23 : Memref sig .tc .vmem S1x512x512 .bf16) (harg23 : arg23.IsWhole) (arg24 : Memref sig .tc .vmem S1x8x512 .f32) (harg24 : arg24.IsWhole) (arg25 : Memref sig .tc .vmem S1x512x1024 .f32) (harg25 : arg25.IsWhole) (arg26 : Memref sig .tc .vmem S1x512x1024 .bf16) (harg26 : arg26.IsWhole) (arg27 : Memref sig .tc .vmem S1x512x1024 .bf16) (harg27 : arg27.IsWhole) (arg28 : Memref sig .tc .vmem S1x512x1024 .bf16) (harg28 : arg28.IsWhole) (arg29 : Memref sig .tc .vmem S8x128 .f32) (harg29 : arg29.IsWhole)
    (x0 : Vec F S1x512x1024 .f32) (x1 : Vec F S1x1024 .f32) (x2 : Vec F S512x1024 .bf16) (x3 : Vec F S512x1024 .bf16) (x4 : Vec F S512x1024 .bf16) (x5 : Vec F S512x1024 .bf16) (x6 : Vec F S8x1024 .bf16) (x7 : Vec F S1024x1024 .bf16) (x8 : Vec F S1024x1024 .bf16) (x9 : Vec F S1024x1024 .bf16) (x10 : Vec F S1024x1024 .bf16) (x11 : Vec F S64x1 .f32) (x12 : Vec F S64x1 .f32) (x13 : Vec F S8x1 .f32) (x14 : Vec F S8x1 .f32) (x15 : Vec F S512x512 .bf16) (K : PUnit → sProp 𝕄) (hc0 : ¬cond0_0 i) :
    Given c arg2 arg3 arg4 arg5 arg6 arg7 arg8 arg9 arg10 arg11 arg12 arg13 arg14 arg15 arg16 arg17 arg18 arg19 arg20 arg21 arg22 arg23 arg24 arg25 arg26 arg27 arg28 arg29 x0 x1 x2 x3 x4 x5 x6 x7 x8 x9 x10 x11 x12 x13 x14 x15 K ⊢ wp frame (wpE (defs₀ (F := F)) Variants.none c none) E (cc0_inproj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_inproj_prompt_eq_skeleton]; unfold cc0_inproj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold Given owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0; subst hf1; subst hf2; subst hf3; subst hf4; subst hf5; subst hf6; subst hf7; subst hf8; subst hf9; subst hf10; subst hf11; subst hf12; subst hf13; subst hf14; subst hf15
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; iexists _; isplitr; swap; · iexact H16
    ipureintro; rfl
  isplitl [H17]
  · iexists _; iexists _; isplitr; swap; · iexact H17
    ipureintro; rfl
  isplitl [H18]
  · iexists _; isplitr; swap; · iexact H18
    ipureintro; exact View.read_writes_eq_canon _ _ _ (kCover _ _)
  isplitl [H19]
  · iexists _; isplitr; swap; · iexact H19
    ipureintro; exact View.read_writes_eq_canon _ _ _ (cover_S1x512x512_f32 _)
  isplitl [H20]
  · iexists _; iexists _; isplitr; swap; · iexact H20
    ipureintro; rfl
  isplitl [H21]
  · iexists _; isplitr; swap; · iexact H21
    ipureintro; exact View.read_writes_eq_canon _ _ _ (cover_S1x512x512_bf16 _)
  isplitl [H22]
  · iexists _; isplitr; swap; · iexact H22
    ipureintro; exact View.read_writes_eq_canon _ _ _ (cover_S1x8x512_f32 _)
  isplitl [H23]
  · iexists _; isplitr; swap; · iexact H23
    ipureintro; exact View.read_writes_eq_canon _ _ _ (cover_S1x512x1024_f32 _)
  isplitl [H24]
  · iexists _; isplitr; swap; · iexact H24
    ipureintro; exact View.read_writes_eq_canon _ _ _ (cover_S1x512x1024_bf16 _)
  isplitl [H25]
  · iexists _; isplitr; swap; · iexact H25
    ipureintro; exact View.read_writes_eq_canon _ _ _ (cover_S1x512x1024_bf16 _)
  isplitl [H26]
  · iexists _; isplitr; swap; · iexact H26
    ipureintro; exact View.read_writes_eq_canon _ _ _ (cover_S1x512x1024_bf16 _)
  · iexists _; iexists _; isplitr; swap; · iexact H27
    ipureintro; rfl

end Cert.Proof.In.Prompt

end
-- ==== Proof.In.PromptRun.lean ====
/-
  The pipeline's run of the prompt's input projections: what each point leaves in each claimed window's buffer, the
  body's triple at every point, the launch and the frame. The packed queries, keys and values are left unnamed.
-/
module

public import proofs.«01_k».proof.Proof.In.PromptBody

@[expose] public section

set_option maxRecDepth 16384

noncomputable section

namespace Cert.Proof.In.Prompt

open Cert.InprojPromptIdeal Cert.InprojPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the claim does not read. -/
def unnamed : Fin cfg0.W → Bool
  | ⟨16, _⟩ => true
  | ⟨17, _⟩ => true
  | ⟨20, _⟩ => true
  | _ => false

/-- The pipeline's data on core `c`: an input's buffer keeps its block, a claimed output's takes the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => View.canon []
    | ⟨17, _⟩ => View.canon []
    | ⟨18, _⟩ => out18 (iblk m c 0 t) (iblk m c 1 t) (iblk m c 3 t) (iblk m c 12 t)
    | ⟨19, _⟩ => out19 (iblk m c 0 t) (iblk m c 1 t) (iblk m c 4 t)
    | ⟨20, _⟩ => View.canon []
    | ⟨21, _⟩ => out21 (iblk m c 0 t) (iblk m c 1 t) (iblk m c 5 t)
    | ⟨22, _⟩ => out22 (iblk m c 0 t) (iblk m c 1 t) (iblk m c 6 t) (iblk m c 13 t)
    | ⟨23, _⟩ => out23 (iblk m c 0 t) (iblk m c 1 t) (iblk m c 7 t)
    | ⟨24, _⟩ => out24 (iblk m c 0 t) (iblk m c 1 t) (iblk m c 8 t)
    | ⟨25, _⟩ => out25 (iblk m c 0 t) (iblk m c 1 t) (iblk m c 9 t)
    | ⟨26, _⟩ => out26 (iblk m c 0 t) (iblk m c 1 t) (iblk m c 10 t)
    | ⟨n + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_18 (c : Dev nD) (t : Fin cfg0.N) : (dats m 0 c).after 18 t = out18 (iblk m c 0 t) (iblk m c 1 t) (iblk m c 3 t) (iblk m c 12 t) := by dsimp only [dats]
theorem after0_19 (c : Dev nD) (t : Fin cfg0.N) : (dats m 0 c).after 19 t = out19 (iblk m c 0 t) (iblk m c 1 t) (iblk m c 4 t) := by dsimp only [dats]
theorem after0_21 (c : Dev nD) (t : Fin cfg0.N) : (dats m 0 c).after 21 t = out21 (iblk m c 0 t) (iblk m c 1 t) (iblk m c 5 t) := by dsimp only [dats]
theorem after0_22 (c : Dev nD) (t : Fin cfg0.N) : (dats m 0 c).after 22 t = out22 (iblk m c 0 t) (iblk m c 1 t) (iblk m c 6 t) (iblk m c 13 t) := by dsimp only [dats]
theorem after0_23 (c : Dev nD) (t : Fin cfg0.N) : (dats m 0 c).after 23 t = out23 (iblk m c 0 t) (iblk m c 1 t) (iblk m c 7 t) := by dsimp only [dats]
theorem after0_24 (c : Dev nD) (t : Fin cfg0.N) : (dats m 0 c).after 24 t = out24 (iblk m c 0 t) (iblk m c 1 t) (iblk m c 8 t) := by dsimp only [dats]
theorem after0_25 (c : Dev nD) (t : Fin cfg0.N) : (dats m 0 c).after 25 t = out25 (iblk m c 0 t) (iblk m c 1 t) (iblk m c 9 t) := by dsimp only [dats]
theorem after0_26 (c : Dev nD) (t : Fin cfg0.N) : (dats m 0 c).after 26 t = out26 (iblk m c 0 t) (iblk m c 1 t) (iblk m c 10 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ X, owns (c : Thread nD τ) (ms0_16 t) fullShare X)
    ∗ (∃ X, owns (c : Thread nD τ) (ms0_17 t) fullShare X)
    ∗ (∃ d, owns (c : Thread nD τ) (ms0_18 t) fullShare ((dats m 0 c).before 18 t d))
    ∗ (∃ d, owns (c : Thread nD τ) (ms0_19 t) fullShare ((dats m 0 c).before 19 t d))
    ∗ (∃ X, owns (c : Thread nD τ) (ms0_20 t) fullShare X)
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ X, owns (c : Thread nD τ) (ms0_16 t) fullShare X)
    ∗ (∃ X, owns (c : Thread nD τ) (ms0_17 t) fullShare X)
    ∗ owns (c : Thread nD τ) (ms0_18 t) fullShare ((dats m 0 c).after 18 t)
    ∗ owns (c : Thread nD τ) (ms0_19 t) fullShare ((dats m 0 c).after 19 t)
    ∗ (∃ X, owns (c : Thread nD τ) (ms0_20 t) fullShare X)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

/-- The body at either outcome of its test. -/
theorem sound_point (c : Dev nD) (t : Fin cfg0.N) (K : PUnit → sProp 𝕄) :
    Given c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t) (ms0_24 t) (ms0_25 t) (ms0_26 t) scM0_0
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) K
      ⊢ wp frame (wpE (defs₀ (F := F)) Variants.none c none) Set.univ (bodyAt0 t) K := by
  by_cases h : cond0_0 (grid0.coords t)
  · exact sound_first c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) K h
  · exact sound_later c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) K h

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_18, after0_19, after0_21, after0_22, after0_23, after0_24, after0_25, after0_26, PhiA0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_point m c t _)
  unfold Given
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [Hs]; · iexact Hs
  iintro ⟨H0, H1, H2, H3, H4, H5, H6, H7, H8, H9, H10, H11, H12, H13, H14, H15, H16, H17, H18, H19, H20, H21, H22, H23, H24, H25, H26, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

/-- What a run ends with: the claimed arrays at what the data say, the others at something, everything else as found. -/
abbrev Ends (r : PUnit × MemSt nD τ sig (Elt F)) : Prop :=
  Pipeline.RDat.FramePost cfg0 (fun c => (dats m 0 c).toRForget unnamed) (V m) r

set_option backward.isDefEq.respectTransparency.types false in
theorem run_main : θ_run defs (onTc (τ := τ) (main (F := F))) (s₀ m ρ) (fun r => Ends m r ∧ r.2.sem = fun _ => 0) :=
  Pipeline.θ_run_frame_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A claimed window's array ends at what the data say. -/
theorem ends_at {r : PUnit × MemSt nD τ sig (Elt F)} (h : Ends m r) (c : Dev nD) (w : Fin cfg0.W) (hw : unnamed w = false) :
    r.2.mem ((cfg0.spec w).arr.view.loc (c.tc : Thread nD τ)) = (dats m 0 c).arrAt w cfg0.N :=
  ((dats m 0 c).toRForget_arrAt_iff hw _ _).mp ((h c).1 w)

/-- The argument arrays end unchanged. -/
theorem kept {r : PUnit × MemSt nD τ sig (Elt F)} (h : Ends m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m h.1, h.2⟩) (run_main m ρ)

end Cert.Proof.In.Prompt

end
-- ==== Proof.In.PromptSame.lean ====
/-
  The frame of the call at its compiled formats: the pass changed nothing, so `InprojPrompt` and `InprojPromptIdeal` are one text,
  and the run of `InprojPromptIdeal`, which holds over every float semantics, is that of `InprojPrompt`.
-/
module

public import proofs.«01_k».proof.Defs
public import proofs.«01_k».proof.Proof.Gen.InprojPrompt
public import proofs.«01_k».proof.Proof.In.PromptRun

@[expose] public section

set_option maxRecDepth 16384
set_option maxHeartbeats 4000000

namespace Cert.Proof.In.PromptP

open Idealize.ShloMosaic

variable [hInprojPrompt : Cert.InprojPrompt.Facts] [hInprojPromptIdeal : Cert.InprojPromptIdeal.Facts]

/-- The two kernel bodies are one. -/
theorem defs₀_eq : Cert.InprojPrompt.defs₀ (F := Bits) = Cert.InprojPromptIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

/-- So are the two calls. -/
theorem defs_eq : Cert.InprojPrompt.defs (F := Bits) = Cert.InprojPromptIdeal.defs (F := Bits) :=
  congrArg (Pipeline.defs Cert.InprojPromptIdeal.pcfgs) defs₀_eq

/-- And the two host programs. -/
theorem main_eq : Cert.InprojPrompt.main (F := Bits) = Cert.InprojPromptIdeal.main (F := Bits) := by
  unfold Cert.InprojPrompt.main Cert.InprojPromptIdeal.main
  rfl

omit hInprojPromptIdeal in
/-- The frame at the compiled formats. -/
theorem frame : Cert.quiescent_InprojPrompt := fun m g _ => by
  rw [defs_eq, main_eq]
  exact Cert.Proof.In.Prompt.frame (F := Bits) m g

end Cert.Proof.In.PromptP

end
-- ==== Proof.In.Maths.lean ====
/-
  The layer's input projections, entry by entry: a row normalised and scaled, its products with the weights' columns,
  the gates.
-/
module

public import Idealize.ShloMosaic.Lib.Pointwise

@[expose] public section

noncomputable section

namespace Cert.Proof.In

open Idealize.ShloMosaic

/-- The number of a row's features, and of a head's. -/
def n1024 : EReal := Ideal.ofBits .f32 0x44800000#32
def n64 : EReal := Ideal.ofBits .f32 0x42800000#32

/-- A row's entry, over the root of the row's mean square, times its gain. -/
def rms {n : Nat} (N : EReal) (x g : Fin n → EReal) (d : Fin n) : EReal :=
  x d * Ideal.rsqrt (Ideal.div (∑ e, x e * x e) N + Ideal.ofBits .f32 0x358637BD#32) * g d

/-- The logistic function. -/
def logi (z : EReal) : EReal := Ideal.logistic z

/-- A number times its logistic. -/
def silu (z : EReal) : EReal := z * Ideal.logistic z

/-- The logarithm of the logistic function. -/
def lsig (z : EReal) : EReal := min z 0 - Ideal.log1p (Ideal.exp (0 - max z (-z)))

section Projections

variable {B T : Nat} (X : (⟨3, ![B, T, 1024]⟩ : Shape).Idx → EReal) (G : (⟨2, ![1, 1024]⟩ : Shape).Idx → EReal)
  (W : (⟨3, ![1, 1024, 6152]⟩ : Shape).Idx → EReal)

/-- A token's normalised row against a column of the weights. -/
def pr (b : Fin B) (t : Fin T) (j : Fin 6152) : EReal :=
  ∑ d, rms n1024 (fun d => X (ix3 b t d)) (fun d => G (ix2 0 d)) d * W (ix3 0 d j)

/-- A head's features from column `o` on, normalised over the head. -/
def prHead (g : (⟨2, ![1, 64]⟩ : Shape).Idx → EReal) (o : Nat) (ho : o ≤ 512) (b : Fin B) (t : Fin T) (h : Fin 8) (d : Fin 64) : EReal :=
  rms n64 (fun e : Fin 64 => pr X G W b t ⟨o + (64 * h.val + e.val), by omega⟩) (fun e => g (ix2 0 e)) d

/-- The log forget gate of a head. -/
def prGate (bf : (⟨2, ![1, 8]⟩ : Shape).Idx → EReal) (b : Fin B) (t : Fin T) (h : Fin 8) : EReal :=
  lsig (pr X G W b t ⟨2048 + h.val, by omega⟩ + bf (ix2 0 h))

end Projections

end Cert.Proof.In

end
-- ==== Proof.In.PromptBlock.lean ====
/-
  What the body of the prompt's input projections leaves in a claimed window, entry by entry, as sums over the block's
  entries.
-/
module

public import proofs.«01_k».proof.Proof.In.PromptBody
public import proofs.«01_k».proof.Proof.In.Maths
public import Idealize.ShloMosaic.Lib.Pointwise
public import Idealize.ShloMosaic.Lib.Pipeline.ValueKit.Tiles

@[expose] public section

set_option maxRecDepth 16384
set_option maxHeartbeats 1000000

noncomputable section

namespace Cert.Proof.In.Prompt

open Cert.InprojPromptIdeal Cert.InprojPromptIdeal.Gen
open Idealize.ShloMosaic Idealize.ShloMosaic.TcCoe Idealize.ShloMosaic.Tactic

variable (x0 : Vec Ideal S1x512x1024 .f32) (x1 : Vec Ideal S1x1024 .f32)

/-- A row of the block, normalised. -/
def row (r : Fin 512) (d : Fin 1024) : EReal := rms n1024 (fun d => x0 (ix3 0 r d)) (fun d => x1 (ix2 0 d)) d

/-- A row against a feature's weights. -/
def proj {n : Nat} (w : (⟨2, ![n, 1024]⟩ : Shape).Idx → EReal) (r : Fin 512) (f : Fin n) : EReal := ∑ d, row x0 x1 r d * w (ix2 f d)

theorem pay4_at (r : Fin 512) (d : Fin 1024) : k0_pay4 x0 x1 (ix2 r d) = row x0 x1 r d := by
  unfold k0_pay4 row rms n1024
  pointwise

theorem hN_at (r : Fin 512) (d : Fin 1024) : hN x0 x1 (ix2 r d) = row x0 x1 r d := by
  unfold hN
  rw [View.ld_unit_zero (by decide), View.ld_unit_zero (by decide)]
  exact pay4_at x0 x1 r d

/-! ## Token-major windows: the recurrence's rows and the three gates -/

theorem out23_at (x : Vec Ideal S1024x1024 .bf16) (r : Fin 512) (f : Fin 1024) :
    out23 x0 x1 x (ix3 0 r f) = proj x0 x1 x r f := by
  unfold out23
  rw [View.canon_unit_zero (S := S1x512x1024) (off := ![0, 0, 0]) (by decide), View.ld_unit_zero (by decide)]
  unfold proj
  simp only [← hN_at]
  generalize hN x0 x1 = h
  unfold k0_pay111
  pointwise

theorem out24_at (x : Vec Ideal S1024x1024 .bf16) (r : Fin 512) (f : Fin 1024) :
    out24 x0 x1 x (ix3 0 r f) = silu (proj x0 x1 x r f) := by
  unfold out24
  rw [View.canon_unit_zero (S := S1x512x1024) (off := ![0, 0, 0]) (by decide), View.ld_unit_zero (by decide)]
  unfold silu proj
  simp only [← hN_at]
  generalize hN x0 x1 = h
  unfold k0_pay112
  pointwise

theorem out25_at (x : Vec Ideal S1024x1024 .bf16) (r : Fin 512) (f : Fin 1024) :
    out25 x0 x1 x (ix3 0 r f) = logi (proj x0 x1 x r f) := by
  unfold out25
  rw [View.canon_unit_zero (S := S1x512x1024) (off := ![0, 0, 0]) (by decide), View.ld_unit_zero (by decide)]
  unfold logi proj
  simp only [← hN_at]
  generalize hN x0 x1 = h
  unfold k0_pay1
  pointwise

theorem out26_at (x : Vec Ideal S1024x1024 .bf16) (r : Fin 512) (f : Fin 1024) :
    out26 x0 x1 x (ix3 0 r f) = logi (proj x0 x1 x r f) := by
  unfold out26
  rw [View.canon_unit_zero (S := S1x512x1024) (off := ![0, 0, 0]) (by decide), View.ld_unit_zero (by decide)]
  unfold logi proj
  simp only [← hN_at]
  generalize hN x0 x1 = h
  unfold k0_pay2
  pointwise

/-! ## Feature-major windows: the values, the attention gate and the log forget gates -/

theorem out19_at (x : Vec Ideal S512x1024 .bf16) (f r : Fin 512) :
    out19 x0 x1 x (ix3 0 f r) = proj x0 x1 x r f := by
  unfold out19
  rw [View.canon_unit_zero (S := S1x512x512) (off := ![0, 0, 0]) (by decide), View.ld_unit_zero (by decide), View.ld_unit_zero (by decide), View.ld_unit_zero (by decide)]
  unfold proj
  simp only [← pay4_at, mul_comm (k0_pay4 x0 x1 _ : EReal)]
  unfold k0_pay23 k0_pay7
  generalize k0_pay4 x0 x1 = h
  pointwise

theorem out21_at (x : Vec Ideal S512x1024 .bf16) (f r : Fin 512) :
    out21 x0 x1 x (ix3 0 f r) = silu (proj x0 x1 x r f) := by
  unfold out21
  rw [View.canon_unit_zero (S := S1x512x512) (off := ![0, 0, 0]) (by decide), View.ld_unit_zero (by decide), View.ld_unit_zero (by decide), View.ld_unit_zero (by decide)]
  unfold silu proj
  simp only [← pay4_at, mul_comm (k0_pay4 x0 x1 _ : EReal)]
  unfold k0_pay24 k0_pay8
  generalize k0_pay4 x0 x1 = h
  pointwise

theorem out22_at (x : Vec Ideal S8x1024 .bf16) (y : Vec Ideal S8x1 .f32) (f : Fin 8) (r : Fin 512) :
    out22 x0 x1 x y (ix3 0 f r) = lsig (proj x0 x1 x r f + y (ix2 f 0)) := by
  unfold out22
  rw [View.canon_unit_zero (S := S1x8x512) (off := ![0, 0, 0]) (by decide), View.ld_unit_zero (by decide), View.ld_unit_zero (by decide)]
  unfold lsig proj
  simp only [← hN_at, mul_comm (hN x0 x1 _ : EReal)]
  generalize hN x0 x1 = h
  unfold k0_pay10 k0_pay9
  pointwise
  rfl

/-! ## The keys: each head's 64 features normalised -/

theorem kN_at (x : Vec Ideal S512x1024 .bf16) (f r : Fin 512) : kN x0 x1 x (ix2 f r) = proj x0 x1 x r f := by
  unfold kN
  rw [View.ld_unit_zero (by decide), View.ld_unit_zero (by decide), View.ld_unit_zero (by decide)]
  unfold proj
  simp only [← pay4_at, mul_comm (k0_pay4 x0 x1 _ : EReal)]
  unfold k0_pay6
  generalize k0_pay4 x0 x1 = h
  pointwise

/-- Feature `64 h + d`. -/
def ft (h : Fin 8) (d : Fin 64) : Fin 512 := ⟨64 * h.val + d.val, by omega⟩

/-- A head's features of the key projection, normalised. -/
def hd (k : FVec Ideal S512x512 .f32) (g : Vec Ideal S64x1 .f32) (h : Fin 8) (d : Fin 64) (r : Fin 512) : EReal :=
  rms n64 (fun e => k (ix2 (ft h e) r)) (fun e => g (ix2 e 0)) d

section Heads
variable (k : FVec Ideal S512x512 .f32) (g : Vec Ideal S64x1 .f32) (d : Fin 64) (r : Fin 512)

theorem head0_at : k0_pay32 k g (ix3 0 d r) = hd k g 0 d r := by
  unfold k0_pay32 k0_pay31 hd rms n64 ft
  pointwise
theorem head1_at : k0_pay39 k g (ix3 0 d r) = hd k g 1 d r := by
  unfold k0_pay39 k0_pay38 hd rms n64 ft
  pointwise
theorem head2_at : k0_pay52 (k0_pay50 k) g (ix3 0 d r) = hd k g 2 d r := by
  unfold k0_pay52 k0_pay51 k0_pay50 hd rms n64 ft
  pointwise
theorem head3_at : k0_pay58 k g (ix3 0 d r) = hd k g 3 d r := by
  unfold k0_pay58 k0_pay57 hd rms n64 ft
  pointwise
theorem head4_at : k0_pay66 k g (ix3 0 d r) = hd k g 4 d r := by
  unfold k0_pay66 k0_pay65 hd rms n64 ft
  pointwise
theorem head5_at : k0_pay75 (k0_pay72 k) (k0_pay73 k) (Scalar.ofBits .f32 0x42800000#32) g (ix3 0 d r) = hd k g 5 d r := by
  unfold k0_pay75 k0_pay74 k0_pay73 k0_pay72 hd rms n64 ft
  pointwise
theorem head6_at : k0_pay84 (k0_pay83 k g) (ix3 0 d r) = hd k g 6 d r := by
  unfold k0_pay84 k0_pay83 hd rms n64 ft
  pointwise
theorem head7_at : k0_pay91 k g (ix3 0 d r) = hd k g 7 d r := by
  unfold k0_pay91 k0_pay90 hd rms n64 ft
  pointwise

end Heads

/-- A head's 64 feature rows of the buffer, as one of the pieces that make it up. -/
theorem tile (k : FVec Ideal S512x512 .f32) (g : Vec Ideal S64x1 .f32) (f r : Fin 512) (h : Fin 8) (n : Nat) (hn : n = 64 * h.val)
    (w : S1x64x512.Idx → EReal) (H : ∀ d r, w (ix3 0 d r) = hd k g h d r) :
    View.TileAt (Val := Elt Ideal) (e := .f32) (ix3 0 f r : S1x512x512.Idx) ![0, n, 0] S1x64x512.size w
      (hd k g ⟨f.val / 64, by omega⟩ ⟨f.val % 64, by omega⟩ r) := by
  intro x hx
  have e1 : f.val = n + (x 1).val := hx 1
  have e2 : r.val = 0 + (x 2).val := hx 2
  have h1 : (x 1).val < 64 := (x 1).isLt
  have hy : x = ix3 0 ⟨f.val % 64, by omega⟩ r := funext fun a => by
    match a with
    | 0 => exact Subsingleton.elim (α := Fin 1) _ _
    | 1 => exact Fin.ext (by show (x 1).val = f.val % 64; omega)
    | 2 => exact Fin.ext (by show (x 2).val = r.val; omega)
  rw [hy, H]
  congr 1
  exact Fin.ext (by show h.val = f.val / 64; omega)

theorem out18_at (x : Vec Ideal S512x1024 .bf16) (y : Vec Ideal S64x1 .f32) (h : Fin 8) (d : Fin 64) (r : Fin 512) :
    out18 x0 x1 x y (ix3 0 (ft h d) r) = rms n64 (fun e => proj x0 x1 x r (ft h e)) (fun e => y (ix2 e 0)) d := by
  have hg : gN y = y := by unfold gN; exact View.ld_unit_zero (by decide) _ _
  have e : out18 x0 x1 x y (ix3 0 (ft h d) r) = hd (kN x0 x1 x) y h d r := by
    unfold out18
    rw [hg]
    have ex : ∀ f : Fin 512, View.canon (kPieces (kN x0 x1 x) y) (ix3 0 f r) = hd (kN x0 x1 x) y ⟨f.val / 64, by omega⟩ ⟨f.val % 64, by omega⟩ r := fun f => by
      refine View.canon_eq_of_allAt _ _ _ (kCover _ _ _) ?_
      unfold kPieces
      generalize kN x0 x1 x = k
      have T := tile k y f r
      exact View.allAt_cons_unit _ _ _ _ _ (T 7 _ rfl _ (head7_at k y)) (View.allAt_cons_unit _ _ _ _ _ (T 6 _ rfl _ (head6_at k y))
        (View.allAt_cons_unit _ _ _ _ _ (T 5 _ rfl _ (head5_at k y)) (View.allAt_cons_unit _ _ _ _ _ (T 4 _ rfl _ (head4_at k y))
        (View.allAt_cons_unit _ _ _ _ _ (T 3 _ rfl _ (head3_at k y)) (View.allAt_cons_unit _ _ _ _ _ (T 2 _ rfl _ (head2_at k y))
        (View.allAt_cons_unit _ _ _ _ _ (T 1 _ rfl _ (head1_at k y)) (View.allAt_cons_unit _ _ _ _ _ (T 0 _ rfl _ (head0_at k y))
        (View.allAt_nil _ _))))))))
    rw [ex]
    congr 1
    · exact Fin.ext (by show (64 * h.val + d.val) / 64 = h.val; omega)
    · exact Fin.ext (by show (64 * h.val + d.val) % 64 = d.val; omega)
  rw [e]
  unfold hd
  simp only [kN_at]

end Cert.Proof.In.Prompt

end
-- ==== Proof.In.PromptArray.lean ====
/-
  What the call's operands hold, at an index, as terms of the program's arguments, and the claimed result arrays after
  the run, at an index.
-/
module

public import proofs.«01_k».proof.Proof.In.PromptBlock
public import proofs.«01_k».proof.Proof.In.PromptRun
public import Idealize.ShloMosaic.Lib.StableHlo.ReadAt
public import Idealize.ShloMosaic.Lib.Pipeline.ValueKit.Point

@[expose] public section

set_option maxRecDepth 16384
set_option maxHeartbeats 1000000

noncomputable section

namespace Cert.Proof.In.Prompt

open Cert.InprojPromptIdeal Cert.InprojPromptIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The prompt's rows, the norm's gains, the weights, the keys' gains and the forget gates' biases. -/
abbrev aX : S2x8192x1024.Idx → EReal := m (c, Proc.tc.devRef main_arg0)
abbrev aG : S1x1024.Idx → EReal := m (c, Proc.tc.devRef main_arg1)
abbrev aW : S1x1024x6152.Idx → EReal := m (c, Proc.tc.devRef main_arg2)
abbrev aK : S1x64.Idx → EReal := m (c, Proc.tc.devRef main_arg4)
abbrev aB : S1x8.Idx → EReal := m (c, Proc.tc.devRef main_arg5)

/-! ## The operands -/

theorem v13_at (d : Fin 1024) : V m c main_v13 (ix2 0 d) = aG m c (ix2 0 d) := by
  unfold V
  after_reads_at
theorem v27_at (d : Fin 64) : V m c main_v27 (ix2 d 0) = aK m c (ix2 0 d) := by
  unfold V
  after_reads_at
theorem v28_at (d : Fin 8) : V m c main_v28 (ix2 d 0) = aB m c (ix2 0 d) := by
  unfold V
  after_reads_at

theorem v4_at (f : Fin 512) (d : Fin 1024) : V m c main_v4 (ix2 f d) = aW m c (ix3 0 d ⟨512 + f.val, by omega⟩) := by
  unfold V
  after_reads_at
theorem v5_at (f : Fin 512) (d : Fin 1024) : V m c main_v5 (ix2 f d) = aW m c (ix3 0 d ⟨1024 + f.val, by omega⟩) := by
  unfold V
  after_reads_at
theorem v6_at (f : Fin 512) (d : Fin 1024) : V m c main_v6 (ix2 f d) = aW m c (ix3 0 d ⟨1536 + f.val, by omega⟩) := by
  unfold V
  after_reads_at
theorem v7_at (f : Fin 8) (d : Fin 1024) : V m c main_v7 (ix2 f d) = aW m c (ix3 0 d ⟨2048 + f.val, by omega⟩) := by
  unfold V
  after_reads_at
theorem v8_at (f : Fin 1024) (d : Fin 1024) : V m c main_v8 (ix2 f d) = aW m c (ix3 0 d ⟨2056 + f.val, by omega⟩) := by
  unfold V
  after_reads_at
theorem v9_at (f : Fin 1024) (d : Fin 1024) : V m c main_v9 (ix2 f d) = aW m c (ix3 0 d ⟨3080 + f.val, by omega⟩) := by
  unfold V
  after_reads_at
theorem v10_at (f : Fin 1024) (d : Fin 1024) : V m c main_v10 (ix2 f d) = aW m c (ix3 0 d ⟨4104 + f.val, by omega⟩) := by
  unfold V
  after_reads_at
theorem v11_at (f : Fin 1024) (d : Fin 1024) : V m c main_v11 (ix2 f d) = aW m c (ix3 0 d ⟨5128 + f.val, by omega⟩) := by
  unfold V
  after_reads_at

/-! ## The operands' blocks at a grid point -/

/-- The batch and the row block of a grid point. -/
def bOf (t : Fin cfg0.N) : Fin 2 := grid0.coords t 0
def jOf (t : Fin cfg0.N) : Fin 16 := grid0.coords t 1

/-- Token `r` of row block `j`. -/
def tok (j : Fin 16) (r : Fin 512) : Fin 8192 := ⟨512 * j.val + r.val, by omega⟩
theorem tok_val (j : Fin 16) (r : Fin 512) : (tok j r).val = 512 * j.val + r.val := rfl

theorem idx0 : ∀ t : Fin cfg0.N, win0_0.index t = ![(bOf t).val, (jOf t).val, 0] := by decide +kernel
theorem idx1 : ∀ t : Fin cfg0.N, win0_1.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx12 : ∀ t : Fin cfg0.N, win0_12.index t = ![0, 0] := by decide +kernel
theorem idx13 : ∀ t : Fin cfg0.N, win0_13.index t = ![0, 0] := by decide +kernel
theorem idx18 : ∀ t : Fin cfg0.N, win0_18.index t = ![(bOf t).val, 0, (jOf t).val] := by decide +kernel
theorem idx19 : ∀ t : Fin cfg0.N, win0_19.index t = ![(bOf t).val, 0, (jOf t).val] := by decide +kernel
theorem idx21 : ∀ t : Fin cfg0.N, win0_21.index t = ![(bOf t).val, 0, (jOf t).val] := by decide +kernel
theorem idx22 : ∀ t : Fin cfg0.N, win0_22.index t = ![(bOf t).val, 0, (jOf t).val] := by decide +kernel
theorem idx23 : ∀ t : Fin cfg0.N, win0_23.index t = ![(bOf t).val, (jOf t).val, 0] := by decide +kernel
theorem idx24 : ∀ t : Fin cfg0.N, win0_24.index t = ![(bOf t).val, (jOf t).val, 0] := by decide +kernel
theorem idx25 : ∀ t : Fin cfg0.N, win0_25.index t = ![(bOf t).val, (jOf t).val, 0] := by decide +kernel
theorem idx26 : ∀ t : Fin cfg0.N, win0_26.index t = ![(bOf t).val, (jOf t).val, 0] := by decide +kernel

def xBlk (t : Fin cfg0.N) : Vec Ideal S1x512x1024 .f32 := iblk m c 0 t

theorem read0 (X : main_arg0.ty.Contents (Elt Ideal)) (t : Fin cfg0.N) (j : ((cfg0.win 0).xblock (cfg0.grid.coords t)).Idx)
    (b : Fin 2) (T : Fin 8192) (d : Fin 1024) (q : Fin 16) (i : win0_0.index t = ![b.val, q.val, 0])
    (hT : T.val = 512 * q.val + (j (1 : Fin 3)).val) (hd : d.val = (j (2 : Fin 3)).val) :
    ((cfg0.win 0).blk t).view.read (Elt Ideal) X j = X (ix3 b T d) := by
  blk_ext [i]

theorem blk0_at (t : Fin cfg0.N) (r : Fin 512) (d : Fin 1024) :
    xBlk m c t (ix3 0 r d) = aX m c (ix3 (bOf t) (tok (jOf t) r) d) := by
  have e : xBlk m c t = ((cfg0.win 0).blk t).view.read (Elt Ideal) (V m c main_arg0) := by
    unfold xBlk iblk
    exact congrArg _ rfl
  rw [e, V_main_arg0]
  exact read0 _ t (ix3 0 r d) _ _ _ _ (idx0 t) (tok_val _ _) rfl

def blk1 (t : Fin cfg0.N) : Vec Ideal S1x1024 .f32 := iblk m c 1 t
theorem read1 (X : main_v13.ty.Contents (Elt Ideal)) (t : Fin cfg0.N) (j : ((cfg0.win 1).xblock (cfg0.grid.coords t)).Idx)
    (f : Fin 1) (d : Fin 1024) (i : win0_1.index t = ![0, 0]) (hf : f.val = (j (0 : Fin 2)).val) (hd : d.val = (j (1 : Fin 2)).val) :
    ((cfg0.win 1).blk t).view.read (Elt Ideal) X j = X (ix2 f d) := by
  blk_ext [i]
theorem blk1_at (t : Fin cfg0.N) (d : Fin 1024) : blk1 m c t (ix2 0 d) = aG m c (ix2 0 d) := by
  have e : blk1 m c t = ((cfg0.win 1).blk t).view.read (Elt Ideal) (V m c main_v13) := by
    unfold blk1 iblk
    exact congrArg _ rfl
  rw [e]
  exact (read1 _ t (ix2 0 d) _ _ (idx1 t) rfl rfl).trans (v13_at m c d)

def blk3 (t : Fin cfg0.N) : Vec Ideal S512x1024 .bf16 := iblk m c 3 t
theorem read3 (X : main_v4.ty.Contents (Elt Ideal)) (t : Fin cfg0.N) (j : ((cfg0.win 3).xblock (cfg0.grid.coords t)).Idx)
    (f : Fin 512) (d : Fin 1024) (i : win0_3.index t = ![0, 0]) (hf : f.val = (j (0 : Fin 2)).val) (hd : d.val = (j (1 : Fin 2)).val) :
    ((cfg0.win 3).blk t).view.read (Elt Ideal) X j = X (ix2 f d) := by
  blk_ext [i]
theorem blk3_at (t : Fin cfg0.N) (f : Fin 512) (d : Fin 1024) : blk3 m c t (ix2 f d) = aW m c (ix3 0 d ⟨512 + f.val, by omega⟩) := by
  have e : blk3 m c t = ((cfg0.win 3).blk t).view.read (Elt Ideal) (V m c main_v4) := by
    unfold blk3 iblk
    exact congrArg _ rfl
  rw [e]
  exact (read3 _ t (ix2 f d) _ _ (idx3 t) rfl rfl).trans (v4_at m c f d)

def blk4 (t : Fin cfg0.N) : Vec Ideal S512x1024 .bf16 := iblk m c 4 t
theorem read4 (X : main_v5.ty.Contents (Elt Ideal)) (t : Fin cfg0.N) (j : ((cfg0.win 4).xblock (cfg0.grid.coords t)).Idx)
    (f : Fin 512) (d : Fin 1024) (i : win0_4.index t = ![0, 0]) (hf : f.val = (j (0 : Fin 2)).val) (hd : d.val = (j (1 : Fin 2)).val) :
    ((cfg0.win 4).blk t).view.read (Elt Ideal) X j = X (ix2 f d) := by
  blk_ext [i]
theorem blk4_at (t : Fin cfg0.N) (f : Fin 512) (d : Fin 1024) : blk4 m c t (ix2 f d) = aW m c (ix3 0 d ⟨1024 + f.val, by omega⟩) := by
  have e : blk4 m c t = ((cfg0.win 4).blk t).view.read (Elt Ideal) (V m c main_v5) := by
    unfold blk4 iblk
    exact congrArg _ rfl
  rw [e]
  exact (read4 _ t (ix2 f d) _ _ (idx4 t) rfl rfl).trans (v5_at m c f d)

def blk5 (t : Fin cfg0.N) : Vec Ideal S512x1024 .bf16 := iblk m c 5 t
theorem read5 (X : main_v6.ty.Contents (Elt Ideal)) (t : Fin cfg0.N) (j : ((cfg0.win 5).xblock (cfg0.grid.coords t)).Idx)
    (f : Fin 512) (d : Fin 1024) (i : win0_5.index t = ![0, 0]) (hf : f.val = (j (0 : Fin 2)).val) (hd : d.val = (j (1 : Fin 2)).val) :
    ((cfg0.win 5).blk t).view.read (Elt Ideal) X j = X (ix2 f d) := by
  blk_ext [i]
theorem blk5_at (t : Fin cfg0.N) (f : Fin 512) (d : Fin 1024) : blk5 m c t (ix2 f d) = aW m c (ix3 0 d ⟨1536 + f.val, by omega⟩) := by
  have e : blk5 m c t = ((cfg0.win 5).blk t).view.read (Elt Ideal) (V m c main_v6) := by
    unfold blk5 iblk
    exact congrArg _ rfl
  rw [e]
  exact (read5 _ t (ix2 f d) _ _ (idx5 t) rfl rfl).trans (v6_at m c f d)

def blk6 (t : Fin cfg0.N) : Vec Ideal S8x1024 .bf16 := iblk m c 6 t
theorem read6 (X : main_v7.ty.Contents (Elt Ideal)) (t : Fin cfg0.N) (j : ((cfg0.win 6).xblock (cfg0.grid.coords t)).Idx)
    (f : Fin 8) (d : Fin 1024) (i : win0_6.index t = ![0, 0]) (hf : f.val = (j (0 : Fin 2)).val) (hd : d.val = (j (1 : Fin 2)).val) :
    ((cfg0.win 6).blk t).view.read (Elt Ideal) X j = X (ix2 f d) := by
  blk_ext [i]
theorem blk6_at (t : Fin cfg0.N) (f : Fin 8) (d : Fin 1024) : blk6 m c t (ix2 f d) = aW m c (ix3 0 d ⟨2048 + f.val, by omega⟩) := by
  have e : blk6 m c t = ((cfg0.win 6).blk t).view.read (Elt Ideal) (V m c main_v7) := by
    unfold blk6 iblk
    exact congrArg _ rfl
  rw [e]
  exact (read6 _ t (ix2 f d) _ _ (idx6 t) rfl rfl).trans (v7_at m c f d)

def blk7 (t : Fin cfg0.N) : Vec Ideal S1024x1024 .bf16 := iblk m c 7 t
theorem read7 (X : main_v8.ty.Contents (Elt Ideal)) (t : Fin cfg0.N) (j : ((cfg0.win 7).xblock (cfg0.grid.coords t)).Idx)
    (f : Fin 1024) (d : Fin 1024) (i : win0_7.index t = ![0, 0]) (hf : f.val = (j (0 : Fin 2)).val) (hd : d.val = (j (1 : Fin 2)).val) :
    ((cfg0.win 7).blk t).view.read (Elt Ideal) X j = X (ix2 f d) := by
  blk_ext [i]
theorem blk7_at (t : Fin cfg0.N) (f : Fin 1024) (d : Fin 1024) : blk7 m c t (ix2 f d) = aW m c (ix3 0 d ⟨2056 + f.val, by omega⟩) := by
  have e : blk7 m c t = ((cfg0.win 7).blk t).view.read (Elt Ideal) (V m c main_v8) := by
    unfold blk7 iblk
    exact congrArg _ rfl
  rw [e]
  exact (read7 _ t (ix2 f d) _ _ (idx7 t) rfl rfl).trans (v8_at m c f d)

def blk8 (t : Fin cfg0.N) : Vec Ideal S1024x1024 .bf16 := iblk m c 8 t
theorem read8 (X : main_v9.ty.Contents (Elt Ideal)) (t : Fin cfg0.N) (j : ((cfg0.win 8).xblock (cfg0.grid.coords t)).Idx)
    (f : Fin 1024) (d : Fin 1024) (i : win0_8.index t = ![0, 0]) (hf : f.val = (j (0 : Fin 2)).val) (hd : d.val = (j (1 : Fin 2)).val) :
    ((cfg0.win 8).blk t).view.read (Elt Ideal) X j = X (ix2 f d) := by
  blk_ext [i]
theorem blk8_at (t : Fin cfg0.N) (f : Fin 1024) (d : Fin 1024) : blk8 m c t (ix2 f d) = aW m c (ix3 0 d ⟨3080 + f.val, by omega⟩) := by
  have e : blk8 m c t = ((cfg0.win 8).blk t).view.read (Elt Ideal) (V m c main_v9) := by
    unfold blk8 iblk
    exact congrArg _ rfl
  rw [e]
  exact (read8 _ t (ix2 f d) _ _ (idx8 t) rfl rfl).trans (v9_at m c f d)

def blk9 (t : Fin cfg0.N) : Vec Ideal S1024x1024 .bf16 := iblk m c 9 t
theorem read9 (X : main_v10.ty.Contents (Elt Ideal)) (t : Fin cfg0.N) (j : ((cfg0.win 9).xblock (cfg0.grid.coords t)).Idx)
    (f : Fin 1024) (d : Fin 1024) (i : win0_9.index t = ![0, 0]) (hf : f.val = (j (0 : Fin 2)).val) (hd : d.val = (j (1 : Fin 2)).val) :
    ((cfg0.win 9).blk t).view.read (Elt Ideal) X j = X (ix2 f d) := by
  blk_ext [i]
theorem blk9_at (t : Fin cfg0.N) (f : Fin 1024) (d : Fin 1024) : blk9 m c t (ix2 f d) = aW m c (ix3 0 d ⟨4104 + f.val, by omega⟩) := by
  have e : blk9 m c t = ((cfg0.win 9).blk t).view.read (Elt Ideal) (V m c main_v10) := by
    unfold blk9 iblk
    exact congrArg _ rfl
  rw [e]
  exact (read9 _ t (ix2 f d) _ _ (idx9 t) rfl rfl).trans (v10_at m c f d)

def blk10 (t : Fin cfg0.N) : Vec Ideal S1024x1024 .bf16 := iblk m c 10 t
theorem read10 (X : main_v11.ty.Contents (Elt Ideal)) (t : Fin cfg0.N) (j : ((cfg0.win 10).xblock (cfg0.grid.coords t)).Idx)
    (f : Fin 1024) (d : Fin 1024) (i : win0_10.index t = ![0, 0]) (hf : f.val = (j (0 : Fin 2)).val) (hd : d.val = (j (1 : Fin 2)).val) :
    ((cfg0.win 10).blk t).view.read (Elt Ideal) X j = X (ix2 f d) := by
  blk_ext [i]
theorem blk10_at (t : Fin cfg0.N) (f : Fin 1024) (d : Fin 1024) : blk10 m c t (ix2 f d) = aW m c (ix3 0 d ⟨5128 + f.val, by omega⟩) := by
  have e : blk10 m c t = ((cfg0.win 10).blk t).view.read (Elt Ideal) (V m c main_v11) := by
    unfold blk10 iblk
    exact congrArg _ rfl
  rw [e]
  exact (read10 _ t (ix2 f d) _ _ (idx10 t) rfl rfl).trans (v11_at m c f d)

def blk12 (t : Fin cfg0.N) : Vec Ideal S64x1 .f32 := iblk m c 12 t
theorem read12 (X : main_v27.ty.Contents (Elt Ideal)) (t : Fin cfg0.N) (j : ((cfg0.win 12).xblock (cfg0.grid.coords t)).Idx)
    (f : Fin 64) (d : Fin 1) (i : win0_12.index t = ![0, 0]) (hf : f.val = (j (0 : Fin 2)).val) (hd : d.val = (j (1 : Fin 2)).val) :
    ((cfg0.win 12).blk t).view.read (Elt Ideal) X j = X (ix2 f d) := by
  blk_ext [i]
theorem blk12_at (t : Fin cfg0.N) (d : Fin 64) : blk12 m c t (ix2 d 0) = aK m c (ix2 0 d) := by
  have e : blk12 m c t = ((cfg0.win 12).blk t).view.read (Elt Ideal) (V m c main_v27) := by
    unfold blk12 iblk
    exact congrArg _ rfl
  rw [e]
  exact (read12 _ t (ix2 d 0) _ _ (idx12 t) rfl rfl).trans (v27_at m c d)

def blk13 (t : Fin cfg0.N) : Vec Ideal S8x1 .f32 := iblk m c 13 t
theorem read13 (X : main_v28.ty.Contents (Elt Ideal)) (t : Fin cfg0.N) (j : ((cfg0.win 13).xblock (cfg0.grid.coords t)).Idx)
    (f : Fin 8) (d : Fin 1) (i : win0_13.index t = ![0, 0]) (hf : f.val = (j (0 : Fin 2)).val) (hd : d.val = (j (1 : Fin 2)).val) :
    ((cfg0.win 13).blk t).view.read (Elt Ideal) X j = X (ix2 f d) := by
  blk_ext [i]
theorem blk13_at (t : Fin cfg0.N) (d : Fin 8) : blk13 m c t (ix2 d 0) = aB m c (ix2 0 d) := by
  have e : blk13 m c t = ((cfg0.win 13).blk t).view.read (Elt Ideal) (V m c main_v28) := by
    unfold blk13 iblk
    exact congrArg _ rfl
  rw [e]
  exact (read13 _ t (ix2 d 0) _ _ (idx13 t) rfl rfl).trans (v28_at m c d)

/-- A block's row against a weight operand is the token's row against a column. -/
theorem proj_eq {n : Nat} (t : Fin cfg0.N) (w : (⟨2, ![n, 1024]⟩ : Shape).Idx → EReal) (r : Fin 512) (f : Fin n) (j : Fin 6152)
    (hw : ∀ d, w (ix2 f d) = aW m c (ix3 0 d j)) :
    proj (xBlk m c t) (blk1 m c t) w r f = pr (aX m c) (aG m c) (aW m c) (bOf t) (tok (jOf t) r) j := by
  unfold proj pr row
  simp only [blk0_at, blk1_at, hw]

/-! ## The result arrays -/

/-- A feature's head, and its place in the head. -/
def hdOf (f : Fin 512) : Fin 8 := ⟨f.val / 64, by omega⟩
def inHd (f : Fin 512) : Fin 64 := ⟨f.val % 64, by omega⟩
theorem ft_split (f : Fin 512) : ft (hdOf f) (inHd f) = f := Fin.ext (by show 64 * (f.val / 64) + f.val % 64 = f.val; omega)

/-- The keys. -/
def G18 : S2x512x8192.Idx → EReal := fun i => prHead (aX m c) (aG m c) (aW m c) (aK m c) 512 (by decide) (i 0) (i 2) (hdOf (i 1)) (inHd (i 1))
/-- The values. -/
def G19 : S2x512x8192.Idx → EReal := fun i => pr (aX m c) (aG m c) (aW m c) (i 0) (i 2) ⟨1024 + (i 1).val, by have : (i 1).val < 512 := (i 1).isLt; omega⟩
/-- The attention gate. -/
def G21 : S2x512x8192.Idx → EReal := fun i => silu (pr (aX m c) (aG m c) (aW m c) (i 0) (i 2) ⟨1536 + (i 1).val, by have : (i 1).val < 512 := (i 1).isLt; omega⟩)
/-- The log forget gates. -/
def G22 : S2x8x8192.Idx → EReal := fun i => prGate (aX m c) (aG m c) (aW m c) (aB m c) (i 0) (i 2) (i 1)
/-- The recurrence's rows. -/
def G23 : S2x8192x1024.Idx → EReal := fun i => pr (aX m c) (aG m c) (aW m c) (i 0) (i 1) ⟨2056 + (i 2).val, by have : (i 2).val < 1024 := (i 2).isLt; omega⟩
/-- The recurrence's output gate. -/
def G24 : S2x8192x1024.Idx → EReal := fun i => silu (pr (aX m c) (aG m c) (aW m c) (i 0) (i 1) ⟨3080 + (i 2).val, by have : (i 2).val < 1024 := (i 2).isLt; omega⟩)
/-- The first recurrent gate. -/
def G25 : S2x8192x1024.Idx → EReal := fun i => logi (pr (aX m c) (aG m c) (aW m c) (i 0) (i 1) ⟨4104 + (i 2).val, by have : (i 2).val < 1024 := (i 2).isLt; omega⟩)
/-- The second recurrent gate. -/
def G26 : S2x8192x1024.Idx → EReal := fun i => logi (pr (aX m c) (aG m c) (aW m c) (i 0) (i 1) ⟨5128 + (i 2).val, by have : (i 2).val < 1024 := (i 2).isLt; omega⟩)

theorem read18 (X : main_v32_2.ty.Contents (Elt Ideal)) (t : Fin cfg0.N) (j : ((cfg0.win 18).xblock (cfg0.grid.coords t)).Idx)
    (b : Fin 2) (f : Fin 512) (T : Fin 8192) (q : Fin 16) (i : win0_18.index t = ![b.val, 0, q.val])
    (hf : f.val = (j (1 : Fin 3)).val) (hT : T.val = 512 * q.val + (j (2 : Fin 3)).val) :
    X (((cfg0.win 18).blk t).view.emb j) = X (ix3 b f T) := by
  blk_ext [i]
theorem left18 (t : Fin cfg0.N) (f : Fin 512) (r : Fin 512) : out18 (xBlk m c t) (blk1 m c t) (blk3 m c t) (blk12 m c t) (ix3 0 f r) = G18 m c (ix3 (bOf t) f (tok (jOf t) r)) := by
  obtain ⟨h, d, rfl⟩ : ∃ h d, f = ft h d := ⟨hdOf f, inHd f, (ft_split f).symm⟩
  rw [out18_at]
  have e1 : hdOf (ft h d) = h := Fin.ext (by show (64 * h.val + d.val) / 64 = h.val; omega)
  have e2 : inHd (ft h d) = d := Fin.ext (by show (64 * h.val + d.val) % 64 = d.val; omega)
  show _ = prHead (aX m c) (aG m c) (aW m c) (aK m c) 512 (by decide) (bOf t) (tok (jOf t) r) (hdOf (ft h d)) (inHd (ft h d))
  rw [e1, e2]
  unfold prHead
  simp only [blk12_at]
  refine congrArg (fun x => rms n64 x _ d) (funext fun e => ?_)
  exact proj_eq m c t (blk3 m c t) r (ft h e) _ (blk3_at m c t (ft h e))
theorem read19 (X : main_v32_3.ty.Contents (Elt Ideal)) (t : Fin cfg0.N) (j : ((cfg0.win 19).xblock (cfg0.grid.coords t)).Idx)
    (b : Fin 2) (f : Fin 512) (T : Fin 8192) (q : Fin 16) (i : win0_19.index t = ![b.val, 0, q.val])
    (hf : f.val = (j (1 : Fin 3)).val) (hT : T.val = 512 * q.val + (j (2 : Fin 3)).val) :
    X (((cfg0.win 19).blk t).view.emb j) = X (ix3 b f T) := by
  blk_ext [i]
theorem left19 (t : Fin cfg0.N) (f : Fin 512) (r : Fin 512) : out19 (xBlk m c t) (blk1 m c t) (blk4 m c t) (ix3 0 f r) = G19 m c (ix3 (bOf t) f (tok (jOf t) r)) := (out19_at _ _ _ f r).trans (proj_eq m c t (blk4 m c t) r f _ (blk4_at m c t f))
theorem read21 (X : main_v32_5.ty.Contents (Elt Ideal)) (t : Fin cfg0.N) (j : ((cfg0.win 21).xblock (cfg0.grid.coords t)).Idx)
    (b : Fin 2) (f : Fin 512) (T : Fin 8192) (q : Fin 16) (i : win0_21.index t = ![b.val, 0, q.val])
    (hf : f.val = (j (1 : Fin 3)).val) (hT : T.val = 512 * q.val + (j (2 : Fin 3)).val) :
    X (((cfg0.win 21).blk t).view.emb j) = X (ix3 b f T) := by
  blk_ext [i]
theorem left21 (t : Fin cfg0.N) (f : Fin 512) (r : Fin 512) : out21 (xBlk m c t) (blk1 m c t) (blk5 m c t) (ix3 0 f r) = G21 m c (ix3 (bOf t) f (tok (jOf t) r)) := (out21_at _ _ _ f r).trans (congrArg silu (proj_eq m c t (blk5 m c t) r f _ (blk5_at m c t f)))
theorem read22 (X : main_v32_6.ty.Contents (Elt Ideal)) (t : Fin cfg0.N) (j : ((cfg0.win 22).xblock (cfg0.grid.coords t)).Idx)
    (b : Fin 2) (f : Fin 8) (T : Fin 8192) (q : Fin 16) (i : win0_22.index t = ![b.val, 0, q.val])
    (hf : f.val = (j (1 : Fin 3)).val) (hT : T.val = 512 * q.val + (j (2 : Fin 3)).val) :
    X (((cfg0.win 22).blk t).view.emb j) = X (ix3 b f T) := by
  blk_ext [i]
theorem left22 (t : Fin cfg0.N) (f : Fin 8) (r : Fin 512) : out22 (xBlk m c t) (blk1 m c t) (blk6 m c t) (blk13 m c t) (ix3 0 f r) = G22 m c (ix3 (bOf t) f (tok (jOf t) r)) := (out22_at _ _ _ _ f r).trans (congrArg lsig (congrArg₂ (· + ·) (proj_eq m c t (blk6 m c t) r f _ (blk6_at m c t f)) (blk13_at m c t f)))
theorem read23 (X : main_v32_7.ty.Contents (Elt Ideal)) (t : Fin cfg0.N) (j : ((cfg0.win 23).xblock (cfg0.grid.coords t)).Idx)
    (b : Fin 2) (T : Fin 8192) (f : Fin 1024) (q : Fin 16) (i : win0_23.index t = ![b.val, q.val, 0])
    (hT : T.val = 512 * q.val + (j (1 : Fin 3)).val) (hf : f.val = (j (2 : Fin 3)).val) :
    X (((cfg0.win 23).blk t).view.emb j) = X (ix3 b T f) := by
  blk_ext [i]
theorem left23 (t : Fin cfg0.N) (r : Fin 512) (f : Fin 1024) : out23 (xBlk m c t) (blk1 m c t) (blk7 m c t) (ix3 0 r f) = G23 m c (ix3 (bOf t) (tok (jOf t) r) f) := (out23_at _ _ _ r f).trans (proj_eq m c t (blk7 m c t) r f _ (blk7_at m c t f))
theorem read24 (X : main_v32_8.ty.Contents (Elt Ideal)) (t : Fin cfg0.N) (j : ((cfg0.win 24).xblock (cfg0.grid.coords t)).Idx)
    (b : Fin 2) (T : Fin 8192) (f : Fin 1024) (q : Fin 16) (i : win0_24.index t = ![b.val, q.val, 0])
    (hT : T.val = 512 * q.val + (j (1 : Fin 3)).val) (hf : f.val = (j (2 : Fin 3)).val) :
    X (((cfg0.win 24).blk t).view.emb j) = X (ix3 b T f) := by
  blk_ext [i]
theorem left24 (t : Fin cfg0.N) (r : Fin 512) (f : Fin 1024) : out24 (xBlk m c t) (blk1 m c t) (blk8 m c t) (ix3 0 r f) = G24 m c (ix3 (bOf t) (tok (jOf t) r) f) := (out24_at _ _ _ r f).trans (congrArg silu (proj_eq m c t (blk8 m c t) r f _ (blk8_at m c t f)))
theorem read25 (X : main_v32_9.ty.Contents (Elt Ideal)) (t : Fin cfg0.N) (j : ((cfg0.win 25).xblock (cfg0.grid.coords t)).Idx)
    (b : Fin 2) (T : Fin 8192) (f : Fin 1024) (q : Fin 16) (i : win0_25.index t = ![b.val, q.val, 0])
    (hT : T.val = 512 * q.val + (j (1 : Fin 3)).val) (hf : f.val = (j (2 : Fin 3)).val) :
    X (((cfg0.win 25).blk t).view.emb j) = X (ix3 b T f) := by
  blk_ext [i]
theorem left25 (t : Fin cfg0.N) (r : Fin 512) (f : Fin 1024) : out25 (xBlk m c t) (blk1 m c t) (blk9 m c t) (ix3 0 r f) = G25 m c (ix3 (bOf t) (tok (jOf t) r) f) := (out25_at _ _ _ r f).trans (congrArg logi (proj_eq m c t (blk9 m c t) r f _ (blk9_at m c t f)))
theorem read26 (X : main_v32_10.ty.Contents (Elt Ideal)) (t : Fin cfg0.N) (j : ((cfg0.win 26).xblock (cfg0.grid.coords t)).Idx)
    (b : Fin 2) (T : Fin 8192) (f : Fin 1024) (q : Fin 16) (i : win0_26.index t = ![b.val, q.val, 0])
    (hT : T.val = 512 * q.val + (j (1 : Fin 3)).val) (hf : f.val = (j (2 : Fin 3)).val) :
    X (((cfg0.win 26).blk t).view.emb j) = X (ix3 b T f) := by
  blk_ext [i]
theorem left26 (t : Fin cfg0.N) (r : Fin 512) (f : Fin 1024) : out26 (xBlk m c t) (blk1 m c t) (blk10 m c t) (ix3 0 r f) = G26 m c (ix3 (bOf t) (tok (jOf t) r) f) := (out26_at _ _ _ r f).trans (congrArg logi (proj_eq m c t (blk10 m c t) r f _ (blk10_at m c t f)))

end Cert.Proof.In.Prompt

end
-- ==== Proof.In.PromptFinal.lean ====
/-
  The claimed result arrays after the run.
-/
module

public import proofs.«01_k».proof.Proof.In.PromptArray

@[expose] public section

set_option maxRecDepth 16384
set_option maxHeartbeats 400000

noncomputable section

namespace Cert.Proof.In.Prompt

open Cert.InprojPromptIdeal Cert.InprojPromptIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- An index of a block of one batch, by its two coordinates. -/
theorem blk_ix {a b : Nat} (y : (⟨3, ![1, a, b]⟩ : Shape).Idx) (h1 : (y (1 : Fin 3)).val < a) (h2 : (y (2 : Fin 3)).val < b) :
    y = ix3 0 ⟨_, h1⟩ ⟨_, h2⟩ := funext fun x => by
  match x with
  | 0 => exact Subsingleton.elim (α := Fin 1) _ _
  | 1 => rfl
  | 2 => rfl

theorem point18 (t : Fin cfg0.N) : (dats (F := Ideal) m 0 c).after 18 t = out18 (xBlk m c t) (blk1 m c t) (blk3 m c t) (blk12 m c t) := after0_18 m c t
theorem final18 : (dats (F := Ideal) m 0 c).arrAt 18 cfg0.N = G18 m c := by
  refine (dats (F := Ideal) m 0 c).arrAt_eq_of_covers 18 (G18 m c) (by decide +kernel) fun t _ y => ?_
  rw [point18]
  have h1 : (y (1 : Fin 3)).val < 512 := (y (1 : Fin 3)).isLt
  have h2 : (y (2 : Fin 3)).val < 512 := (y (2 : Fin 3)).isLt
  rw [read18 (G18 m c) t y (bOf t) ⟨_, h1⟩ (tok (jOf t) ⟨_, h2⟩) (jOf t) (idx18 t) rfl (tok_val _ _), ← left18]
  generalize out18 (xBlk m c t) (blk1 m c t) (blk3 m c t) (blk12 m c t) = Y
  exact congrArg Y (blk_ix y h1 h2)

theorem point19 (t : Fin cfg0.N) : (dats (F := Ideal) m 0 c).after 19 t = out19 (xBlk m c t) (blk1 m c t) (blk4 m c t) := after0_19 m c t
theorem final19 : (dats (F := Ideal) m 0 c).arrAt 19 cfg0.N = G19 m c := by
  refine (dats (F := Ideal) m 0 c).arrAt_eq_of_covers 19 (G19 m c) (by decide +kernel) fun t _ y => ?_
  rw [point19]
  have h1 : (y (1 : Fin 3)).val < 512 := (y (1 : Fin 3)).isLt
  have h2 : (y (2 : Fin 3)).val < 512 := (y (2 : Fin 3)).isLt
  rw [read19 (G19 m c) t y (bOf t) ⟨_, h1⟩ (tok (jOf t) ⟨_, h2⟩) (jOf t) (idx19 t) rfl (tok_val _ _), ← left19]
  generalize out19 (xBlk m c t) (blk1 m c t) (blk4 m c t) = Y
  exact congrArg Y (blk_ix y h1 h2)

theorem point21 (t : Fin cfg0.N) : (dats (F := Ideal) m 0 c).after 21 t = out21 (xBlk m c t) (blk1 m c t) (blk5 m c t) := after0_21 m c t
theorem final21 : (dats (F := Ideal) m 0 c).arrAt 21 cfg0.N = G21 m c := by
  refine (dats (F := Ideal) m 0 c).arrAt_eq_of_covers 21 (G21 m c) (by decide +kernel) fun t _ y => ?_
  rw [point21]
  have h1 : (y (1 : Fin 3)).val < 512 := (y (1 : Fin 3)).isLt
  have h2 : (y (2 : Fin 3)).val < 512 := (y (2 : Fin 3)).isLt
  rw [read21 (G21 m c) t y (bOf t) ⟨_, h1⟩ (tok (jOf t) ⟨_, h2⟩) (jOf t) (idx21 t) rfl (tok_val _ _), ← left21]
  generalize out21 (xBlk m c t) (blk1 m c t) (blk5 m c t) = Y
  exact congrArg Y (blk_ix y h1 h2)

theorem point22 (t : Fin cfg0.N) : (dats (F := Ideal) m 0 c).after 22 t = out22 (xBlk m c t) (blk1 m c t) (blk6 m c t) (blk13 m c t) := after0_22 m c t
theorem final22 : (dats (F := Ideal) m 0 c).arrAt 22 cfg0.N = G22 m c := by
  refine (dats (F := Ideal) m 0 c).arrAt_eq_of_covers 22 (G22 m c) (by decide +kernel) fun t _ y => ?_
  rw [point22]
  have h1 : (y (1 : Fin 3)).val < 8 := (y (1 : Fin 3)).isLt
  have h2 : (y (2 : Fin 3)).val < 512 := (y (2 : Fin 3)).isLt
  rw [read22 (G22 m c) t y (bOf t) ⟨_, h1⟩ (tok (jOf t) ⟨_, h2⟩) (jOf t) (idx22 t) rfl (tok_val _ _), ← left22]
  generalize out22 (xBlk m c t) (blk1 m c t) (blk6 m c t) (blk13 m c t) = Y
  exact congrArg Y (blk_ix y h1 h2)

theorem point23 (t : Fin cfg0.N) : (dats (F := Ideal) m 0 c).after 23 t = out23 (xBlk m c t) (blk1 m c t) (blk7 m c t) := after0_23 m c t
theorem final23 : (dats (F := Ideal) m 0 c).arrAt 23 cfg0.N = G23 m c := by
  refine (dats (F := Ideal) m 0 c).arrAt_eq_of_covers 23 (G23 m c) (by decide +kernel) fun t _ y => ?_
  rw [point23]
  have h1 : (y (1 : Fin 3)).val < 512 := (y (1 : Fin 3)).isLt
  have h2 : (y (2 : Fin 3)).val < 1024 := (y (2 : Fin 3)).isLt
  rw [read23 (G23 m c) t y (bOf t) (tok (jOf t) ⟨_, h1⟩) ⟨_, h2⟩ (jOf t) (idx23 t) (tok_val _ _) rfl, ← left23]
  generalize out23 (xBlk m c t) (blk1 m c t) (blk7 m c t) = Y
  exact congrArg Y (blk_ix y h1 h2)

theorem point24 (t : Fin cfg0.N) : (dats (F := Ideal) m 0 c).after 24 t = out24 (xBlk m c t) (blk1 m c t) (blk8 m c t) := after0_24 m c t
theorem final24 : (dats (F := Ideal) m 0 c).arrAt 24 cfg0.N = G24 m c := by
  refine (dats (F := Ideal) m 0 c).arrAt_eq_of_covers 24 (G24 m c) (by decide +kernel) fun t _ y => ?_
  rw [point24]
  have h1 : (y (1 : Fin 3)).val < 512 := (y (1 : Fin 3)).isLt
  have h2 : (y (2 : Fin 3)).val < 1024 := (y (2 : Fin 3)).isLt
  rw [read24 (G24 m c) t y (bOf t) (tok (jOf t) ⟨_, h1⟩) ⟨_, h2⟩ (jOf t) (idx24 t) (tok_val _ _) rfl, ← left24]
  generalize out24 (xBlk m c t) (blk1 m c t) (blk8 m c t) = Y
  exact congrArg Y (blk_ix y h1 h2)

theorem point25 (t : Fin cfg0.N) : (dats (F := Ideal) m 0 c).after 25 t = out25 (xBlk m c t) (blk1 m c t) (blk9 m c t) := after0_25 m c t
theorem final25 : (dats (F := Ideal) m 0 c).arrAt 25 cfg0.N = G25 m c := by
  refine (dats (F := Ideal) m 0 c).arrAt_eq_of_covers 25 (G25 m c) (by decide +kernel) fun t _ y => ?_
  rw [point25]
  have h1 : (y (1 : Fin 3)).val < 512 := (y (1 : Fin 3)).isLt
  have h2 : (y (2 : Fin 3)).val < 1024 := (y (2 : Fin 3)).isLt
  rw [read25 (G25 m c) t y (bOf t) (tok (jOf t) ⟨_, h1⟩) ⟨_, h2⟩ (jOf t) (idx25 t) (tok_val _ _) rfl, ← left25]
  generalize out25 (xBlk m c t) (blk1 m c t) (blk9 m c t) = Y
  exact congrArg Y (blk_ix y h1 h2)

theorem point26 (t : Fin cfg0.N) : (dats (F := Ideal) m 0 c).after 26 t = out26 (xBlk m c t) (blk1 m c t) (blk10 m c t) := after0_26 m c t
theorem final26 : (dats (F := Ideal) m 0 c).arrAt 26 cfg0.N = G26 m c := by
  refine (dats (F := Ideal) m 0 c).arrAt_eq_of_covers 26 (G26 m c) (by decide +kernel) fun t _ y => ?_
  rw [point26]
  have h1 : (y (1 : Fin 3)).val < 512 := (y (1 : Fin 3)).isLt
  have h2 : (y (2 : Fin 3)).val < 1024 := (y (2 : Fin 3)).isLt
  rw [read26 (G26 m c) t y (bOf t) (tok (jOf t) ⟨_, h1⟩) ⟨_, h2⟩ (jOf t) (idx26 t) (tok_val _ _) rfl, ← left26]
  generalize out26 (xBlk m c t) (blk1 m c t) (blk10 m c t) = Y
  exact congrArg Y (blk_ix y h1 h2)

end Cert.Proof.In.Prompt

end
-- ==== Proof.In.Gates.lean ====
/-
  The log of the logistic function in its two spellings.
-/
module

public import proofs.«01_k».proof.Proof.In.Maths

@[expose] public section

noncomputable section

namespace Cert.Proof.In

open Idealize.ShloMosaic

/-- The log of the logistic function of `-z`, through the larger of `z` and zero. -/
def lsigN (z : EReal) : EReal := -(max z 0 + Ideal.log1p (Ideal.exp (-(max z (-z)))))

theorem exp_nonneg (x : EReal) : 0 ≤ Ideal.exp x := by
  induction x with
  | bot => exact le_refl _
  | top => exact le_top
  | coe r => exact EReal.coe_nonneg.2 (Real.exp_pos r).le

/-- The log of one more than something nonnegative is not minus infinity. -/
theorem log1p_ne_bot {y : EReal} (h : 0 ≤ y) : Ideal.log1p y ≠ ⊥ := by
  induction y with
  | bot => exact absurd h (not_le.2 EReal.bot_lt_zero)
  | top =>
      unfold Ideal.log1p
      rw [show (1 : EReal) + ⊤ = ⊤ from rfl]
      exact bot_lt_top.ne'
  | coe r =>
      have hr : 0 ≤ r := EReal.coe_nonneg.1 h
      unfold Ideal.log1p
      rw [show (1 : EReal) + (r : EReal) = ((1 + r : ℝ) : EReal) from rfl]
      show (if 1 + r ≤ 0 then (⊥ : EReal) else (Real.log (1 + r) : EReal)) ≠ ⊥
      rw [if_neg (by linarith)]
      exact EReal.coe_ne_bot _

theorem neg_max_neg (z : EReal) : -(max (-z) 0) = min z 0 := by
  rcases le_total z 0 with h | h
  · rw [min_eq_left h, max_eq_left (by simpa using EReal.neg_le_neg_iff.2 h), neg_neg]
  · rw [min_eq_right h, max_eq_right (by simpa using EReal.neg_le_neg_iff.2 h), neg_zero]

theorem lsigN_neg (z : EReal) : lsigN (-z) = lsig z := by
  unfold lsigN lsig
  have hb := log1p_ne_bot (exp_nonneg (-(max (-z) (- -z))))
  rw [EReal.neg_add (Or.inl (ne_of_gt (lt_of_lt_of_le (EReal.bot_lt_zero) (le_max_right _ _)))) (Or.inr hb), neg_max_neg, neg_neg, max_comm (-z) z, zero_sub]

end Cert.Proof.In

end
-- ==== Proof.In.PromptReference.lean ====
/-
  The reference's results at an index: the normalised rows' products with the weights' columns, and the gates.
-/
module

public import proofs.«01_k».proof.Proof.Gen.MixerPromptIdeal.Run
public import proofs.«01_k».proof.Proof.In.Gates

@[expose] public section

set_option maxRecDepth 16384
set_option maxHeartbeats 1000000

noncomputable section

namespace Cert.Proof.In.PromptRef

open Cert.MixerPromptIdeal Cert.MixerPromptIdeal.Gen
open Idealize.ShloMosaic Idealize.ShloMosaic.TcCoe Idealize.ShloMosaic.Tactic

abbrev Rows := FVec Ideal S2x8192x1024 .f32
abbrev Prod := FVec Ideal S2x8192x6152 .f32

/-! ## The arrays of the program, stage by stage -/

/-- The normalised rows. -/
def normed (x : Rows) (g : FVec Ideal S1x1024 .f32) : Rows :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ g shapeCasts_S1x1024_S1024)))

/-- All the projections. -/
def prod (h : Rows) (w : FVec Ideal S1x1024x6152 .f32) : Prod :=
  Host.dotGeneral dot_S2x8192x1024_S1024x6152_S2x8192x6152_2_0_01_1_n_n none h (shapeCast _ w shapeCasts_S1x1024x6152_S1024x6152)

/-- The keys' heads. -/
def keys (u : Prod) : FVec Ideal S2x8192x8x64 .f32 :=
  shapeCast _ (extractStridedSlice S2x8192x512 ![0, 0, 512] u slices_S2x8192x6152_S2x8192x512_0_0_512) shapeCasts_S2x8192x512_S2x8192x8x64

/-- The heads normalised, feature major. -/
def headed (k : FVec Ideal S2x8192x8x64 .f32) (g : FVec Ideal S1x64 .f32) : FVec Ideal S2x512x8192 .f32 :=
  transpose S2x512x8192 [0, 2, 1] (shapeCast _ (mulf (mulf k (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf k k) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ g shapeCasts_S1x64_S64)))) shapeCasts_S2x8192x8x64_S2x8192x512) transposes_S2x8192x512_S2x512x8192_0_2_1

/-- The forget gates' logits, negated. -/
def flog (u : Prod) (b : FVec Ideal S1x8 .f32) : FVec Ideal S2x8192x8 .f32 :=
  Host.negf (addf (extractStridedSlice S2x8192x8 ![0, 0, 2048] u slices_S2x8192x6152_S2x8192x8_0_0_2048) (broadcastInDim S2x8192x8 ![0, 1, 2] bcast_S1x1x8_S2x8192x8_0_1_2 (broadcastInDim S1x1x8 ![2] bcast_S8_S1x1x8_2 (shapeCast _ b shapeCasts_S1x8_S8))))

/-- The log forget gates of negated logits, feature major. -/
def fgate (z : FVec Ideal S2x8192x8 .f32) : FVec Ideal S2x8x8192 .f32 :=
  transpose S2x8x8192 [0, 2, 1] (Host.negf (select (cmpf .une (subf z (broadcastInDim S2x8192x8 ![] bcast_S_S2x8192x8 (constant S_ .f32 0x00000000#32))) (subf z (broadcastInDim S2x8192x8 ![] bcast_S_S2x8192x8 (constant S_ .f32 0x00000000#32)))) (addf z (broadcastInDim S2x8192x8 ![] bcast_S_S2x8192x8 (constant S_ .f32 0x00000000#32))) (addf (maximumf z (broadcastInDim S2x8192x8 ![] bcast_S_S2x8192x8 (constant S_ .f32 0x00000000#32))) (Host.log1p (Host.exp (Host.negf (Host.absf (subf z (broadcastInDim S2x8192x8 ![] bcast_S_S2x8192x8 (constant S_ .f32 0x00000000#32)))))))))) transposes_S2x8192x8_S2x8x8192_0_2_1

/-- A feature-major slice, and its gate. -/
def vcols (u : Prod) : FVec Ideal S2x512x8192 .f32 :=
  transpose S2x512x8192 [0, 2, 1] (extractStridedSlice S2x8192x512 ![0, 0, 1024] u slices_S2x8192x6152_S2x8192x512_0_0_1024) transposes_S2x8192x512_S2x512x8192_0_2_1

def zcols (u : Prod) : FVec Ideal S2x512x8192 .bf16 :=
  truncf .bf16 (transpose S2x512x8192 [0, 2, 1] (mulf (extractStridedSlice S2x8192x512 ![0, 0, 1536] u slices_S2x8192x6152_S2x8192x512_0_0_1536) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (extractStridedSlice S2x8192x512 ![0, 0, 1536] u slices_S2x8192x6152_S2x8192x512_0_0_1536)))))) transposes_S2x8192x512_S2x512x8192_0_2_1) bitsLt_bf16_f32

/-- Logistic functions of a token-major slice. -/
def logis (z : Rows) : Rows :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z)))

def xrows (u : Prod) : Rows := extractStridedSlice S2x8192x1024 ![0, 0, 2056] u slices_S2x8192x6152_S2x8192x1024_0_0_2056
def zrows (u : Prod) : Rows := extractStridedSlice S2x8192x1024 ![0, 0, 3080] u slices_S2x8192x6152_S2x8192x1024_0_0_3080
def arows (u : Prod) : Rows := extractStridedSlice S2x8192x1024 ![0, 0, 4104] u slices_S2x8192x6152_S2x8192x1024_0_0_4104
def brows (u : Prod) : Rows := extractStridedSlice S2x8192x1024 ![0, 0, 5128] u slices_S2x8192x6152_S2x8192x1024_0_0_5128

/-- The gates' cast. -/
def cast16 (z : Rows) : FVec Ideal S2x8192x1024 .bf16 := truncf .bf16 z bitsLt_bf16_f32

/-! ## The stages at an index -/

theorem normed_at (x : Rows) (g : FVec Ideal S1x1024 .f32) (b : Fin 2) (t : Fin 8192) (d : Fin 1024) :
    (normed x g (ix3 b t d) : EReal) = rms n1024 (fun d => x (ix3 b t d)) (fun d => g (ix2 0 d)) d := by
  unfold normed rms n1024
  pointwise

theorem prod_at (h : Rows) (w : FVec Ideal S1x1024x6152 .f32) (b : Fin 2) (t : Fin 8192) (j : Fin 6152) :
    (prod h w (ix3 b t j) : EReal) = ∑ d : Fin 1024, (h (ix3 b t d) : EReal) * (w (ix3 0 d j) : EReal) := by
  unfold prod
  pointwise

theorem keys_at (u : Prod) (b : Fin 2) (t : Fin 8192) (h : Fin 8) (d : Fin 64) :
    (keys u (ix4 b t h d) : EReal) = u (ix3 b t ⟨512 + (64 * h.val + d.val), by omega⟩) := by
  unfold keys
  pointwise
  exact congrArg (fun j => (u (ix3 b t j) : EReal)) (Fin.ext (by show 512 + (h.val * 64 + d.val) = 512 + (64 * h.val + d.val); omega))

theorem headed_at (k : FVec Ideal S2x8192x8x64 .f32) (g : FVec Ideal S1x64 .f32) (b : Fin 2) (f : Fin 512) (t : Fin 8192) :
    (headed k g (ix3 b f t) : EReal) = rms n64 (fun e => k (ix4 b t ⟨f.val / 64, by omega⟩ e)) (fun e => g (ix2 0 e)) ⟨f.val % 64, by omega⟩ := by
  unfold headed rms n64
  pointwise

theorem flog_at (u : Prod) (a : FVec Ideal S1x8 .f32) (b : Fin 2) (t : Fin 8192) (h : Fin 8) :
    (flog u a (ix3 b t h) : EReal) = -((u (ix3 b t ⟨2048 + h.val, by omega⟩) : EReal) + (a (ix2 0 h) : EReal)) := by
  unfold flog
  pointwise

theorem fgate_at (z : FVec Ideal S2x8192x8 .f32) (b : Fin 2) (h : Fin 8) (t : Fin 8192) :
    (fgate z (ix3 b h t) : EReal) = lsigN (z (ix3 b t h)) := by
  unfold fgate lsigN
  pointwise
  rw [if_neg (not_not.2 rfl)]
  rfl

theorem vcols_at (u : Prod) (b : Fin 2) (f : Fin 512) (t : Fin 8192) :
    (vcols u (ix3 b f t) : EReal) = u (ix3 b t ⟨1024 + f.val, by omega⟩) := by
  unfold vcols
  pointwise

theorem zcols_at (u : Prod) (b : Fin 2) (f : Fin 512) (t : Fin 8192) :
    (zcols u (ix3 b f t) : EReal) = silu (u (ix3 b t ⟨1536 + f.val, by omega⟩)) := by
  unfold zcols silu
  pointwise
  rfl

theorem logis_at (z : Rows) (b : Fin 2) (t : Fin 8192) (f : Fin 1024) : (logis z (ix3 b t f) : EReal) = logi (z (ix3 b t f)) := by
  unfold logis logi
  pointwise
  rfl

theorem xrows_at (u : Prod) (b : Fin 2) (t : Fin 8192) (f : Fin 1024) : (xrows u (ix3 b t f) : EReal) = u (ix3 b t ⟨2056 + f.val, by omega⟩) := by
  unfold xrows
  pointwise
theorem zrows_at (u : Prod) (b : Fin 2) (t : Fin 8192) (f : Fin 1024) : (zrows u (ix3 b t f) : EReal) = u (ix3 b t ⟨3080 + f.val, by omega⟩) := by
  unfold zrows
  pointwise
theorem arows_at (u : Prod) (b : Fin 2) (t : Fin 8192) (f : Fin 1024) : (arows u (ix3 b t f) : EReal) = u (ix3 b t ⟨4104 + f.val, by omega⟩) := by
  unfold arows
  pointwise
theorem brows_at (u : Prod) (b : Fin 2) (t : Fin 8192) (f : Fin 1024) : (brows u (ix3 b t f) : EReal) = u (ix3 b t ⟨5128 + f.val, by omega⟩) := by
  unfold brows
  pointwise

/-! ## The program's results -/

variable (m : (ℓ : Loc nD τ sig) → Buf (Elt Ideal) ℓ) (c : Dev nD)

/-- All the projections of the program's arguments. -/
def uArr : Prod := prod (normed (m (c, Proc.tc.devRef main_arg0)) (m (c, Proc.tc.devRef main_arg1))) (m (c, Proc.tc.devRef main_arg2))

theorem uArr_at (b : Fin 2) (t : Fin 8192) (j : Fin 6152) : (uArr m c (ix3 b t j) : EReal) =
    pr (m (c, Proc.tc.devRef main_arg0) : S2x8192x1024.Idx → EReal) (m (c, Proc.tc.devRef main_arg1) : S1x1024.Idx → EReal)
      (m (c, Proc.tc.devRef main_arg2) : S1x1024x6152.Idx → EReal) b t j := by
  unfold uArr pr
  rw [prod_at]
  simp only [normed_at]

theorem res75 : Cert.MixerPromptIdeal.Value.res_main_v75 m c = headed (keys (uArr m c)) (m (c, Proc.tc.devRef main_arg4)) := rfl
theorem res77 : Cert.MixerPromptIdeal.Value.res_main_v77 m c = fgate (flog (uArr m c) (m (c, Proc.tc.devRef main_arg5))) := rfl

end Cert.Proof.In.PromptRef

end
-- ==== Proof.In.PromptEquation.lean ====
/-
  The prompt's input projections are the reference's.
-/
module

public import proofs.«01_k».proof.Defs
public import proofs.«01_k».proof.Proof.In.PromptFinal
public import proofs.«01_k».proof.Proof.In.PromptReference
public import Idealize.ShloMosaic.Adequacy

@[expose] public section

set_option maxRecDepth 16384
set_option maxHeartbeats 1000000

noncomputable section

namespace Cert.Proof.In.Prompt

open Idealize.ShloMosaic Idealize.ShloMosaic.TcCoe Idealize.ShloMosaic.Tactic Idealize.SL.Sem
open Cert.Proof.In.PromptRef

attribute [local instance] Cert.InprojPromptIdeal.Gen.facts Cert.MixerPromptIdeal.Gen.facts

variable {m : (ℓ : Loc Cert.InprojPromptIdeal.nD Cert.InprojPromptIdeal.τ Cert.InprojPromptIdeal.sig) → Buf (Elt Ideal) ℓ}
variable {m' : (ℓ : Loc Cert.MixerPromptIdeal.nD Cert.MixerPromptIdeal.τ Cert.MixerPromptIdeal.sig) → Buf (Elt Ideal) ℓ}
variable {c : Dev Cert.InprojPromptIdeal.nD}

/-- The two programs are given the same arguments. -/
structure Args (m : (ℓ : Loc Cert.InprojPromptIdeal.nD Cert.InprojPromptIdeal.τ Cert.InprojPromptIdeal.sig) → Buf (Elt Ideal) ℓ)
    (m' : (ℓ : Loc Cert.MixerPromptIdeal.nD Cert.MixerPromptIdeal.τ Cert.MixerPromptIdeal.sig) → Buf (Elt Ideal) ℓ)
    (c : Dev Cert.InprojPromptIdeal.nD) : Prop where
  x : m' (c, Proc.tc.devRef Cert.MixerPromptIdeal.main_arg0) = aX m c
  g : m' (c, Proc.tc.devRef Cert.MixerPromptIdeal.main_arg1) = aG m c
  w : m' (c, Proc.tc.devRef Cert.MixerPromptIdeal.main_arg2) = aW m c
  k : m' (c, Proc.tc.devRef Cert.MixerPromptIdeal.main_arg4) = aK m c
  b : m' (c, Proc.tc.devRef Cert.MixerPromptIdeal.main_arg5) = aB m c

theorem ix_eta {n₀ n₁ n₂ : Nat} (i : (⟨3, ![n₀, n₁, n₂]⟩ : Shape).Idx) : ∃ (a : Fin n₀) (b : Fin n₁) (t : Fin n₂), i = ix3 a b t :=
  ⟨i 0, i 1, i 2, by funext a; fin_cases a <;> rfl⟩

theorem u_eq (H : Args m m' c) (b : Fin 2) (t : Fin 8192) (j : Fin 6152) :
    (uArr m' c (ix3 b t j) : EReal) = pr (aX m c) (aG m c) (aW m c) b t j := by
  rw [uArr_at, H.x, H.g, H.w]

theorem k_eq (H : Args m m' c) : (Cert.MixerPromptIdeal.Value.res_main_v75 m' c : Cert.InprojPromptIdeal.S2x512x8192.Idx → EReal) = G18 m c := by
  funext i
  obtain ⟨b, f, t, rfl⟩ := ix_eta i
  rw [res75]
  refine (headed_at _ _ b f t).trans ?_
  rw [H.k]
  simp only [keys_at, u_eq H]
  rfl

theorem lf_eq (H : Args m m' c) : (Cert.MixerPromptIdeal.Value.res_main_v77 m' c : Cert.InprojPromptIdeal.S2x8x8192.Idx → EReal) = G22 m c := by
  funext i
  obtain ⟨b, f, t, rfl⟩ := ix_eta i
  rw [res77]
  refine (fgate_at _ b f t).trans ?_
  rw [flog_at, lsigN_neg, H.b, u_eq H]
  rfl

theorem v_eq (H : Args m m' c) : (vcols (uArr m' c) : Cert.InprojPromptIdeal.S2x512x8192.Idx → EReal) = G19 m c := by
  funext i
  obtain ⟨b, f, t, rfl⟩ := ix_eta i
  exact (vcols_at _ b f t).trans (u_eq H _ _ _)

theorem za_eq (H : Args m m' c) : (zcols (uArr m' c) : Cert.InprojPromptIdeal.S2x512x8192.Idx → EReal) = G21 m c := by
  funext i
  obtain ⟨b, f, t, rfl⟩ := ix_eta i
  exact (zcols_at _ b f t).trans (congrArg silu (u_eq H _ _ _))

theorem xl_eq (H : Args m m' c) : (xrows (uArr m' c) : Cert.InprojPromptIdeal.S2x8192x1024.Idx → EReal) = G23 m c := by
  funext i
  obtain ⟨b, t, f, rfl⟩ := ix_eta i
  exact (xrows_at _ b t f).trans (u_eq H _ _ _)

theorem zl_eq (H : Args m m' c) : (cast16 (mulf (zrows (uArr m' c)) (logis (zrows (uArr m' c)))) :
    Cert.InprojPromptIdeal.S2x8192x1024.Idx → EReal) = G24 m c := by
  funext i
  obtain ⟨b, t, f, rfl⟩ := ix_eta i
  have e := (zrows_at (uArr m' c) b t f).trans (u_eq H _ _ _)
  exact congrArg₂ (fun x y : EReal => x * y) e ((logis_at _ b t f).trans (congrArg logi e))

theorem ga_eq (H : Args m m' c) : (cast16 (logis (arows (uArr m' c))) :
    Cert.InprojPromptIdeal.S2x8192x1024.Idx → EReal) = G25 m c := by
  funext i
  obtain ⟨b, t, f, rfl⟩ := ix_eta i
  exact (logis_at _ b t f).trans (congrArg logi ((arows_at _ b t f).trans (u_eq H _ _ _)))

theorem gb_eq (H : Args m m' c) : (cast16 (logis (brows (uArr m' c))) :
    Cert.InprojPromptIdeal.S2x8192x1024.Idx → EReal) = G26 m c := by
  funext i
  obtain ⟨b, t, f, rfl⟩ := ix_eta i
  exact (logis_at _ b t f).trans (congrArg logi ((brows_at _ b t f).trans (u_eq H _ _ _)))

theorem algebraic : Cert.algebraic_InprojPromptIdeal_MixerPromptIdeal := by
  intro m g m' g' _ hA
  refine ⟨fun c => G18 m c, fun c => G19 m c, fun c => G22 m c, fun c => G23 m c, fun c => G21 m c, fun c => G24 m c, fun c => G25 m c, fun c => G26 m c, ?_, ?_⟩
  · refine (θ_run _ _ _).mono (fun r h c => ?_) (run_main (F := Ideal) m g)
    exact ⟨(ends_at m h.1 c 18 rfl).trans (final18 m c), (ends_at m h.1 c 19 rfl).trans (final19 m c),
      (ends_at m h.1 c 22 rfl).trans (final22 m c), (ends_at m h.1 c 23 rfl).trans (final23 m c),
      (ends_at m h.1 c 21 rfl).trans (final21 m c), (ends_at m h.1 c 24 rfl).trans (final24 m c),
      (ends_at m h.1 c 25 rfl).trans (final25 m c), (ends_at m h.1 c 26 rfl).trans (final26 m c), kept m h.1 c⟩
  · refine (θ_run _ _ _).mono (fun r h c => ?_) (Cert.MixerPromptIdeal.Value.run m' g')
    obtain ⟨h0, h1, h2, -, h4, h5⟩ := hA c
    have H : Args m m' c := ⟨h0, h1, h2, h4, h5⟩
    obtain ⟨r0, r1, r2, r3, r4, r5, r6, r7, rest⟩ := h c
    exact ⟨r0.trans (k_eq H), r1.trans (v_eq H), r2.trans (lf_eq H), r3.trans (xl_eq H), r4.trans (za_eq H), r5.trans (zl_eq H),
      r6.trans (ga_eq H), r7.trans (gb_eq H), rest⟩

end Cert.Proof.In.Prompt

end
-- ==== Proof.In.SampleRun.lean ====
/-
  The run of the sample's input projections: what each point leaves in each result's buffer, the body's triple at every
  point, the launch with the slice after the call, and the frame.
-/
module

public import proofs.«01_k».proof.Proof.Gen.InprojSampleIdeal.Launch
public import proofs.«01_k».proof.Proof.Gen.InprojSampleIdeal.Skeleton
public import proofs.«01_k».proof.Proof.Gen.InprojSampleIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.In.Sample

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The contents when the region is entered, after the host lines that prepare the operands; -/
abbrev V0 (c : Dev nD) : Valuation τ sig (Elt F) := StableHlo.after (List.flatten [hostOps0, hostOps0_1, hostOps0_2, hostOps0_3, hostOps0_4, hostOps0_5, hostOps0_6]) (fun b => m (c, b))
/-- the same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines, the region, and the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- A run to the pipeline's post leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S512x1024 := Rect.unit (s := S512x1024) ![0, 0] S512x1024.size inb_S512x1024_S512x1024_0_0
abbrev r0_3 : Rect S1x512 := Rect.unit (s := S1x512) ![0, 0] S1x512.size inb_S1x512_S1x512_0_0
abbrev r0_4 : Rect S512x512 := Rect.unit (s := S512x512) ![0, 0] S512x512.size inb_S512x512_S512x512_0_0
abbrev r0_5 : Rect S256x512 := Rect.unit (s := S256x512) ![0, 0] S256x512.size inb_S256x512_S256x512_0_0
abbrev r0_6 : Rect S128x1024 := Rect.unit (s := S128x1024) ![0, 0] S128x1024.size inb_S128x1024_S128x1024_0_0
abbrev r0_7 : Rect S1x128 := Rect.unit (s := S1x128) ![0, 0] S1x128.size inb_S1x128_S1x128_0_0
abbrev r0_8 : Rect S256x128 := Rect.unit (s := S256x128) ![0, 0] S256x128.size inb_S256x128_S256x128_0_0
abbrev r0_9 : Rect S1024x1024 := Rect.unit (s := S1024x1024) ![0, 0] S1024x1024.size inb_S1024x1024_S1024x1024_0_0

/-! ## What the body leaves in each output window's buffer -/

/-- The normalised rows of the block. -/
def k0_pay13 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : FVec F S256x1024 .bf16 :=
  k0_pay2 (View.ld x0 r0_0) (View.ld x1 r0_1) -- `v16`

/-- What the body leaves in each result's buffer, from the operands' blocks: the queries, -/
def out0_15 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x512 .f32 :=
  View.canon [⟨r0_5, k0_pay3 (View.ld x0 r0_0) (View.ld x1 r0_1) (View.ld x2 r0_2) (View.ld x11 r0_3) (View.ld x14 r0_4)⟩]

theorem cover0_15 (p0 : Vec F S256x512 .f32) (y : S256x512.Idx) :
    ∃ pc ∈ ([⟨r0_5, p0⟩] : List (View.Piece (Elt F) S256x512 .f32)), y ∈ pc.1.set :=
  View.cover_of_tiled [⟨r0_5, p0⟩] S256x512.size (by rfl) y

/-- the keys, -/
def out0_16 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x512 .f32 :=
  View.canon [⟨r0_5, k0_pay4 (k0_pay13 x0 x1 x2 x3 x4 x5 x6 x7 x8 x9 x10 x11 x12 x13 x14) (View.ld x3 r0_2) (View.ld x12 r0_3) (View.ld x14 r0_4)⟩]

theorem cover0_16 (p0 : Vec F S256x512 .f32) (y : S256x512.Idx) :
    ∃ pc ∈ ([⟨r0_5, p0⟩] : List (View.Piece (Elt F) S256x512 .f32)), y ∈ pc.1.set :=
  View.cover_of_tiled [⟨r0_5, p0⟩] S256x512.size (by rfl) y

/-- the values, -/
def out0_17 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x512 .f32 :=
  View.canon [⟨r0_5, k0_pay5 (k0_pay13 x0 x1 x2 x3 x4 x5 x6 x7 x8 x9 x10 x11 x12 x13 x14) (View.ld x4 r0_2)⟩]

theorem cover0_17 (p0 : Vec F S256x512 .f32) (y : S256x512.Idx) :
    ∃ pc ∈ ([⟨r0_5, p0⟩] : List (View.Piece (Elt F) S256x512 .f32)), y ∈ pc.1.set :=
  View.cover_of_tiled [⟨r0_5, p0⟩] S256x512.size (by rfl) y

/-- the attention gate, -/
def out0_18 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x512 .bf16 :=
  View.canon [⟨r0_5, k0_pay6 (k0_pay13 x0 x1 x2 x3 x4 x5 x6 x7 x8 x9 x10 x11 x12 x13 x14) (View.ld x5 r0_2)⟩]

theorem cover0_18 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- the log forget gates, -/
def out0_19 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x128 .f32 :=
  View.canon [⟨r0_8, k0_pay8 (k0_pay13 x0 x1 x2 x3 x4 x5 x6 x7 x8 x9 x10 x11 x12 x13 x14) (k0_pay7 (View.ld x6 r0_6)) (constant S256x128 .f32 0x00000000#32) (View.ld x13 r0_7)⟩]

theorem cover0_19 (p0 : Vec F S256x128 .f32) (y : S256x128.Idx) :
    ∃ pc ∈ ([⟨r0_8, p0⟩] : List (View.Piece (Elt F) S256x128 .f32)), y ∈ pc.1.set :=
  View.cover_of_tiled [⟨r0_8, p0⟩] S256x128.size (by rfl) y

/-- the feature rows, -/
def out0_20 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x1024 .f32 :=
  View.canon [⟨r0_0, k0_pay9 (k0_pay13 x0 x1 x2 x3 x4 x5 x6 x7 x8 x9 x10 x11 x12 x13 x14) (View.ld x7 r0_9)⟩]

theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- the output gate, -/
def out0_21 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x1024 .bf16 :=
  View.canon [⟨r0_0, k0_pay10 (k0_pay13 x0 x1 x2 x3 x4 x5 x6 x7 x8 x9 x10 x11 x12 x13 x14) (View.ld x8 r0_9)⟩]

theorem cover0_21 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- the first recurrent gate, -/
def out0_22 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x1024 .bf16 :=
  View.canon [⟨r0_0, k0_pay11 (k0_pay13 x0 x1 x2 x3 x4 x5 x6 x7 x8 x9 x10 x11 x12 x13 x14) (View.ld x9 r0_9)⟩]

theorem cover0_22 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- and the second. -/
def out0_23 (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) : Vec F S256x1024 .bf16 :=
  View.canon [⟨r0_0, k0_pay1 (k0_pay13 x0 x1 x2 x3 x4 x5 x6 x7 x8 x9 x10 x11 x12 x13 x14) (k0_pay12 (View.ld x10 r0_9))⟩]

theorem cover0_23 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-! ## The body's triple -/

set_option maxHeartbeats 1000000 in
/-- The body, run at symbolic operands. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S128x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S512x512 .bf16) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .bf16) (harg19 : arg19.IsWhole) (arg20 : Memref sig .tc .vmem S256x128 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole)
    (x0 : Vec F S256x1024 .f32) (x1 : Vec F S1x1024 .f32) (x2 : Vec F S512x1024 .bf16) (x3 : Vec F S512x1024 .bf16) (x4 : Vec F S512x1024 .bf16) (x5 : Vec F S512x1024 .bf16) (x6 : Vec F S128x1024 .bf16) (x7 : Vec F S1024x1024 .bf16) (x8 : Vec F S1024x1024 .bf16) (x9 : Vec F S1024x1024 .bf16) (x10 : Vec F S1024x1024 .bf16) (x11 : Vec F S1x512 .f32) (x12 : Vec F S1x512 .f32) (x13 : Vec F S1x128 .f32) (x14 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14) ∗ owns (c : Thread nD τ) arg18 fullShare (out0_17 x0 x1 x2 x3 x4 x5 x6 x7 x8 x9 x10 x11 x12 x13 x14) ∗ owns (c : Thread nD τ) arg19 fullShare (out0_18 x0 x1 x2 x3 x4 x5 x6 x7 x8 x9 x10 x11 x12 x13 x14) ∗ owns (c : Thread nD τ) arg20 fullShare (out0_19 x0 x1 x2 x3 x4 x5 x6 x7 x8 x9 x10 x11 x12 x13 x14) ∗ owns (c : Thread nD τ) arg21 fullShare (out0_20 x0 x1 x2 x3 x4 x5 x6 x7 x8 x9 x10 x11 x12 x13 x14) ∗ owns (c : Thread nD τ) arg22 fullShare (out0_21 x0 x1 x2 x3 x4 x5 x6 x7 x8 x9 x10 x11 x12 x13 x14) ∗ owns (c : Thread nD τ) arg23 fullShare (out0_22 x0 x1 x2 x3 x4 x5 x6 x7 x8 x9 x10 x11 x12 x13 x14) ∗ owns (c : Thread nD τ) arg24 fullShare (out0_23 x0 x1 x2 x3 x4 x5 x6 x7 x8 x9 x10 x11 x12 x13 x14)) -∗ K ⟨⟩))
      ⊢ wp frame (wpE (defs₀ (F := F)) Variants.none c none) E (cc0_inproj_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_inproj_sample_eq_skeleton]; unfold cc0_inproj_sample_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The pipeline's data on core `c`: an operand's buffer keeps its block, a result's takes the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution ends with the arrays at what the data say and no semaphore held. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.In.Sample

end
-- ==== Proof.In.SampleSame.lean ====
/-
  The frame of the call at its compiled formats: the pass changed nothing, so `InprojSample` and `InprojSampleIdeal` are one text,
  and the run of `InprojSampleIdeal`, which holds over every float semantics, is that of `InprojSample`.
-/
module

public import proofs.«01_k».proof.Defs
public import proofs.«01_k».proof.Proof.Gen.InprojSample
public import proofs.«01_k».proof.Proof.In.SampleRun

@[expose] public section

set_option maxRecDepth 16384
set_option maxHeartbeats 4000000

namespace Cert.Proof.In.SampleP

open Idealize.ShloMosaic

variable [hInprojSample : Cert.InprojSample.Facts] [hInprojSampleIdeal : Cert.InprojSampleIdeal.Facts]

/-- The two kernel bodies are one. -/
theorem defs₀_eq : Cert.InprojSample.defs₀ (F := Bits) = Cert.InprojSampleIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

/-- So are the two calls. -/
theorem defs_eq : Cert.InprojSample.defs (F := Bits) = Cert.InprojSampleIdeal.defs (F := Bits) :=
  congrArg (Pipeline.defs Cert.InprojSampleIdeal.pcfgs) defs₀_eq

/-- And the two host programs. -/
theorem main_eq : Cert.InprojSample.main (F := Bits) = Cert.InprojSampleIdeal.main (F := Bits) := by
  unfold Cert.InprojSample.main Cert.InprojSampleIdeal.main
  rfl

omit hInprojSampleIdeal in
/-- The frame at the compiled formats. -/
theorem frame : Cert.quiescent_InprojSample := fun m g _ => by
  rw [defs_eq, main_eq]
  exact Cert.Proof.In.Sample.frame (F := Bits) m g

end Cert.Proof.In.SampleP

end
-- ==== Proof.In.SampleBlock.lean ====
/-
  What the body of the sample's input projections leaves in each result's buffer, entry by entry, as sums over the
  block's entries. A head's mean square comes out of a product with a 0/1 matrix; `head_mean` says that this is the mean.
-/
module

public import proofs.«01_k».proof.Proof.In.SampleRun
public import proofs.«01_k».proof.Proof.In.Maths
public import Idealize.ShloMosaic.Lib.Pointwise
public import Idealize.ShloMosaic.Lib.IdealHost
public import Idealize.ShloMosaic.Lib.Pipeline.ValueKit.Tiles

@[expose] public section

set_option maxRecDepth 16384
set_option maxHeartbeats 1000000

noncomputable section

namespace Cert.Proof.In.Sample

open Cert.InprojSampleIdeal Cert.InprojSampleIdeal.Gen
open Idealize.ShloMosaic Idealize.ShloMosaic.TcCoe Idealize.ShloMosaic.Tactic

/-! ## A head's mean through a 0/1 matrix -/

/-- Feature `64 h + d`. -/
def ft (h : Fin 8) (d : Fin 64) : Fin 512 := ⟨64 * h.val + d.val, by omega⟩

/-- A feature normalised by its head's mean square, the mean a sum against a column `μ` times a literal. -/
def hn (u μ : Fin 512 → EReal) (γ : EReal) (f : Fin 512) : EReal :=
  u f * Ideal.rsqrt ((∑ e, u e * u e * μ e) * Ideal.ofBits .f32 0x3C800000#32 + Ideal.ofBits .f32 0x358637BD#32) * γ

/-- The column of the 0/1 matrix at a feature: the features of the same head. -/
def mask (f e : Fin 512) : EReal := if e.val / 64 = f.val / 64 then 1 else 0

theorem n64_eq : n64 = ((64 : ℝ) : EReal) := by
  unfold n64
  simp [Ideal.ofBits, Ideal.ieee, -EReal.coe_mul]; norm_num

theorem inv64 : Ideal.ofBits .f32 0x3C800000#32 = n64⁻¹ := by
  rw [n64_eq, ← EReal.coe_inv]
  simp [Ideal.ofBits, Ideal.ieee, -EReal.coe_mul]; norm_num

theorem n64_ne : n64 ≠ 0 := by
  rw [n64_eq]
  exact EReal.coe_ne_zero.2 (by norm_num)

/-- A sum over 512 features, head by head. -/
theorem sum_heads (g : Fin 512 → EReal) : ∑ e, g e = ∑ h : Fin 8, ∑ d : Fin 64, g (ft h d) := by
  rw [← Fintype.sum_prod_type']
  symm
  refine Fintype.sum_equiv (finProdFinEquiv (m := 8) (n := 64)) _ _ fun p => ?_
  congr 1
  exact Fin.ext (by show 64 * p.1.val + p.2.val = p.2.val + 64 * p.1.val; omega)

theorem head_mean (u : Fin 512 → EReal) (h : Fin 8) (d : Fin 64) :
    (∑ e, u e * u e * mask (ft h d) e) * Ideal.ofBits .f32 0x3C800000#32 = Ideal.div (∑ e : Fin 64, u (ft h e) * u (ft h e)) n64 := by
  unfold Ideal.div
  rw [if_neg n64_ne, inv64]
  congr 1
  rw [sum_heads, Finset.sum_eq_single h]
  · refine Finset.sum_congr rfl fun e _ => ?_
    have : (ft h e).val / 64 = (ft h d).val / 64 := by show (64 * h.val + e.val) / 64 = (64 * h.val + d.val) / 64; omega
    unfold mask
    rw [if_pos this, mul_one]
  · intro a _ ha
    refine Finset.sum_eq_zero fun e _ => ?_
    have : ¬ (ft a e).val / 64 = (ft h d).val / 64 := by
      show ¬ (64 * a.val + e.val) / 64 = (64 * h.val + d.val) / 64
      have := fun x => ha (Fin.ext x)
      omega
    unfold mask
    rw [if_neg this, mul_zero]
  · exact fun x => absurd (Finset.mem_univ _) x

/-- So the feature is normalised over its head. -/
theorem hn_eq (u : Fin 512 → EReal) (γ : Fin 64 → EReal) (h : Fin 8) (d : Fin 64) :
    hn u (mask (ft h d)) (γ d) (ft h d) = rms n64 (fun e => u (ft h e)) γ d := by
  unfold hn rms
  rw [head_mean]

/-! ## The body's vectors at an index -/

/-- A row of the block, normalised. -/
def row (x0 : Vec Ideal S256x1024 .f32) (x1 : Vec Ideal S1x1024 .f32) (r : Fin 256) (d : Fin 1024) : EReal :=
  rms n1024 (fun d => x0 (ix2 r d)) (fun d => x1 (ix2 0 d)) d

theorem pay2_at (x0 : Vec Ideal S256x1024 .f32) (x1 : Vec Ideal S1x1024 .f32) (r : Fin 256) (d : Fin 1024) :
    k0_pay2 x0 x1 (ix2 r d) = row x0 x1 r d := by
  unfold k0_pay2 row rms n1024
  pointwise

section Payloads
variable (h : FVec Ideal S256x1024 .bf16) (r : Fin 256)

/-- A row against a feature's weights. -/
def dot {n : Nat} (w : (⟨2, ![n, 1024]⟩ : Shape).Idx → EReal) (f : Fin n) : EReal := ∑ d : Fin 1024, (h (ix2 r d) : EReal) * w (ix2 f d)

theorem pay4_at (w : Vec Ideal S512x1024 .bf16) (g : Vec Ideal S1x512 .f32) (M : Vec Ideal S512x512 .bf16) (f : Fin 512) :
    (k0_pay4 h w g M (ix2 r f) : EReal) = hn (dot h r w) (fun e => M (ix2 e f)) (g (ix2 0 f)) f := by
  unfold k0_pay4 hn dot
  pointwise

theorem pay5_at (w : Vec Ideal S512x1024 .bf16) (f : Fin 512) : (k0_pay5 h w (ix2 r f) : EReal) = dot h r w f := by
  unfold k0_pay5 dot
  pointwise

theorem pay6_at (w : Vec Ideal S512x1024 .bf16) (f : Fin 512) : (k0_pay6 h w (ix2 r f) : EReal) = silu (dot h r w f) := by
  unfold k0_pay6 silu dot
  pointwise

theorem pay8_at (w : Vec Ideal S128x1024 .bf16) (b : Vec Ideal S1x128 .f32) (f : Fin 128) :
    (k0_pay8 h (k0_pay7 w) (constant S256x128 .f32 0x00000000#32) b (ix2 r f) : EReal) = lsig (dot h r w f + b (ix2 0 f)) := by
  unfold k0_pay8 k0_pay7 lsig dot
  pointwise
  rfl

theorem pay9_at (w : Vec Ideal S1024x1024 .bf16) (f : Fin 1024) : (k0_pay9 h w (ix2 r f) : EReal) = dot h r w f := by
  unfold k0_pay9 dot
  pointwise

theorem pay10_at (w : Vec Ideal S1024x1024 .bf16) (f : Fin 1024) : (k0_pay10 h w (ix2 r f) : EReal) = silu (dot h r w f) := by
  unfold k0_pay10 silu dot
  pointwise

theorem pay11_at (w : Vec Ideal S1024x1024 .bf16) (f : Fin 1024) : (k0_pay11 h w (ix2 r f) : EReal) = logi (dot h r w f) := by
  unfold k0_pay11 logi dot
  pointwise

theorem pay1_at (w : Vec Ideal S1024x1024 .bf16) (f : Fin 1024) : (k0_pay1 h (k0_pay12 w) (ix2 r f) : EReal) = logi (dot h r w f) := by
  unfold k0_pay1 k0_pay12 logi dot
  pointwise

end Payloads

theorem pay3_at (x0 : Vec Ideal S256x1024 .f32) (x1 : Vec Ideal S1x1024 .f32) (r : Fin 256)
    (w : Vec Ideal S512x1024 .bf16) (g : Vec Ideal S1x512 .f32) (M : Vec Ideal S512x512 .bf16) (f : Fin 512) :
    (k0_pay3 x0 x1 w g M (ix2 r f) : EReal) =
      hn (dot (k0_pay2 x0 x1) r w) (fun e => M (ix2 e f)) (g (ix2 0 f)) f * Ideal.ofBits .f32 0x3E000000#32 := by
  unfold k0_pay3 hn dot
  generalize k0_pay2 x0 x1 = h
  pointwise

/-! ## The results' buffers -/

variable (x0 : Vec Ideal S256x1024 .f32) (x1 : Vec Ideal S1x1024 .f32) (x2 x3 x4 x5 : Vec Ideal S512x1024 .bf16) (x6 : Vec Ideal S128x1024 .bf16)
  (x7 x8 x9 x10 : Vec Ideal S1024x1024 .bf16) (x11 x12 : Vec Ideal S1x512 .f32) (x13 : Vec Ideal S1x128 .f32) (x14 : Vec Ideal S512x512 .bf16)

/-- A row of the block, normalised, against a feature's weights. -/
def proj {n : Nat} (w : (⟨2, ![n, 1024]⟩ : Shape).Idx → EReal) (r : Fin 256) (f : Fin n) : EReal := ∑ d, row x0 x1 r d * w (ix2 f d)

theorem dot_pay2 {n : Nat} (w : (⟨2, ![n, 1024]⟩ : Shape).Idx → EReal) (r : Fin 256) : dot (k0_pay2 x0 x1) r w = proj x0 x1 w r := by
  funext f
  unfold dot proj
  simp only [pay2_at]

theorem pay13_eq : k0_pay13 x0 x1 x2 x3 x4 x5 x6 x7 x8 x9 x10 x11 x12 x13 x14 = k0_pay2 x0 x1 := by
  unfold k0_pay13
  rw [View.ld_unit_zero (by decide), View.ld_unit_zero (by decide)]

theorem out15_at (r : Fin 256) (f : Fin 512) : (out0_15 x0 x1 x2 x3 x4 x5 x6 x7 x8 x9 x10 x11 x12 x13 x14 (ix2 r f) : EReal) = hn (proj x0 x1 x2 r) (fun e => x14 (ix2 e f)) (x11 (ix2 0 f)) f * Ideal.ofBits .f32 0x3E000000#32 := by
  unfold out0_15
  rw [View.canon_unit_zero (S := S256x512) (off := ![0, 0]) (by decide), View.ld_unit_zero (by decide), View.ld_unit_zero (by decide), View.ld_unit_zero (by decide), View.ld_unit_zero (by decide), View.ld_unit_zero (by decide)]
  rw [pay3_at, dot_pay2]

theorem out16_at (r : Fin 256) (f : Fin 512) : (out0_16 x0 x1 x2 x3 x4 x5 x6 x7 x8 x9 x10 x11 x12 x13 x14 (ix2 r f) : EReal) = hn (proj x0 x1 x3 r) (fun e => x14 (ix2 e f)) (x12 (ix2 0 f)) f := by
  unfold out0_16
  rw [pay13_eq, View.canon_unit_zero (S := S256x512) (off := ![0, 0]) (by decide), View.ld_unit_zero (by decide), View.ld_unit_zero (by decide), View.ld_unit_zero (by decide)]
  rw [pay4_at, dot_pay2]

theorem out17_at (r : Fin 256) (f : Fin 512) : (out0_17 x0 x1 x2 x3 x4 x5 x6 x7 x8 x9 x10 x11 x12 x13 x14 (ix2 r f) : EReal) = proj x0 x1 x4 r f := by
  unfold out0_17
  rw [pay13_eq, View.canon_unit_zero (S := S256x512) (off := ![0, 0]) (by decide), View.ld_unit_zero (by decide)]
  rw [pay5_at, dot_pay2]

theorem out18_at (r : Fin 256) (f : Fin 512) : (out0_18 x0 x1 x2 x3 x4 x5 x6 x7 x8 x9 x10 x11 x12 x13 x14 (ix2 r f) : EReal) = silu (proj x0 x1 x5 r f) := by
  unfold out0_18
  rw [pay13_eq, View.canon_unit_zero (S := S256x512) (off := ![0, 0]) (by decide), View.ld_unit_zero (by decide)]
  rw [pay6_at, dot_pay2]

theorem out19_at (r : Fin 256) (f : Fin 128) : (out0_19 x0 x1 x2 x3 x4 x5 x6 x7 x8 x9 x10 x11 x12 x13 x14 (ix2 r f) : EReal) = lsig (proj x0 x1 x6 r f + x13 (ix2 0 f)) := by
  unfold out0_19
  rw [pay13_eq, View.canon_unit_zero (S := S256x128) (off := ![0, 0]) (by decide), View.ld_unit_zero (by decide), View.ld_unit_zero (by decide)]
  rw [pay8_at, dot_pay2]

theorem out20_at (r : Fin 256) (f : Fin 1024) : (out0_20 x0 x1 x2 x3 x4 x5 x6 x7 x8 x9 x10 x11 x12 x13 x14 (ix2 r f) : EReal) = proj x0 x1 x7 r f := by
  unfold out0_20
  rw [pay13_eq, View.canon_unit_zero (S := S256x1024) (off := ![0, 0]) (by decide), View.ld_unit_zero (by decide)]
  rw [pay9_at, dot_pay2]

theorem out21_at (r : Fin 256) (f : Fin 1024) : (out0_21 x0 x1 x2 x3 x4 x5 x6 x7 x8 x9 x10 x11 x12 x13 x14 (ix2 r f) : EReal) = silu (proj x0 x1 x8 r f) := by
  unfold out0_21
  rw [pay13_eq, View.canon_unit_zero (S := S256x1024) (off := ![0, 0]) (by decide), View.ld_unit_zero (by decide)]
  rw [pay10_at, dot_pay2]

theorem out22_at (r : Fin 256) (f : Fin 1024) : (out0_22 x0 x1 x2 x3 x4 x5 x6 x7 x8 x9 x10 x11 x12 x13 x14 (ix2 r f) : EReal) = logi (proj x0 x1 x9 r f) := by
  unfold out0_22
  rw [pay13_eq, View.canon_unit_zero (S := S256x1024) (off := ![0, 0]) (by decide), View.ld_unit_zero (by decide)]
  rw [pay11_at, dot_pay2]

theorem out23_at (r : Fin 256) (f : Fin 1024) : (out0_23 x0 x1 x2 x3 x4 x5 x6 x7 x8 x9 x10 x11 x12 x13 x14 (ix2 r f) : EReal) = logi (proj x0 x1 x10 r f) := by
  unfold out0_23
  rw [pay13_eq, View.canon_unit_zero (S := S256x1024) (off := ![0, 0]) (by decide), View.ld_unit_zero (by decide)]
  rw [pay1_at, dot_pay2]

end Cert.Proof.In.Sample

end
-- ==== Proof.In.SampleOperands.lean ====
/-
  What the call's operands hold, at an index, as terms of the program's arguments.
-/
module

public import proofs.«01_k».proof.Proof.In.SampleBlock
public import Idealize.ShloMosaic.Lib.StableHlo.ReadAt

@[expose] public section

set_option maxRecDepth 16384
set_option maxHeartbeats 1000000

noncomputable section

namespace Cert.Proof.In.Sample

open Cert.InprojSampleIdeal Cert.InprojSampleIdeal.Gen
open Idealize.ShloMosaic Idealize.ShloMosaic.TcCoe Idealize.ShloMosaic.Tactic

variable (m : (ℓ : Loc nD τ sig) → Buf (Elt Ideal) ℓ) (c : Dev nD)

/-- The sampled tokens' rows, the norm's gains, the weights, the queries' and keys' gains and the forget gates' biases. -/
abbrev aX : S128x8x1024.Idx → EReal := m (c, Proc.tc.devRef main_arg0)
abbrev aG : S1x1024.Idx → EReal := m (c, Proc.tc.devRef main_arg1)
abbrev aW : S1x1024x6152.Idx → EReal := m (c, Proc.tc.devRef main_arg2)
abbrev aQ : S1x64.Idx → EReal := m (c, Proc.tc.devRef main_arg3)
abbrev aK : S1x64.Idx → EReal := m (c, Proc.tc.devRef main_arg4)
abbrev aB : S1x8.Idx → EReal := m (c, Proc.tc.devRef main_arg5)

theorem v36_at (R d : Fin 1024) : (V m c main_v36 (ix2 R d) : EReal) = aX m c (ix3 ⟨R.val / 8, by omega⟩ ⟨R.val % 8, by omega⟩ d) := by
  unfold V
  after_reads_at
theorem v14_at (d : Fin 1024) : V m c main_v14 (ix2 0 d) = aG m c (ix2 0 d) := by
  unfold V
  after_reads_at
theorem v21_at (f : Fin 512) : V m c main_v21 (ix2 0 f) = aQ m c (ix2 0 ⟨f.val % 64, by omega⟩) := by
  unfold V
  after_reads_at
theorem v25_at (f : Fin 512) : V m c main_v25 (ix2 0 f) = aK m c (ix2 0 ⟨f.val % 64, by omega⟩) := by
  unfold V
  after_reads_at
theorem v3_at (f : Fin 512) (d : Fin 1024) : V m c main_v3 (ix2 f d) = aW m c (ix3 0 d ⟨f.val, by omega⟩) := by
  unfold V
  after_reads_at
theorem v4_at (f : Fin 512) (d : Fin 1024) : V m c main_v4 (ix2 f d) = aW m c (ix3 0 d ⟨512 + f.val, by omega⟩) := by
  unfold V
  after_reads_at
theorem v5_at (f : Fin 512) (d : Fin 1024) : V m c main_v5 (ix2 f d) = aW m c (ix3 0 d ⟨1024 + f.val, by omega⟩) := by
  unfold V
  after_reads_at
theorem v6_at (f : Fin 512) (d : Fin 1024) : V m c main_v6 (ix2 f d) = aW m c (ix3 0 d ⟨1536 + f.val, by omega⟩) := by
  unfold V
  after_reads_at
theorem v8_at (f : Fin 1024) (d : Fin 1024) : V m c main_v8 (ix2 f d) = aW m c (ix3 0 d ⟨2056 + f.val, by omega⟩) := by
  unfold V
  after_reads_at
theorem v9_at (f : Fin 1024) (d : Fin 1024) : V m c main_v9 (ix2 f d) = aW m c (ix3 0 d ⟨3080 + f.val, by omega⟩) := by
  unfold V
  after_reads_at
theorem v10_at (f : Fin 1024) (d : Fin 1024) : V m c main_v10 (ix2 f d) = aW m c (ix3 0 d ⟨4104 + f.val, by omega⟩) := by
  unfold V
  after_reads_at
theorem v11_at (f : Fin 1024) (d : Fin 1024) : V m c main_v11 (ix2 f d) = aW m c (ix3 0 d ⟨5128 + f.val, by omega⟩) := by
  unfold V
  after_reads_at
theorem v12_at (f : Fin 8) (d : Fin 1024) : V m c main_v12 (ix2 ⟨f.val, by omega⟩ d) = aW m c (ix3 0 d ⟨2048 + f.val, by omega⟩) := by
  unfold V
  after_reads_at
theorem v27_at (f : Fin 8) : V m c main_v27 (ix2 0 ⟨f.val, by omega⟩) = aB m c (ix2 0 f) := by
  unfold V
  after_reads_at
/-- A feature's head as the host computes it: a quotient rounded down. -/
def headWord (e : Fin 512) : BitVec 32 :=
  Scalar.select
    (IntOp.andi
      (IntOp.cmpi (w := 32) .ne (if BitVec.ofNat 32 e.val = 0 then 0 else if (BitVec.ofNat 32 e.val).msb = true then -1 else 1)
        (if (64#32 : BitVec 32) = 0 then 0 else if BitVec.msb (64#32 : BitVec 32) = true then -1 else 1))
      (IntOp.cmpi .ne (IntOp.remsi ArithUnit.host (BitVec.ofNat 32 e.val) 64#32) 0#32))
    (IntOp.subi (IntOp.divsi ArithUnit.host (BitVec.ofNat 32 e.val) 64#32) 1#32)
    (IntOp.divsi ArithUnit.host (BitVec.ofNat 32 e.val) 64#32)

theorem headWord_eq : ∀ e : Fin 512, headWord e = BitVec.ofNat 32 (e.val / 64) := by decide +kernel

/-- A comparison's bit as a number. -/
theorem bit_at (a b : BitVec 32) : (FloatOps.uitofp (F := Ideal) FTy.bf16 (IntOp.cmpi .eq a b) : EReal) = if a = b then 1 else 0 := by
  show (((IntOp.cmpi .eq a b).toNat : ℝ) : EReal) = _
  by_cases h : a = b
  · subst h
    simp [IntOp.cmpi]
  · simp [IntOp.cmpi, h]

theorem v35_at (e f : Fin 512) : (V m c main_v35 (ix2 e f) : EReal) = mask f e := by
  have h : (V m c main_v35 (ix2 e f) : EReal) = FloatOps.uitofp (F := Ideal) FTy.bf16 (IntOp.cmpi .eq (headWord e) (headWord f)) := by
    unfold V
    after_reads_at
    rfl
  rw [h, headWord_eq, headWord_eq, bit_at]
  unfold mask
  refine if_congr ⟨fun x => ?_, fun x => by rw [x]⟩ rfl rfl
  have := congrArg BitVec.toNat x
  simp only [BitVec.toNat_ofNat] at this
  omega

end Cert.Proof.In.Sample

end
-- ==== Proof.In.SampleArray.lean ====
/-
  The operands' blocks at a grid point, and the result arrays after the run, as terms of the prepared operands.
-/
module

public import proofs.«01_k».proof.Proof.In.SampleOperands
public import Idealize.ShloMosaic.Lib.Pipeline.ValueKit.Point

@[expose] public section

set_option maxRecDepth 16384
set_option maxHeartbeats 1000000

noncomputable section

namespace Cert.Proof.In.Sample

open Cert.InprojSampleIdeal Cert.InprojSampleIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The row block of a grid point, and row `r` of row block `q`. -/
def qOf (t : Fin cfg0.N) : Fin 4 := grid0.coords t 0
def rowOf (q : Fin 4) (r : Fin 256) : Fin 1024 := ⟨256 * q.val + r.val, by omega⟩
theorem rowOf_val (q : Fin 4) (r : Fin 256) : (rowOf q r).val = 256 * q.val + r.val := rfl

theorem idx0 : ∀ t : Fin cfg0.N, win0_0.index t = ![(qOf t).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![(qOf t).val, 0] := by decide +kernel
theorem idx16 : ∀ t : Fin cfg0.N, win0_16.index t = ![(qOf t).val, 0] := by decide +kernel
theorem idx17 : ∀ t : Fin cfg0.N, win0_17.index t = ![(qOf t).val, 0] := by decide +kernel
theorem idx18 : ∀ t : Fin cfg0.N, win0_18.index t = ![(qOf t).val, 0] := by decide +kernel
theorem idx19 : ∀ t : Fin cfg0.N, win0_19.index t = ![(qOf t).val, 0] := by decide +kernel
theorem idx20 : ∀ t : Fin cfg0.N, win0_20.index t = ![(qOf t).val, 0] := by decide +kernel
theorem idx21 : ∀ t : Fin cfg0.N, win0_21.index t = ![(qOf t).val, 0] := by decide +kernel
theorem idx22 : ∀ t : Fin cfg0.N, win0_22.index t = ![(qOf t).val, 0] := by decide +kernel
theorem idx23 : ∀ t : Fin cfg0.N, win0_23.index t = ![(qOf t).val, 0] := by decide +kernel

/-- The rows' block. -/
def blk0 (t : Fin cfg0.N) : Vec Ideal S256x1024 .f32 := iblk m c 0 t
theorem read0 (X : main_v36.ty.Contents (Elt Ideal)) (t : Fin cfg0.N) (j : ((cfg0.win 0).xblock (cfg0.grid.coords t)).Idx)
    (R d : Fin 1024) (q : Fin 4) (i : win0_0.index t = ![q.val, 0]) (hR : R.val = 256 * q.val + (j (0 : Fin 2)).val) (hd : d.val = (j (1 : Fin 2)).val) :
    ((cfg0.win 0).blk t).view.read (Elt Ideal) X j = X (ix2 R d) := by
  blk_ext [i]
theorem blk0_at (t : Fin cfg0.N) (r : Fin 256) (d : Fin 1024) : blk0 m c t (ix2 r d) = V m c main_v36 (ix2 (rowOf (qOf t) r) d) := by
  have e : blk0 m c t = ((cfg0.win 0).blk t).view.read (Elt Ideal) (V m c main_v36) := by
    unfold blk0 iblk
    exact congrArg _ rfl
  rw [e]
  exact read0 _ t (ix2 r d) _ _ _ (idx0 t) (rowOf_val _ _) rfl

/-- An index of two coordinates, by them. -/
theorem ix2_eta {a b : Nat} (y : (⟨2, ![a, b]⟩ : Shape).Idx) (h0 : (y (0 : Fin 2)).val < a) (h1 : (y (1 : Fin 2)).val < b) :
    y = ix2 ⟨_, h0⟩ ⟨_, h1⟩ := funext fun x => by
  match x with
  | 0 => rfl
  | 1 => rfl

/-! ## The other operands are read whole -/

def blk1 (t : Fin cfg0.N) : Vec Ideal S1x1024 .f32 := iblk m c 1 t
theorem read1 (X : main_v14.ty.Contents (Elt Ideal)) (t : Fin cfg0.N) (j : ((cfg0.win 1).xblock (cfg0.grid.coords t)).Idx)
    (f : Fin 1) (d : Fin 1024) (i : win0_1.index t = ![0, 0]) (hf : f.val = (j (0 : Fin 2)).val) (hd : d.val = (j (1 : Fin 2)).val) :
    ((cfg0.win 1).blk t).view.read (Elt Ideal) X j = X (ix2 f d) := by
  blk_ext [i]
theorem blk1_at (t : Fin cfg0.N) (f : Fin 1) (d : Fin 1024) : blk1 m c t (ix2 f d) = V m c main_v14 (ix2 f d) := by
  have e : blk1 m c t = ((cfg0.win 1).blk t).view.read (Elt Ideal) (V m c main_v14) := by
    unfold blk1 iblk
    exact congrArg _ rfl
  rw [e]
  exact read1 _ t (ix2 f d) _ _ (idx1 t) rfl rfl

def blk2 (t : Fin cfg0.N) : Vec Ideal S512x1024 .bf16 := iblk m c 2 t
theorem read2 (X : main_v3.ty.Contents (Elt Ideal)) (t : Fin cfg0.N) (j : ((cfg0.win 2).xblock (cfg0.grid.coords t)).Idx)
    (f : Fin 512) (d : Fin 1024) (i : win0_2.index t = ![0, 0]) (hf : f.val = (j (0 : Fin 2)).val) (hd : d.val = (j (1 : Fin 2)).val) :
    ((cfg0.win 2).blk t).view.read (Elt Ideal) X j = X (ix2 f d) := by
  blk_ext [i]
theorem blk2_at (t : Fin cfg0.N) (f : Fin 512) (d : Fin 1024) : blk2 m c t (ix2 f d) = V m c main_v3 (ix2 f d) := by
  have e : blk2 m c t = ((cfg0.win 2).blk t).view.read (Elt Ideal) (V m c main_v3) := by
    unfold blk2 iblk
    exact congrArg _ rfl
  rw [e]
  exact read2 _ t (ix2 f d) _ _ (idx2 t) rfl rfl

def blk3 (t : Fin cfg0.N) : Vec Ideal S512x1024 .bf16 := iblk m c 3 t
theorem read3 (X : main_v4.ty.Contents (Elt Ideal)) (t : Fin cfg0.N) (j : ((cfg0.win 3).xblock (cfg0.grid.coords t)).Idx)
    (f : Fin 512) (d : Fin 1024) (i : win0_3.index t = ![0, 0]) (hf : f.val = (j (0 : Fin 2)).val) (hd : d.val = (j (1 : Fin 2)).val) :
    ((cfg0.win 3).blk t).view.read (Elt Ideal) X j = X (ix2 f d) := by
  blk_ext [i]
theorem blk3_at (t : Fin cfg0.N) (f : Fin 512) (d : Fin 1024) : blk3 m c t (ix2 f d) = V m c main_v4 (ix2 f d) := by
  have e : blk3 m c t = ((cfg0.win 3).blk t).view.read (Elt Ideal) (V m c main_v4) := by
    unfold blk3 iblk
    exact congrArg _ rfl
  rw [e]
  exact read3 _ t (ix2 f d) _ _ (idx3 t) rfl rfl

def blk4 (t : Fin cfg0.N) : Vec Ideal S512x1024 .bf16 := iblk m c 4 t
theorem read4 (X : main_v5.ty.Contents (Elt Ideal)) (t : Fin cfg0.N) (j : ((cfg0.win 4).xblock (cfg0.grid.coords t)).Idx)
    (f : Fin 512) (d : Fin 1024) (i : win0_4.index t = ![0, 0]) (hf : f.val = (j (0 : Fin 2)).val) (hd : d.val = (j (1 : Fin 2)).val) :
    ((cfg0.win 4).blk t).view.read (Elt Ideal) X j = X (ix2 f d) := by
  blk_ext [i]
theorem blk4_at (t : Fin cfg0.N) (f : Fin 512) (d : Fin 1024) : blk4 m c t (ix2 f d) = V m c main_v5 (ix2 f d) := by
  have e : blk4 m c t = ((cfg0.win 4).blk t).view.read (Elt Ideal) (V m c main_v5) := by
    unfold blk4 iblk
    exact congrArg _ rfl
  rw [e]
  exact read4 _ t (ix2 f d) _ _ (idx4 t) rfl rfl

def blk5 (t : Fin cfg0.N) : Vec Ideal S512x1024 .bf16 := iblk m c 5 t
theorem read5 (X : main_v6.ty.Contents (Elt Ideal)) (t : Fin cfg0.N) (j : ((cfg0.win 5).xblock (cfg0.grid.coords t)).Idx)
    (f : Fin 512) (d : Fin 1024) (i : win0_5.index t = ![0, 0]) (hf : f.val = (j (0 : Fin 2)).val) (hd : d.val = (j (1 : Fin 2)).val) :
    ((cfg0.win 5).blk t).view.read (Elt Ideal) X j = X (ix2 f d) := by
  blk_ext [i]
theorem blk5_at (t : Fin cfg0.N) (f : Fin 512) (d : Fin 1024) : blk5 m c t (ix2 f d) = V m c main_v6 (ix2 f d) := by
  have e : blk5 m c t = ((cfg0.win 5).blk t).view.read (Elt Ideal) (V m c main_v6) := by
    unfold blk5 iblk
    exact congrArg _ rfl
  rw [e]
  exact read5 _ t (ix2 f d) _ _ (idx5 t) rfl rfl

def blk6 (t : Fin cfg0.N) : Vec Ideal S128x1024 .bf16 := iblk m c 6 t
theorem read6 (X : main_v12.ty.Contents (Elt Ideal)) (t : Fin cfg0.N) (j : ((cfg0.win 6).xblock (cfg0.grid.coords t)).Idx)
    (f : Fin 128) (d : Fin 1024) (i : win0_6.index t = ![0, 0]) (hf : f.val = (j (0 : Fin 2)).val) (hd : d.val = (j (1 : Fin 2)).val) :
    ((cfg0.win 6).blk t).view.read (Elt Ideal) X j = X (ix2 f d) := by
  blk_ext [i]
theorem blk6_at (t : Fin cfg0.N) (f : Fin 128) (d : Fin 1024) : blk6 m c t (ix2 f d) = V m c main_v12 (ix2 f d) := by
  have e : blk6 m c t = ((cfg0.win 6).blk t).view.read (Elt Ideal) (V m c main_v12) := by
    unfold blk6 iblk
    exact congrArg _ rfl
  rw [e]
  exact read6 _ t (ix2 f d) _ _ (idx6 t) rfl rfl

def blk7 (t : Fin cfg0.N) : Vec Ideal S1024x1024 .bf16 := iblk m c 7 t
theorem read7 (X : main_v8.ty.Contents (Elt Ideal)) (t : Fin cfg0.N) (j : ((cfg0.win 7).xblock (cfg0.grid.coords t)).Idx)
    (f : Fin 1024) (d : Fin 1024) (i : win0_7.index t = ![0, 0]) (hf : f.val = (j (0 : Fin 2)).val) (hd : d.val = (j (1 : Fin 2)).val) :
    ((cfg0.win 7).blk t).view.read (Elt Ideal) X j = X (ix2 f d) := by
  blk_ext [i]
theorem blk7_at (t : Fin cfg0.N) (f : Fin 1024) (d : Fin 1024) : blk7 m c t (ix2 f d) = V m c main_v8 (ix2 f d) := by
  have e : blk7 m c t = ((cfg0.win 7).blk t).view.read (Elt Ideal) (V m c main_v8) := by
    unfold blk7 iblk
    exact congrArg _ rfl
  rw [e]
  exact read7 _ t (ix2 f d) _ _ (idx7 t) rfl rfl

def blk8 (t : Fin cfg0.N) : Vec Ideal S1024x1024 .bf16 := iblk m c 8 t
theorem read8 (X : main_v9.ty.Contents (Elt Ideal)) (t : Fin cfg0.N) (j : ((cfg0.win 8).xblock (cfg0.grid.coords t)).Idx)
    (f : Fin 1024) (d : Fin 1024) (i : win0_8.index t = ![0, 0]) (hf : f.val = (j (0 : Fin 2)).val) (hd : d.val = (j (1 : Fin 2)).val) :
    ((cfg0.win 8).blk t).view.read (Elt Ideal) X j = X (ix2 f d) := by
  blk_ext [i]
theorem blk8_at (t : Fin cfg0.N) (f : Fin 1024) (d : Fin 1024) : blk8 m c t (ix2 f d) = V m c main_v9 (ix2 f d) := by
  have e : blk8 m c t = ((cfg0.win 8).blk t).view.read (Elt Ideal) (V m c main_v9) := by
    unfold blk8 iblk
    exact congrArg _ rfl
  rw [e]
  exact read8 _ t (ix2 f d) _ _ (idx8 t) rfl rfl

def blk9 (t : Fin cfg0.N) : Vec Ideal S1024x1024 .bf16 := iblk m c 9 t
theorem read9 (X : main_v10.ty.Contents (Elt Ideal)) (t : Fin cfg0.N) (j : ((cfg0.win 9).xblock (cfg0.grid.coords t)).Idx)
    (f : Fin 1024) (d : Fin 1024) (i : win0_9.index t = ![0, 0]) (hf : f.val = (j (0 : Fin 2)).val) (hd : d.val = (j (1 : Fin 2)).val) :
    ((cfg0.win 9).blk t).view.read (Elt Ideal) X j = X (ix2 f d) := by
  blk_ext [i]
theorem blk9_at (t : Fin cfg0.N) (f : Fin 1024) (d : Fin 1024) : blk9 m c t (ix2 f d) = V m c main_v10 (ix2 f d) := by
  have e : blk9 m c t = ((cfg0.win 9).blk t).view.read (Elt Ideal) (V m c main_v10) := by
    unfold blk9 iblk
    exact congrArg _ rfl
  rw [e]
  exact read9 _ t (ix2 f d) _ _ (idx9 t) rfl rfl

def blk10 (t : Fin cfg0.N) : Vec Ideal S1024x1024 .bf16 := iblk m c 10 t
theorem read10 (X : main_v11.ty.Contents (Elt Ideal)) (t : Fin cfg0.N) (j : ((cfg0.win 10).xblock (cfg0.grid.coords t)).Idx)
    (f : Fin 1024) (d : Fin 1024) (i : win0_10.index t = ![0, 0]) (hf : f.val = (j (0 : Fin 2)).val) (hd : d.val = (j (1 : Fin 2)).val) :
    ((cfg0.win 10).blk t).view.read (Elt Ideal) X j = X (ix2 f d) := by
  blk_ext [i]
theorem blk10_at (t : Fin cfg0.N) (f : Fin 1024) (d : Fin 1024) : blk10 m c t (ix2 f d) = V m c main_v11 (ix2 f d) := by
  have e : blk10 m c t = ((cfg0.win 10).blk t).view.read (Elt Ideal) (V m c main_v11) := by
    unfold blk10 iblk
    exact congrArg _ rfl
  rw [e]
  exact read10 _ t (ix2 f d) _ _ (idx10 t) rfl rfl

def blk11 (t : Fin cfg0.N) : Vec Ideal S1x512 .f32 := iblk m c 11 t
theorem read11 (X : main_v21.ty.Contents (Elt Ideal)) (t : Fin cfg0.N) (j : ((cfg0.win 11).xblock (cfg0.grid.coords t)).Idx)
    (f : Fin 1) (d : Fin 512) (i : win0_11.index t = ![0, 0]) (hf : f.val = (j (0 : Fin 2)).val) (hd : d.val = (j (1 : Fin 2)).val) :
    ((cfg0.win 11).blk t).view.read (Elt Ideal) X j = X (ix2 f d) := by
  blk_ext [i]
theorem blk11_at (t : Fin cfg0.N) (f : Fin 1) (d : Fin 512) : blk11 m c t (ix2 f d) = V m c main_v21 (ix2 f d) := by
  have e : blk11 m c t = ((cfg0.win 11).blk t).view.read (Elt Ideal) (V m c main_v21) := by
    unfold blk11 iblk
    exact congrArg _ rfl
  rw [e]
  exact read11 _ t (ix2 f d) _ _ (idx11 t) rfl rfl

def blk12 (t : Fin cfg0.N) : Vec Ideal S1x512 .f32 := iblk m c 12 t
theorem read12 (X : main_v25.ty.Contents (Elt Ideal)) (t : Fin cfg0.N) (j : ((cfg0.win 12).xblock (cfg0.grid.coords t)).Idx)
    (f : Fin 1) (d : Fin 512) (i : win0_12.index t = ![0, 0]) (hf : f.val = (j (0 : Fin 2)).val) (hd : d.val = (j (1 : Fin 2)).val) :
    ((cfg0.win 12).blk t).view.read (Elt Ideal) X j = X (ix2 f d) := by
  blk_ext [i]
theorem blk12_at (t : Fin cfg0.N) (f : Fin 1) (d : Fin 512) : blk12 m c t (ix2 f d) = V m c main_v25 (ix2 f d) := by
  have e : blk12 m c t = ((cfg0.win 12).blk t).view.read (Elt Ideal) (V m c main_v25) := by
    unfold blk12 iblk
    exact congrArg _ rfl
  rw [e]
  exact read12 _ t (ix2 f d) _ _ (idx12 t) rfl rfl

def blk13 (t : Fin cfg0.N) : Vec Ideal S1x128 .f32 := iblk m c 13 t
theorem read13 (X : main_v27.ty.Contents (Elt Ideal)) (t : Fin cfg0.N) (j : ((cfg0.win 13).xblock (cfg0.grid.coords t)).Idx)
    (f : Fin 1) (d : Fin 128) (i : win0_13.index t = ![0, 0]) (hf : f.val = (j (0 : Fin 2)).val) (hd : d.val = (j (1 : Fin 2)).val) :
    ((cfg0.win 13).blk t).view.read (Elt Ideal) X j = X (ix2 f d) := by
  blk_ext [i]
theorem blk13_at (t : Fin cfg0.N) (f : Fin 1) (d : Fin 128) : blk13 m c t (ix2 f d) = V m c main_v27 (ix2 f d) := by
  have e : blk13 m c t = ((cfg0.win 13).blk t).view.read (Elt Ideal) (V m c main_v27) := by
    unfold blk13 iblk
    exact congrArg _ rfl
  rw [e]
  exact read13 _ t (ix2 f d) _ _ (idx13 t) rfl rfl

def blk14 (t : Fin cfg0.N) : Vec Ideal S512x512 .bf16 := iblk m c 14 t
theorem read14 (X : main_v35.ty.Contents (Elt Ideal)) (t : Fin cfg0.N) (j : ((cfg0.win 14).xblock (cfg0.grid.coords t)).Idx)
    (f : Fin 512) (d : Fin 512) (i : win0_14.index t = ![0, 0]) (hf : f.val = (j (0 : Fin 2)).val) (hd : d.val = (j (1 : Fin 2)).val) :
    ((cfg0.win 14).blk t).view.read (Elt Ideal) X j = X (ix2 f d) := by
  blk_ext [i]
theorem blk14_at (t : Fin cfg0.N) (f : Fin 512) (d : Fin 512) : blk14 m c t (ix2 f d) = V m c main_v35 (ix2 f d) := by
  have e : blk14 m c t = ((cfg0.win 14).blk t).view.read (Elt Ideal) (V m c main_v35) := by
    unfold blk14 iblk
    exact congrArg _ rfl
  rw [e]
  exact read14 _ t (ix2 f d) _ _ (idx14 t) rfl rfl

/-! ## The result arrays -/

/-- A row of the operand, normalised, against a feature's weights. -/
def pv {n : Nat} (w : (⟨2, ![n, 1024]⟩ : Shape).Idx → EReal) (R : Fin 1024) (f : Fin n) : EReal :=
  ∑ d, rms n1024 (fun d => V m c main_v36 (ix2 R d)) (fun d => V m c main_v14 (ix2 0 d)) d * w (ix2 f d)

theorem proj_eq (t : Fin cfg0.N) {n : Nat} (w v : (⟨2, ![n, 1024]⟩ : Shape).Idx → EReal) (r : Fin 256) (f : Fin n) (hw : ∀ f d, w (ix2 f d) = v (ix2 f d)) :
    proj (blk0 m c t) (blk1 m c t) w r f = pv m c v (rowOf (qOf t) r) f := by
  unfold proj pv row
  simp only [blk0_at, blk1_at, hw]

theorem proj_fun (t : Fin cfg0.N) {n : Nat} (w v : (⟨2, ![n, 1024]⟩ : Shape).Idx → EReal) (r : Fin 256) (hw : ∀ f d, w (ix2 f d) = v (ix2 f d)) :
    proj (blk0 m c t) (blk1 m c t) w r = pv m c v (rowOf (qOf t) r) := funext fun f => proj_eq m c t w v r f hw

/-- The queries, scaled. -/
def G15 : S1024x512.Idx → EReal := fun i => hn (pv m c (V m c main_v3) (i 0)) (fun e => V m c main_v35 (ix2 e (i 1))) (V m c main_v21 (ix2 0 (i 1))) (i 1) * Ideal.ofBits .f32 0x3E000000#32
/-- The keys. -/
def G16 : S1024x512.Idx → EReal := fun i => hn (pv m c (V m c main_v4) (i 0)) (fun e => V m c main_v35 (ix2 e (i 1))) (V m c main_v25 (ix2 0 (i 1))) (i 1)
/-- The values. -/
def G17 : S1024x512.Idx → EReal := fun i => pv m c (V m c main_v5) (i 0) (i 1)
/-- The attention gate. -/
def G18 : S1024x512.Idx → EReal := fun i => silu (pv m c (V m c main_v6) (i 0) (i 1))
/-- The log forget gates, in the first eight of 128 lanes. -/
def G19 : S1024x128.Idx → EReal := fun i => lsig (pv m c (V m c main_v12) (i 0) (i 1) + V m c main_v27 (ix2 0 (i 1)))
/-- The recurrence's rows. -/
def G20 : S1024x1024.Idx → EReal := fun i => pv m c (V m c main_v8) (i 0) (i 1)
/-- The recurrence's output gate. -/
def G21 : S1024x1024.Idx → EReal := fun i => silu (pv m c (V m c main_v9) (i 0) (i 1))
/-- The first recurrent gate. -/
def G22 : S1024x1024.Idx → EReal := fun i => logi (pv m c (V m c main_v10) (i 0) (i 1))
/-- The second recurrent gate. -/
def G23 : S1024x1024.Idx → EReal := fun i => logi (pv m c (V m c main_v11) (i 0) (i 1))

theorem read15 (X : main_v37_0.ty.Contents (Elt Ideal)) (t : Fin cfg0.N) (j : ((cfg0.win 15).xblock (cfg0.grid.coords t)).Idx)
    (R : Fin 1024) (f : Fin 512) (q : Fin 4) (i : win0_15.index t = ![q.val, 0])
    (hR : R.val = 256 * q.val + (j (0 : Fin 2)).val) (hf : f.val = (j (1 : Fin 2)).val) :
    X (((cfg0.win 15).blk t).view.emb j) = X (ix2 R f) := by
  blk_ext [i]
theorem left15 (t : Fin cfg0.N) (r : Fin 256) (f : Fin 512) :
    (out0_15 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G15 m c (ix2 (rowOf (qOf t) r) f) := by
  rw [out15_at, proj_fun m c t (blk2 m c t) (V m c main_v3) r (blk2_at m c t)]
  simp only [blk14_at, blk11_at]
  rfl

theorem read16 (X : main_v37_1.ty.Contents (Elt Ideal)) (t : Fin cfg0.N) (j : ((cfg0.win 16).xblock (cfg0.grid.coords t)).Idx)
    (R : Fin 1024) (f : Fin 512) (q : Fin 4) (i : win0_16.index t = ![q.val, 0])
    (hR : R.val = 256 * q.val + (j (0 : Fin 2)).val) (hf : f.val = (j (1 : Fin 2)).val) :
    X (((cfg0.win 16).blk t).view.emb j) = X (ix2 R f) := by
  blk_ext [i]
theorem left16 (t : Fin cfg0.N) (r : Fin 256) (f : Fin 512) :
    (out0_16 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G16 m c (ix2 (rowOf (qOf t) r) f) := by
  rw [out16_at, proj_fun m c t (blk3 m c t) (V m c main_v4) r (blk3_at m c t)]
  simp only [blk14_at, blk12_at]
  rfl

theorem read17 (X : main_v37_2.ty.Contents (Elt Ideal)) (t : Fin cfg0.N) (j : ((cfg0.win 17).xblock (cfg0.grid.coords t)).Idx)
    (R : Fin 1024) (f : Fin 512) (q : Fin 4) (i : win0_17.index t = ![q.val, 0])
    (hR : R.val = 256 * q.val + (j (0 : Fin 2)).val) (hf : f.val = (j (1 : Fin 2)).val) :
    X (((cfg0.win 17).blk t).view.emb j) = X (ix2 R f) := by
  blk_ext [i]
theorem left17 (t : Fin cfg0.N) (r : Fin 256) (f : Fin 512) :
    (out0_17 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G17 m c (ix2 (rowOf (qOf t) r) f) := by
  rw [out17_at, proj_eq m c t (blk4 m c t) (V m c main_v5) r f (blk4_at m c t)]
  rfl

theorem read18 (X : main_v37_3.ty.Contents (Elt Ideal)) (t : Fin cfg0.N) (j : ((cfg0.win 18).xblock (cfg0.grid.coords t)).Idx)
    (R : Fin 1024) (f : Fin 512) (q : Fin 4) (i : win0_18.index t = ![q.val, 0])
    (hR : R.val = 256 * q.val + (j (0 : Fin 2)).val) (hf : f.val = (j (1 : Fin 2)).val) :
    X (((cfg0.win 18).blk t).view.emb j) = X (ix2 R f) := by
  blk_ext [i]
theorem left18 (t : Fin cfg0.N) (r : Fin 256) (f : Fin 512) :
    (out0_18 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G18 m c (ix2 (rowOf (qOf t) r) f) := by
  rw [out18_at, proj_eq m c t (blk5 m c t) (V m c main_v6) r f (blk5_at m c t)]
  rfl

theorem read19 (X : main_v37_4.ty.Contents (Elt Ideal)) (t : Fin cfg0.N) (j : ((cfg0.win 19).xblock (cfg0.grid.coords t)).Idx)
    (R : Fin 1024) (f : Fin 128) (q : Fin 4) (i : win0_19.index t = ![q.val, 0])
    (hR : R.val = 256 * q.val + (j (0 : Fin 2)).val) (hf : f.val = (j (1 : Fin 2)).val) :
    X (((cfg0.win 19).blk t).view.emb j) = X (ix2 R f) := by
  blk_ext [i]
theorem left19 (t : Fin cfg0.N) (r : Fin 256) (f : Fin 128) :
    (out0_19 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G19 m c (ix2 (rowOf (qOf t) r) f) := by
  rw [out19_at, proj_eq m c t (blk6 m c t) (V m c main_v12) r f (blk6_at m c t), blk13_at]
  rfl

theorem read20 (X : main_v37_5.ty.Contents (Elt Ideal)) (t : Fin cfg0.N) (j : ((cfg0.win 20).xblock (cfg0.grid.coords t)).Idx)
    (R : Fin 1024) (f : Fin 1024) (q : Fin 4) (i : win0_20.index t = ![q.val, 0])
    (hR : R.val = 256 * q.val + (j (0 : Fin 2)).val) (hf : f.val = (j (1 : Fin 2)).val) :
    X (((cfg0.win 20).blk t).view.emb j) = X (ix2 R f) := by
  blk_ext [i]
theorem left20 (t : Fin cfg0.N) (r : Fin 256) (f : Fin 1024) :
    (out0_20 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G20 m c (ix2 (rowOf (qOf t) r) f) := by
  rw [out20_at, proj_eq m c t (blk7 m c t) (V m c main_v8) r f (blk7_at m c t)]
  rfl

theorem read21 (X : main_v37_6.ty.Contents (Elt Ideal)) (t : Fin cfg0.N) (j : ((cfg0.win 21).xblock (cfg0.grid.coords t)).Idx)
    (R : Fin 1024) (f : Fin 1024) (q : Fin 4) (i : win0_21.index t = ![q.val, 0])
    (hR : R.val = 256 * q.val + (j (0 : Fin 2)).val) (hf : f.val = (j (1 : Fin 2)).val) :
    X (((cfg0.win 21).blk t).view.emb j) = X (ix2 R f) := by
  blk_ext [i]
theorem left21 (t : Fin cfg0.N) (r : Fin 256) (f : Fin 1024) :
    (out0_21 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G21 m c (ix2 (rowOf (qOf t) r) f) := by
  rw [out21_at, proj_eq m c t (blk8 m c t) (V m c main_v9) r f (blk8_at m c t)]
  rfl

theorem read22 (X : main_v37_7.ty.Contents (Elt Ideal)) (t : Fin cfg0.N) (j : ((cfg0.win 22).xblock (cfg0.grid.coords t)).Idx)
    (R : Fin 1024) (f : Fin 1024) (q : Fin 4) (i : win0_22.index t = ![q.val, 0])
    (hR : R.val = 256 * q.val + (j (0 : Fin 2)).val) (hf : f.val = (j (1 : Fin 2)).val) :
    X (((cfg0.win 22).blk t).view.emb j) = X (ix2 R f) := by
  blk_ext [i]
theorem left22 (t : Fin cfg0.N) (r : Fin 256) (f : Fin 1024) :
    (out0_22 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G22 m c (ix2 (rowOf (qOf t) r) f) := by
  rw [out22_at, proj_eq m c t (blk9 m c t) (V m c main_v10) r f (blk9_at m c t)]
  rfl

theorem read23 (X : main_v37_8.ty.Contents (Elt Ideal)) (t : Fin cfg0.N) (j : ((cfg0.win 23).xblock (cfg0.grid.coords t)).Idx)
    (R : Fin 1024) (f : Fin 1024) (q : Fin 4) (i : win0_23.index t = ![q.val, 0])
    (hR : R.val = 256 * q.val + (j (0 : Fin 2)).val) (hf : f.val = (j (1 : Fin 2)).val) :
    X (((cfg0.win 23).blk t).view.emb j) = X (ix2 R f) := by
  blk_ext [i]
theorem left23 (t : Fin cfg0.N) (r : Fin 256) (f : Fin 1024) :
    (out0_23 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 r f) : EReal) = G23 m c (ix2 (rowOf (qOf t) r) f) := by
  rw [out23_at, proj_eq m c t (blk10 m c t) (V m c main_v11) r f (blk10_at m c t)]
  rfl

end Cert.Proof.In.Sample

end
-- ==== Proof.In.SampleFinal.lean ====
/-
  The result arrays after the run.
-/
module

public import proofs.«01_k».proof.Proof.In.SampleArray

@[expose] public section

set_option maxRecDepth 16384
set_option maxHeartbeats 400000

noncomputable section

namespace Cert.Proof.In.Sample

open Cert.InprojSampleIdeal Cert.InprojSampleIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem point15 (t : Fin cfg0.N) : (dats (F := Ideal) m 0 c).after 15 t = out0_15 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_15 m c t
theorem final15 : (dats (F := Ideal) m 0 c).arrAt 15 cfg0.N = G15 m c := by
  refine (dats (F := Ideal) m 0 c).arrAt_eq_of_covers 15 (G15 m c) (by decide +kernel) fun t _ y => ?_
  rw [point15]
  have h0 : (y (0 : Fin 2)).val < 256 := (y (0 : Fin 2)).isLt
  have h1 : (y (1 : Fin 2)).val < 512 := (y (1 : Fin 2)).isLt
  rw [read15 (G15 m c) t y (rowOf (qOf t) ⟨_, h0⟩) ⟨_, h1⟩ (qOf t) (idx15 t) (rowOf_val _ _) rfl, ← left15]
  generalize out0_15 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point16 (t : Fin cfg0.N) : (dats (F := Ideal) m 0 c).after 16 t = out0_16 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_16 m c t
theorem final16 : (dats (F := Ideal) m 0 c).arrAt 16 cfg0.N = G16 m c := by
  refine (dats (F := Ideal) m 0 c).arrAt_eq_of_covers 16 (G16 m c) (by decide +kernel) fun t _ y => ?_
  rw [point16]
  have h0 : (y (0 : Fin 2)).val < 256 := (y (0 : Fin 2)).isLt
  have h1 : (y (1 : Fin 2)).val < 512 := (y (1 : Fin 2)).isLt
  rw [read16 (G16 m c) t y (rowOf (qOf t) ⟨_, h0⟩) ⟨_, h1⟩ (qOf t) (idx16 t) (rowOf_val _ _) rfl, ← left16]
  generalize out0_16 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point17 (t : Fin cfg0.N) : (dats (F := Ideal) m 0 c).after 17 t = out0_17 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_17 m c t
theorem final17 : (dats (F := Ideal) m 0 c).arrAt 17 cfg0.N = G17 m c := by
  refine (dats (F := Ideal) m 0 c).arrAt_eq_of_covers 17 (G17 m c) (by decide +kernel) fun t _ y => ?_
  rw [point17]
  have h0 : (y (0 : Fin 2)).val < 256 := (y (0 : Fin 2)).isLt
  have h1 : (y (1 : Fin 2)).val < 512 := (y (1 : Fin 2)).isLt
  rw [read17 (G17 m c) t y (rowOf (qOf t) ⟨_, h0⟩) ⟨_, h1⟩ (qOf t) (idx17 t) (rowOf_val _ _) rfl, ← left17]
  generalize out0_17 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point18 (t : Fin cfg0.N) : (dats (F := Ideal) m 0 c).after 18 t = out0_18 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_18 m c t
theorem final18 : (dats (F := Ideal) m 0 c).arrAt 18 cfg0.N = G18 m c := by
  refine (dats (F := Ideal) m 0 c).arrAt_eq_of_covers 18 (G18 m c) (by decide +kernel) fun t _ y => ?_
  rw [point18]
  have h0 : (y (0 : Fin 2)).val < 256 := (y (0 : Fin 2)).isLt
  have h1 : (y (1 : Fin 2)).val < 512 := (y (1 : Fin 2)).isLt
  rw [read18 (G18 m c) t y (rowOf (qOf t) ⟨_, h0⟩) ⟨_, h1⟩ (qOf t) (idx18 t) (rowOf_val _ _) rfl, ← left18]
  generalize out0_18 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point19 (t : Fin cfg0.N) : (dats (F := Ideal) m 0 c).after 19 t = out0_19 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_19 m c t
theorem final19 : (dats (F := Ideal) m 0 c).arrAt 19 cfg0.N = G19 m c := by
  refine (dats (F := Ideal) m 0 c).arrAt_eq_of_covers 19 (G19 m c) (by decide +kernel) fun t _ y => ?_
  rw [point19]
  have h0 : (y (0 : Fin 2)).val < 256 := (y (0 : Fin 2)).isLt
  have h1 : (y (1 : Fin 2)).val < 128 := (y (1 : Fin 2)).isLt
  rw [read19 (G19 m c) t y (rowOf (qOf t) ⟨_, h0⟩) ⟨_, h1⟩ (qOf t) (idx19 t) (rowOf_val _ _) rfl, ← left19]
  generalize out0_19 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point20 (t : Fin cfg0.N) : (dats (F := Ideal) m 0 c).after 20 t = out0_20 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_20 m c t
theorem final20 : (dats (F := Ideal) m 0 c).arrAt 20 cfg0.N = G20 m c := by
  refine (dats (F := Ideal) m 0 c).arrAt_eq_of_covers 20 (G20 m c) (by decide +kernel) fun t _ y => ?_
  rw [point20]
  have h0 : (y (0 : Fin 2)).val < 256 := (y (0 : Fin 2)).isLt
  have h1 : (y (1 : Fin 2)).val < 1024 := (y (1 : Fin 2)).isLt
  rw [read20 (G20 m c) t y (rowOf (qOf t) ⟨_, h0⟩) ⟨_, h1⟩ (qOf t) (idx20 t) (rowOf_val _ _) rfl, ← left20]
  generalize out0_20 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point21 (t : Fin cfg0.N) : (dats (F := Ideal) m 0 c).after 21 t = out0_21 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_21 m c t
theorem final21 : (dats (F := Ideal) m 0 c).arrAt 21 cfg0.N = G21 m c := by
  refine (dats (F := Ideal) m 0 c).arrAt_eq_of_covers 21 (G21 m c) (by decide +kernel) fun t _ y => ?_
  rw [point21]
  have h0 : (y (0 : Fin 2)).val < 256 := (y (0 : Fin 2)).isLt
  have h1 : (y (1 : Fin 2)).val < 1024 := (y (1 : Fin 2)).isLt
  rw [read21 (G21 m c) t y (rowOf (qOf t) ⟨_, h0⟩) ⟨_, h1⟩ (qOf t) (idx21 t) (rowOf_val _ _) rfl, ← left21]
  generalize out0_21 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point22 (t : Fin cfg0.N) : (dats (F := Ideal) m 0 c).after 22 t = out0_22 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_22 m c t
theorem final22 : (dats (F := Ideal) m 0 c).arrAt 22 cfg0.N = G22 m c := by
  refine (dats (F := Ideal) m 0 c).arrAt_eq_of_covers 22 (G22 m c) (by decide +kernel) fun t _ y => ?_
  rw [point22]
  have h0 : (y (0 : Fin 2)).val < 256 := (y (0 : Fin 2)).isLt
  have h1 : (y (1 : Fin 2)).val < 1024 := (y (1 : Fin 2)).isLt
  rw [read22 (G22 m c) t y (rowOf (qOf t) ⟨_, h0⟩) ⟨_, h1⟩ (qOf t) (idx22 t) (rowOf_val _ _) rfl, ← left22]
  generalize out0_22 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

theorem point23 (t : Fin cfg0.N) : (dats (F := Ideal) m 0 c).after 23 t = out0_23 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) := after0_23 m c t
theorem final23 : (dats (F := Ideal) m 0 c).arrAt 23 cfg0.N = G23 m c := by
  refine (dats (F := Ideal) m 0 c).arrAt_eq_of_covers 23 (G23 m c) (by decide +kernel) fun t _ y => ?_
  rw [point23]
  have h0 : (y (0 : Fin 2)).val < 256 := (y (0 : Fin 2)).isLt
  have h1 : (y (1 : Fin 2)).val < 1024 := (y (1 : Fin 2)).isLt
  rw [read23 (G23 m c) t y (rowOf (qOf t) ⟨_, h0⟩) ⟨_, h1⟩ (qOf t) (idx23 t) (rowOf_val _ _) rfl, ← left23]
  generalize out0_23 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) = Y
  exact congrArg Y (ix2_eta y h0 h1)

end Cert.Proof.In.Sample

end
-- ==== Proof.In.SampleReference.lean ====
/-
  The reference's results at an index for the sampled tokens: the normalised rows' products with the weights' columns,
  and the gates, a batch's eight tokens in eight consecutive rows.
-/
module

public import proofs.«01_k».proof.Proof.Gen.MixerSampleIdeal.Run
public import proofs.«01_k».proof.Proof.In.Gates

@[expose] public section

set_option maxRecDepth 16384
set_option maxHeartbeats 1000000

noncomputable section

namespace Cert.Proof.In.SampleRef

open Cert.MixerSampleIdeal Cert.MixerSampleIdeal.Gen
open Idealize.ShloMosaic Idealize.ShloMosaic.TcCoe Idealize.ShloMosaic.Tactic

abbrev Rows := FVec Ideal S128x8x1024 .f32
abbrev Prod := FVec Ideal S128x8x6152 .f32

/-- The batch and the token of a row. -/
def bR (R : Fin 1024) : Fin 128 := ⟨R.val / 8, by omega⟩
def tR (R : Fin 1024) : Fin 8 := ⟨R.val % 8, by omega⟩

/-! ## The arrays of the program, stage by stage -/

/-- The normalised rows. -/
def normed (x : Rows) (g : FVec Ideal S1x1024 .f32) : Rows :=
  mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 (shapeCast _ g shapeCasts_S1x1024_S1024)))

/-- All the projections. -/
def prod (h : Rows) (w : FVec Ideal S1x1024x6152 .f32) : Prod :=
  Host.dotGeneral dot_S128x8x1024_S1024x6152_S128x8x6152_2_0_01_1_n_n none h (shapeCast _ w shapeCasts_S1x1024x6152_S1024x6152)

/-- The queries' heads and the keys'. -/
def quers (u : Prod) : FVec Ideal S128x8x8x64 .f32 :=
  shapeCast _ (extractStridedSlice S128x8x512 ![0, 0, 0] u slices_S128x8x6152_S128x8x512_0_0_0) shapeCasts_S128x8x512_S128x8x8x64
def keys (u : Prod) : FVec Ideal S128x8x8x64 .f32 :=
  shapeCast _ (extractStridedSlice S128x8x512 ![0, 0, 512] u slices_S128x8x6152_S128x8x512_0_0_512) shapeCasts_S128x8x512_S128x8x8x64

/-- The heads normalised. -/
def headed (k : FVec Ideal S128x8x8x64 .f32) (g : FVec Ideal S1x64 .f32) : FVec Ideal S1024x512 .f32 :=
  shapeCast _ (mulf (mulf k (broadcastInDim S128x8x8x64 ![0, 1, 2, 3] bcast_S128x8x8x1_S128x8x8x64_0_1_2_3 (Host.rsqrt (addf (Host.divf (broadcastInDim S128x8x8x1 ![0, 1, 2] bcast_S128x8x8_S128x8x8x1_0_1_2 (Host.reduceAdd (mulf k k) (constant S_ .f32 0x00000000#32) reducesTo_S128x8x8x64_S128x8x8_d3 h_S_)) (broadcastInDim S128x8x8x1 ![] bcast_S_S128x8x8x1 (constant S_ .f32 0x42800000#32))) (broadcastInDim S128x8x8x1 ![] bcast_S_S128x8x8x1 (constant S_ .f32 0x358637BD#32)))))) (broadcastInDim S128x8x8x64 ![0, 1, 2, 3] bcast_S1x1x1x64_S128x8x8x64_0_1_2_3 (broadcastInDim S1x1x1x64 ![3] bcast_S64_S1x1x1x64_3 (shapeCast _ g shapeCasts_S1x64_S64)))) shapeCasts_S128x8x8x64_S1024x512

/-- The queries' scale. -/
def scaled (q : FVec Ideal S1024x512 .f32) : FVec Ideal S1024x512 .f32 :=
  mulf q (broadcastInDim S1024x512 ![] bcast_S_S1024x512 (constant S_ .f32 0x3E000000#32))

/-- The forget gates' logits, negated, -/
def flog (u : Prod) (b : FVec Ideal S1x8 .f32) : FVec Ideal S128x8x8 .f32 :=
  Host.negf (addf (extractStridedSlice S128x8x8 ![0, 0, 2048] u slices_S128x8x6152_S128x8x8_0_0_2048) (broadcastInDim S128x8x8 ![0, 1, 2] bcast_S1x1x8_S128x8x8_0_1_2 (broadcastInDim S1x1x8 ![2] bcast_S8_S1x1x8_2 (shapeCast _ b shapeCasts_S1x8_S8))))

/-- and the log forget gates of negated logits. -/
def fgate (z : FVec Ideal S128x8x8 .f32) : FVec Ideal S1024x8 .f32 :=
  shapeCast _ (Host.negf (select (cmpf .une (subf z (broadcastInDim S128x8x8 ![] bcast_S_S128x8x8 (constant S_ .f32 0x00000000#32))) (subf z (broadcastInDim S128x8x8 ![] bcast_S_S128x8x8 (constant S_ .f32 0x00000000#32)))) (addf z (broadcastInDim S128x8x8 ![] bcast_S_S128x8x8 (constant S_ .f32 0x00000000#32))) (addf (maximumf z (broadcastInDim S128x8x8 ![] bcast_S_S128x8x8 (constant S_ .f32 0x00000000#32))) (Host.log1p (Host.exp (Host.negf (Host.absf (subf z (broadcastInDim S128x8x8 ![] bcast_S_S128x8x8 (constant S_ .f32 0x00000000#32)))))))))) shapeCasts_S128x8x8_S1024x8

/-- The values, and the attention gate. -/
def vcols (u : Prod) : FVec Ideal S1024x512 .f32 :=
  shapeCast _ (extractStridedSlice S128x8x512 ![0, 0, 1024] u slices_S128x8x6152_S128x8x512_0_0_1024) shapeCasts_S128x8x512_S1024x512
def zcols (u : Prod) : FVec Ideal S1024x512 .bf16 :=
  truncf .bf16 (shapeCast _ (mulf (extractStridedSlice S128x8x512 ![0, 0, 1536] u slices_S128x8x6152_S128x8x512_0_0_1536) (Host.divf (broadcastInDim S128x8x512 ![] bcast_S_S128x8x512 (constant S_ .f32 0x3F800000#32)) (addf (broadcastInDim S128x8x512 ![] bcast_S_S128x8x512 (constant S_ .f32 0x3F800000#32)) (Host.exp (Host.negf (extractStridedSlice S128x8x512 ![0, 0, 1536] u slices_S128x8x6152_S128x8x512_0_0_1536)))))) shapeCasts_S128x8x512_S1024x512) bitsLt_bf16_f32

/-- Logistic functions of a slice. -/
def logis (z : Rows) : Rows :=
  Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf z)))

def xrows (u : Prod) : Rows := extractStridedSlice S128x8x1024 ![0, 0, 2056] u slices_S128x8x6152_S128x8x1024_0_0_2056
def zrows (u : Prod) : Rows := extractStridedSlice S128x8x1024 ![0, 0, 3080] u slices_S128x8x6152_S128x8x1024_0_0_3080
def arows (u : Prod) : Rows := extractStridedSlice S128x8x1024 ![0, 0, 4104] u slices_S128x8x6152_S128x8x1024_0_0_4104
def brows (u : Prod) : Rows := extractStridedSlice S128x8x1024 ![0, 0, 5128] u slices_S128x8x6152_S128x8x1024_0_0_5128

/-- A slice as rows, and the gates' cast. -/
def flat (z : Rows) : FVec Ideal S1024x1024 .f32 := shapeCast _ z shapeCasts_S128x8x1024_S1024x1024
def cast16 (z : Rows) : FVec Ideal S1024x1024 .bf16 := truncf .bf16 (flat z) bitsLt_bf16_f32

/-! ## The stages at an index -/

theorem normed_at (x : Rows) (g : FVec Ideal S1x1024 .f32) (b : Fin 128) (t : Fin 8) (d : Fin 1024) :
    (normed x g (ix3 b t d) : EReal) = rms n1024 (fun d => x (ix3 b t d)) (fun d => g (ix2 0 d)) d := by
  unfold normed rms n1024
  pointwise

theorem prod_at (h : Rows) (w : FVec Ideal S1x1024x6152 .f32) (b : Fin 128) (t : Fin 8) (j : Fin 6152) :
    (prod h w (ix3 b t j) : EReal) = ∑ d : Fin 1024, (h (ix3 b t d) : EReal) * (w (ix3 0 d j) : EReal) := by
  unfold prod
  pointwise

theorem quers_at (u : Prod) (b : Fin 128) (t : Fin 8) (h : Fin 8) (d : Fin 64) :
    (quers u (ix4 b t h d) : EReal) = u (ix3 b t ⟨0 + (64 * h.val + d.val), by omega⟩) := by
  unfold quers
  pointwise
  exact congrArg (fun j => (u (ix3 b t j) : EReal)) (Fin.ext (by show h.val * 64 + d.val = 64 * h.val + d.val; omega))

theorem keys_at (u : Prod) (b : Fin 128) (t : Fin 8) (h : Fin 8) (d : Fin 64) :
    (keys u (ix4 b t h d) : EReal) = u (ix3 b t ⟨512 + (64 * h.val + d.val), by omega⟩) := by
  unfold keys
  pointwise
  exact congrArg (fun j => (u (ix3 b t j) : EReal)) (Fin.ext (by show 512 + (h.val * 64 + d.val) = 512 + (64 * h.val + d.val); omega))

theorem headed_at (k : FVec Ideal S128x8x8x64 .f32) (g : FVec Ideal S1x64 .f32) (R : Fin 1024) (f : Fin 512) :
    (headed k g (ix2 R f) : EReal) = rms n64 (fun e => k (ix4 (bR R) (tR R) ⟨f.val / 64, by omega⟩ e)) (fun e => g (ix2 0 e)) ⟨f.val % 64, by omega⟩ := by
  unfold headed rms n64 bR tR
  pointwise

theorem scaled_at (q : FVec Ideal S1024x512 .f32) (R : Fin 1024) (f : Fin 512) :
    (scaled q (ix2 R f) : EReal) = (q (ix2 R f) : EReal) * Ideal.ofBits .f32 0x3E000000#32 := by
  unfold scaled
  pointwise

theorem flog_at (u : Prod) (a : FVec Ideal S1x8 .f32) (b : Fin 128) (t : Fin 8) (h : Fin 8) :
    (flog u a (ix3 b t h) : EReal) = -((u (ix3 b t ⟨2048 + h.val, by omega⟩) : EReal) + (a (ix2 0 h) : EReal)) := by
  unfold flog
  pointwise

theorem fgate_at (z : FVec Ideal S128x8x8 .f32) (R : Fin 1024) (h : Fin 8) :
    (fgate z (ix2 R h) : EReal) = lsigN (z (ix3 (bR R) (tR R) h)) := by
  unfold fgate lsigN bR tR
  pointwise
  rw [if_neg (not_not.2 rfl)]
  rfl

theorem vcols_at (u : Prod) (R : Fin 1024) (f : Fin 512) : (vcols u (ix2 R f) : EReal) = u (ix3 (bR R) (tR R) ⟨1024 + f.val, by omega⟩) := by
  unfold vcols bR tR
  pointwise

theorem zcols_at (u : Prod) (R : Fin 1024) (f : Fin 512) : (zcols u (ix2 R f) : EReal) = silu (u (ix3 (bR R) (tR R) ⟨1536 + f.val, by omega⟩)) := by
  unfold zcols silu bR tR
  pointwise
  rfl

theorem logis_at (z : Rows) (b : Fin 128) (t : Fin 8) (f : Fin 1024) : (logis z (ix3 b t f) : EReal) = logi (z (ix3 b t f)) := by
  unfold logis logi
  pointwise
  rfl

theorem flat_at (z : Rows) (R f : Fin 1024) : (flat z (ix2 R f) : EReal) = z (ix3 (bR R) (tR R) f) := by
  unfold flat bR tR
  pointwise

theorem cast16_at (z : Rows) (R f : Fin 1024) : (cast16 z (ix2 R f) : EReal) = z (ix3 (bR R) (tR R) f) := flat_at z R f

theorem xrows_at (u : Prod) (b : Fin 128) (t : Fin 8) (f : Fin 1024) : (xrows u (ix3 b t f) : EReal) = u (ix3 b t ⟨2056 + f.val, by omega⟩) := by
  unfold xrows
  pointwise
theorem zrows_at (u : Prod) (b : Fin 128) (t : Fin 8) (f : Fin 1024) : (zrows u (ix3 b t f) : EReal) = u (ix3 b t ⟨3080 + f.val, by omega⟩) := by
  unfold zrows
  pointwise
theorem arows_at (u : Prod) (b : Fin 128) (t : Fin 8) (f : Fin 1024) : (arows u (ix3 b t f) : EReal) = u (ix3 b t ⟨4104 + f.val, by omega⟩) := by
  unfold arows
  pointwise
theorem brows_at (u : Prod) (b : Fin 128) (t : Fin 8) (f : Fin 1024) : (brows u (ix3 b t f) : EReal) = u (ix3 b t ⟨5128 + f.val, by omega⟩) := by
  unfold brows
  pointwise

/-! ## The program's results -/

variable (m : (ℓ : Loc nD τ sig) → Buf (Elt Ideal) ℓ) (c : Dev nD)

/-- All the projections of the program's arguments. -/
def uArr : Prod := prod (normed (m (c, Proc.tc.devRef main_arg0)) (m (c, Proc.tc.devRef main_arg1))) (m (c, Proc.tc.devRef main_arg2))

theorem uArr_at (b : Fin 128) (t : Fin 8) (j : Fin 6152) : (uArr m c (ix3 b t j) : EReal) =
    pr (m (c, Proc.tc.devRef main_arg0) : S128x8x1024.Idx → EReal) (m (c, Proc.tc.devRef main_arg1) : S1x1024.Idx → EReal)
      (m (c, Proc.tc.devRef main_arg2) : S1x1024x6152.Idx → EReal) b t j := by
  unfold uArr pr
  rw [prod_at]
  simp only [normed_at]

theorem res81 : Cert.MixerSampleIdeal.Value.res_main_v81 m c = fgate (flog (uArr m c) (m (c, Proc.tc.devRef main_arg5))) := rfl

end Cert.Proof.In.SampleRef

end
-- ==== Proof.In.SampleEquation.lean ====
/-
  The sample's input projections are the reference's.
-/
module

public import proofs.«01_k».proof.Defs
public import proofs.«01_k».proof.Proof.In.SampleFinal
public import proofs.«01_k».proof.Proof.In.SampleOperands
public import proofs.«01_k».proof.Proof.In.SampleReference
public import Idealize.ShloMosaic.Adequacy

@[expose] public section

set_option maxRecDepth 16384
set_option maxHeartbeats 1000000

noncomputable section

namespace Cert.Proof.In.Sample

open Idealize.ShloMosaic Idealize.ShloMosaic.TcCoe Idealize.ShloMosaic.Tactic Idealize.SL.Sem
open Cert.Proof.In.SampleRef

attribute [local instance] Cert.InprojSampleIdeal.Gen.facts Cert.MixerSampleIdeal.Gen.facts

variable {m : (ℓ : Loc Cert.InprojSampleIdeal.nD Cert.InprojSampleIdeal.τ Cert.InprojSampleIdeal.sig) → Buf (Elt Ideal) ℓ}
variable {m' : (ℓ : Loc Cert.MixerSampleIdeal.nD Cert.MixerSampleIdeal.τ Cert.MixerSampleIdeal.sig) → Buf (Elt Ideal) ℓ}
variable {c : Dev Cert.InprojSampleIdeal.nD}

/-- The two programs are given the same arguments. -/
structure Args (m : (ℓ : Loc Cert.InprojSampleIdeal.nD Cert.InprojSampleIdeal.τ Cert.InprojSampleIdeal.sig) → Buf (Elt Ideal) ℓ)
    (m' : (ℓ : Loc Cert.MixerSampleIdeal.nD Cert.MixerSampleIdeal.τ Cert.MixerSampleIdeal.sig) → Buf (Elt Ideal) ℓ)
    (c : Dev Cert.InprojSampleIdeal.nD) : Prop where
  x : m' (c, Proc.tc.devRef Cert.MixerSampleIdeal.main_arg0) = aX m c
  g : m' (c, Proc.tc.devRef Cert.MixerSampleIdeal.main_arg1) = aG m c
  w : m' (c, Proc.tc.devRef Cert.MixerSampleIdeal.main_arg2) = aW m c
  q : m' (c, Proc.tc.devRef Cert.MixerSampleIdeal.main_arg3) = aQ m c
  k : m' (c, Proc.tc.devRef Cert.MixerSampleIdeal.main_arg4) = aK m c
  b : m' (c, Proc.tc.devRef Cert.MixerSampleIdeal.main_arg5) = aB m c

theorem ix_eta {n₀ n₁ : Nat} (i : (⟨2, ![n₀, n₁]⟩ : Shape).Idx) : ∃ (a : Fin n₀) (b : Fin n₁), i = ix2 a b :=
  ⟨i 0, i 1, by funext a; fin_cases a <;> rfl⟩

theorem u_eq (H : Args m m' c) (b : Fin 128) (t : Fin 8) (j : Fin 6152) :
    (uArr m' c (ix3 b t j) : EReal) = pr (aX m c) (aG m c) (aW m c) b t j := by
  rw [uArr_at, H.x, H.g, H.w]

/-- A projection the call computes, from a column of the weights. -/
theorem pv_eq {n : Nat} {w : (⟨2, ![n, 1024]⟩ : Shape).Idx → EReal} (R : Fin 1024) {f : Fin n} {j : Fin 6152}
    (hw : ∀ d, w (ix2 f d) = aW m c (ix3 0 d j)) : pv m c w R f = pr (aX m c) (aG m c) (aW m c) (bR R) (tR R) j := by
  have hx : (fun d => (V m c Cert.InprojSampleIdeal.main_v36 (ix2 R d) : EReal)) = fun d => aX m c (ix3 (bR R) (tR R) d) := funext fun d => v36_at m c R d
  have hg : (fun d => (V m c Cert.InprojSampleIdeal.main_v14 (ix2 0 d) : EReal)) = fun d => aG m c (ix2 0 d) := funext fun d => v14_at m c d
  unfold pv pr
  rw [hx, hg]
  simp only [hw]

/-- A feature normalised by the column of its head. -/
theorem head_eq {w : Cert.InprojSampleIdeal.S512x1024.Idx → EReal} {o : Nat} (ho : o ≤ 512) (R : Fin 1024) (f : Fin 512) (γ : Fin 64 → EReal)
    (hw : ∀ (e : Fin 512) d, w (ix2 e d) = aW m c (ix3 0 d ⟨o + e.val, by omega⟩)) :
    hn (pv m c w R) (fun e => V m c Cert.InprojSampleIdeal.main_v35 (ix2 e f)) (γ ⟨f.val % 64, by omega⟩) f =
      rms n64 (fun e : Fin 64 => pr (aX m c) (aG m c) (aW m c) (bR R) (tR R) ⟨o + (64 * (f.val / 64) + e.val), by omega⟩) γ ⟨f.val % 64, by omega⟩ := by
  have hm : (fun e => (V m c Cert.InprojSampleIdeal.main_v35 (ix2 e f) : EReal)) = mask f := funext fun e => v35_at m c e f
  have hf : f = ft ⟨f.val / 64, by omega⟩ ⟨f.val % 64, by omega⟩ := Fin.ext (by show f.val = 64 * (f.val / 64) + f.val % 64; omega)
  have hp : pv m c w R = fun e => pr (aX m c) (aG m c) (aW m c) (bR R) (tR R) ⟨o + e.val, by omega⟩ := funext fun e => pv_eq R (hw e)
  rw [hm, hp]
  have key : ∀ (u : Fin 512 → EReal) (y : EReal) (f' : Fin 512), f' = f → hn u (mask f') y f' = hn u (mask f) y f := by
    rintro u y _ rfl
    rfl
  exact (key _ _ _ hf.symm).symm.trans (hn_eq (fun e : Fin 512 => pr (aX m c) (aG m c) (aW m c) (bR R) (tR R) ⟨o + e.val, by omega⟩) γ ⟨f.val / 64, by omega⟩ ⟨f.val % 64, by omega⟩)

theorem k_eq (H : Args m m' c) : (headed (keys (uArr m' c)) (m' (c, Proc.tc.devRef Cert.MixerSampleIdeal.main_arg4)) : Cert.InprojSampleIdeal.S1024x512.Idx → EReal) = G16 m c := by
  funext i
  obtain ⟨R, f, rfl⟩ := ix_eta i
  refine (headed_at _ _ R f).trans ?_
  rw [H.k]
  simp only [keys_at, u_eq H]
  have h := head_eq (m := m) (c := c) (o := 512) le_rfl R f (fun e => aK m c (ix2 0 e)) (fun e d => v4_at m c e d)
  have hv := v25_at m c f
  refine h.symm.trans ?_
  exact congrArg (fun y : EReal => hn (pv m c (V m c Cert.InprojSampleIdeal.main_v4) R) (fun e => V m c Cert.InprojSampleIdeal.main_v35 (ix2 e f)) y f) hv.symm

theorem q_eq (H : Args m m' c) : (scaled (headed (quers (uArr m' c)) (m' (c, Proc.tc.devRef Cert.MixerSampleIdeal.main_arg3))) : Cert.InprojSampleIdeal.S1024x512.Idx → EReal) = G15 m c := by
  funext i
  obtain ⟨R, f, rfl⟩ := ix_eta i
  refine (scaled_at _ R f).trans ?_
  refine congrArg (fun y : EReal => y * Ideal.ofBits .f32 0x3E000000#32) ?_
  refine (headed_at _ _ R f).trans ?_
  rw [H.q]
  simp only [quers_at, u_eq H]
  have h := head_eq (m := m) (c := c) (o := 0) (Nat.zero_le _) R f (fun e => aQ m c (ix2 0 e)) (fun e d => (v3_at m c e d).trans
    (congrArg (fun j => aW m c (ix3 0 d j)) (Fin.ext (Nat.zero_add _).symm)))
  have hv := v21_at m c f
  refine h.symm.trans ?_
  exact congrArg (fun y : EReal => hn (pv m c (V m c Cert.InprojSampleIdeal.main_v3) R) (fun e => V m c Cert.InprojSampleIdeal.main_v35 (ix2 e f)) y f) hv.symm

theorem v_eq (H : Args m m' c) : (vcols (uArr m' c) : Cert.InprojSampleIdeal.S1024x512.Idx → EReal) = G17 m c := by
  funext i
  obtain ⟨R, f, rfl⟩ := ix_eta i
  exact (vcols_at _ R f).trans ((u_eq H _ _ _).trans (pv_eq R (v5_at m c f)).symm)

theorem za_eq (H : Args m m' c) : (zcols (uArr m' c) : Cert.InprojSampleIdeal.S1024x512.Idx → EReal) = G18 m c := by
  funext i
  obtain ⟨R, f, rfl⟩ := ix_eta i
  exact (zcols_at _ R f).trans (congrArg silu ((u_eq H _ _ _).trans (pv_eq R (v6_at m c f)).symm))

/-- The log forget gates: the first eight lanes of the call's result. -/
def G38 (m : (ℓ : Loc Cert.InprojSampleIdeal.nD Cert.InprojSampleIdeal.τ Cert.InprojSampleIdeal.sig) → Buf (Elt Ideal) ℓ)
    (c : Dev Cert.InprojSampleIdeal.nD) : Cert.InprojSampleIdeal.S1024x8.Idx → EReal := fun i => G19 m c (ix2 (i 0) ⟨(i 1).val, (i 1).isLt.trans (by decide)⟩)

theorem lf_eq (H : Args m m' c) : (Cert.MixerSampleIdeal.Value.res_main_v81 m' c : Cert.InprojSampleIdeal.S1024x8.Idx → EReal) = G38 m c := by
  funext i
  obtain ⟨R, f, rfl⟩ := ix_eta i
  rw [res81]
  refine (fgate_at _ R f).trans ?_
  rw [flog_at, lsigN_neg, H.b, u_eq H]
  refine congrArg lsig ?_
  exact congrArg₂ (fun x y : EReal => x + y) (pv_eq R (v12_at m c f)).symm (v27_at m c f).symm

theorem xl_eq (H : Args m m' c) : (flat (xrows (uArr m' c)) : Cert.InprojSampleIdeal.S1024x1024.Idx → EReal) = G20 m c := by
  funext i
  obtain ⟨R, f, rfl⟩ := ix_eta i
  exact (flat_at _ R f).trans ((xrows_at _ _ _ f).trans ((u_eq H _ _ _).trans (pv_eq R (v8_at m c f)).symm))

theorem zl_eq (H : Args m m' c) : (cast16 (mulf (zrows (uArr m' c)) (logis (zrows (uArr m' c)))) :
    Cert.InprojSampleIdeal.S1024x1024.Idx → EReal) = G21 m c := by
  funext i
  obtain ⟨R, f, rfl⟩ := ix_eta i
  have e := (zrows_at (uArr m' c) (bR R) (tR R) f).trans ((u_eq H _ _ _).trans (pv_eq R (v9_at m c f)).symm)
  exact (cast16_at _ R f).trans (congrArg₂ (fun x y : EReal => x * y) e ((logis_at _ (bR R) (tR R) f).trans (congrArg logi e)))

theorem ga_eq (H : Args m m' c) : (cast16 (logis (arows (uArr m' c))) :
    Cert.InprojSampleIdeal.S1024x1024.Idx → EReal) = G22 m c := by
  funext i
  obtain ⟨R, f, rfl⟩ := ix_eta i
  exact (cast16_at _ R f).trans ((logis_at _ _ _ f).trans (congrArg logi ((arows_at _ _ _ f).trans ((u_eq H _ _ _).trans (pv_eq R (v10_at m c f)).symm))))

theorem gb_eq (H : Args m m' c) : (cast16 (logis (brows (uArr m' c))) :
    Cert.InprojSampleIdeal.S1024x1024.Idx → EReal) = G23 m c := by
  funext i
  obtain ⟨R, f, rfl⟩ := ix_eta i
  exact (cast16_at _ R f).trans ((logis_at _ _ _ f).trans (congrArg logi ((brows_at _ _ _ f).trans ((u_eq H _ _ _).trans (pv_eq R (v11_at m c f)).symm))))

open Cert.InprojSampleIdeal Cert.InprojSampleIdeal.Gen in
/-- The host's slice after the call. -/
theorem v38_eq : (Pipeline.afterTail₀ cfgs (dats (F := Ideal) m) 0 (V0 m) [hostOps1] c main_v38 : S1024x8.Idx → EReal) = G38 m c := by
  have h19 : Pipeline.withArrays (cfgs 0).spec c (V0 m c) (fun w => (dats (F := Ideal) m 0 c).arrAt w (cfgs 0).N) (Proc.devRef .tc main_v37_4) = G19 m c :=
    (Pipeline.withArrays_arr (cfgs 0).spec (by exact (by decide : Function.Injective (Pipeline.arrRef spec0))) c (V0 m c) (fun w => (dats (F := Ideal) m 0 c).arrAt w (cfgs 0).N) 19).trans (final19 m c)
  have h : Pipeline.afterTail₀ cfgs (dats (F := Ideal) m) 0 (V0 m) [hostOps1] c main_v38 =
      extractStridedSlice S1024x8 ![0, 0] (Pipeline.withArrays (cfgs 0).spec c (V0 m c) (fun w => (dats (F := Ideal) m 0 c).arrAt w (cfgs 0).N) (Proc.devRef .tc main_v37_4)) slices_S1024x128_S1024x8_0_0 := by
    unfold Pipeline.afterTail₀
    rfl
  rw [h, h19]
  funext i
  obtain ⟨R, f, rfl⟩ := ix_eta i
  unfold G38
  pointwise

open Cert.InprojSampleIdeal Cert.InprojSampleIdeal.Gen in
theorem algebraic : Cert.algebraic_InprojSampleIdeal_MixerSampleIdeal := by
  intro m g m' g' _ hA
  refine ⟨fun c => G15 m c, fun c => G16 m c, fun c => G17 m c, fun c => G18 m c, fun c => G38 m c, fun c => G20 m c, fun c => G21 m c, fun c => G22 m c, fun c => G23 m c, ?_, ?_⟩
  · refine (θ_run _ _ _).mono (fun r h c => ?_) (run_main (F := Ideal) m g)
    exact ⟨((h c).1 15).trans (final15 m c), ((h c).1 16).trans (final16 m c), ((h c).1 17).trans (final17 m c), ((h c).1 18).trans (final18 m c),
      ((h c).2 main_v38 (Pipeline.mem_restRefs_of main_v38 (by decide) (by decide))).trans v38_eq,
      ((h c).1 20).trans (final20 m c), ((h c).1 21).trans (final21 m c), ((h c).1 22).trans (final22 m c), ((h c).1 23).trans (final23 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩
  · refine (θ_run _ _ _).mono (fun r h c => ?_) (Cert.MixerSampleIdeal.Value.run m' g')
    obtain ⟨h0, h1, h2, h3, h4, h5⟩ := hA c
    have H : Args m m' c := ⟨h0, h1, h2, h3, h4, h5⟩
    obtain ⟨r0, r1, r2, r3, r4, r5, r6, r7, r8, rest⟩ := h c
    exact ⟨r0.trans (q_eq H), r1.trans (k_eq H), r2.trans (v_eq H), r3.trans (za_eq H), r4.trans (lf_eq H), r5.trans (xl_eq H), r6.trans (zl_eq H),
      r7.trans (ga_eq H), r8.trans (gb_eq H), rest⟩

end Cert.Proof.In.Sample

end
-- ==== Proof.lean ====
/-
  The proof of `Cert.Claim`: the frames of the shifted prompt attention at the compiled formats and over the ideal
  instance, the reference's frame, and the values; and the same of the two in-projections, of the prompt and of the sample.
-/
module

public import proofs.«01_k».proof.Defs
public import proofs.«01_k».proof.Proof.P.Same
public import proofs.«01_k».proof.Proof.PI.Run
public import proofs.«01_k».proof.Proof.Gen.ReferenceIdeal.Run
public import proofs.«01_k».proof.Proof.Gen.Pre_finite
public import proofs.«01_k».proof.Proof.Val.Equation
public import proofs.«01_k».proof.Proof.In.PromptSame
public import proofs.«01_k».proof.Proof.In.PromptEquation
public import proofs.«01_k».proof.Proof.In.SampleSame
public import proofs.«01_k».proof.Proof.In.SampleEquation
public import Idealize.ShloMosaic.Adequacy
public import Idealize.ShloMosaic.Init

@[expose] public section

namespace Cert.Proof

open Idealize.ShloMosaic Idealize.SL.Sem

theorem claim : Cert.Claim := ⟨Cert.Kernel.Gen.facts, Cert.KernelIdeal.Gen.facts, Cert.ReferenceIdeal.Gen.facts,
  Cert.InprojPrompt.Gen.facts, Cert.InprojPromptIdeal.Gen.facts, Cert.MixerPromptIdeal.Gen.facts,
  Cert.InprojSample.Gen.facts, Cert.InprojSampleIdeal.Gen.facts, Cert.MixerSampleIdeal.Gen.facts, Cert.Pre_finite.Gen.facts,
  P.frame, fun m g _ => PI.frame m g, fun m g _ => PI.frame m g,
  fun m g _ => (θ_run _ _ _).mono (fun r h => ⟨fun c => (h c).2, sem_eq_zero_of_no_sems (by decide) r.2⟩) (Cert.ReferenceIdeal.Value.run m g),
  fun m g _ => (θ_run _ _ _).mono (fun r h => ⟨fun c => (h c).2, sem_eq_zero_of_no_sems (by decide) r.2⟩) (Cert.ReferenceIdeal.Value.run m g),
  In.PromptP.frame, fun m g _ => In.Prompt.frame m g,
  fun m g _ => (θ_run _ _ _).mono (fun r h => ⟨fun c => (h c).2.2.2.2.2.2.2.2, sem_eq_zero_of_no_sems (by decide) r.2⟩) (Cert.MixerPromptIdeal.Value.run m g),
  In.SampleP.frame, fun m g _ => In.Sample.frame m g,
  fun m g _ => (θ_run _ _ _).mono (fun r h => ⟨fun c => (h c).2.2.2.2.2.2.2.2.2, sem_eq_zero_of_no_sems (by decide) r.2⟩) (Cert.MixerSampleIdeal.Value.run m g),
  trivial, Val.algebraic, trivial, In.Prompt.algebraic, trivial, In.Sample.algebraic⟩

end Cert.Proof

end
